-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![2048, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x64 : Shape := ⟨2, ![512, 64]⟩
abbrev S2048x1 : Shape := ⟨2, ![2048, 1]⟩
abbrev S4x512x1024 : Shape := ⟨3, ![4, 512, 1024]⟩
abbrev S128x1024 : Shape := ⟨2, ![128, 1024]⟩
abbrev S16x128x1024 : Shape := ⟨3, ![16, 128, 1024]⟩
abbrev S16x64 : Shape := ⟨2, ![16, 64]⟩
abbrev S2048x64 : Shape := ⟨2, ![2048, 64]⟩
abbrev S128x2048 : Shape := ⟨2, ![128, 2048]⟩
abbrev S8x4 : Shape := ⟨2, ![8, 4]⟩
abbrev S7x4 : Shape := ⟨2, ![7, 4]⟩
abbrev S_ : Shape := ⟨0, ![]⟩
abbrev S1x64 : Shape := ⟨2, ![1, 64]⟩
abbrev S64 : Shape := ⟨1, ![64]⟩
abbrev S128x128 : Shape := ⟨2, ![128, 128]⟩
abbrev S16x16 : Shape := ⟨2, ![16, 16]⟩
abbrev S128x64 : Shape := ⟨2, ![128, 64]⟩
abbrev S2048x16 : Shape := ⟨2, ![2048, 16]⟩
abbrev S2048 : Shape := ⟨1, ![2048]⟩
abbrev S2048x128 : Shape := ⟨2, ![2048, 128]⟩
abbrev S128x512 : Shape := ⟨2, ![128, 512]⟩
abbrev S32x512 : Shape := ⟨2, ![32, 512]⟩
abbrev S1x512x1024 : Shape := ⟨3, ![1, 512, 1024]⟩
abbrev S512x1024 : Shape := ⟨2, ![512, 1024]⟩
abbrev S32x1024 : Shape := ⟨2, ![32, 1024]⟩
abbrev S1x32x1024 : Shape := ⟨3, ![1, 32, 1024]⟩
abbrev S128x1 : Shape := ⟨2, ![128, 1]⟩
abbrev S1x128x1024 : Shape := ⟨3, ![1, 128, 1024]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S2048x512, .bf16⟩
  | .hbm, ⟨1, _⟩ => ⟨S512x64, .bf16⟩
  | .hbm, ⟨2, _⟩ => ⟨S2048x1, .i32⟩
  | .hbm, ⟨3, _⟩ => ⟨S4x512x1024, .bf16⟩
  | .hbm, ⟨4, _⟩ => ⟨S128x1024, .f32⟩
  | .local _ .vmem, ⟨0, _⟩ => ⟨S2048x512, .bf16⟩
  | .local _ .vmem, ⟨1, _⟩ => ⟨S2048x1, .i32⟩
  | .local _ .vmem, ⟨2, _⟩ => ⟨S4x512x1024, .bf16⟩
  | .local _ .vmem, ⟨3, _⟩ => ⟨S128x1024, .f32⟩
  | .local _ .vmem, ⟨4, _⟩ => ⟨S16x128x1024, .bf16⟩
  | .local _ .vmem, ⟨5, _⟩ => ⟨S2048x1, .f32⟩
  | .local _ .vmem, ⟨6, _⟩ => ⟨S16x64, .f32⟩
  | .local _ .vmem, ⟨7, _⟩ => ⟨S2048x64, .f32⟩
  | .local _ .vmem, ⟨8, _⟩ => ⟨S128x2048, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 124 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | _ => false

abbrev sig : RefSig :=
  (ofTc nBuf bufTy 1 124 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v295 : Index := Scalar.indexCast v2
  let c0_99 : Index := 0#32
  let c0_100 : Index := 0#32
  ![v295.toNat, 0, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v304 : Index := Scalar.indexCast v2
  let c32 : Index := 32#32
  let c0_105 : Index := 0#32
  ![v304.toNat, 32, 0]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v313 : Index := Scalar.indexCast v2
  let c64 : Index := 64#32
  let c0_110 : Index := 0#32
  ![v313.toNat, 64, 0]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v322 : Index := Scalar.indexCast v2
  let c96 : Index := 96#32
  let c0_115 : Index := 0#32
  ![v322.toNat, 96, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_116 : BitVec 32 := 128#32
  let v326 : BitVec 32 := Scalar.muli v2 c128_i32_116
  let v327 : Index := Scalar.indexCast v326
  let c0_117 : Index := 0#32
  ![v327.toNat, 0]
def k0_off6 (d0 : Dev nD) : Fin 2 → Nat :=
  let c0_141 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_140 : BitVec 32 := 128#32
  let v394 : BitVec 32 := Scalar.muli v2 c128_i32_140
  let v395 : Index := Scalar.indexCast v394
  ![0, v395.toNat]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v397 : Index := Scalar.indexCast v2
  let c0_142 : Index := 0#32
  let c0_143 : Index := 0#32
  ![v397.toNat, 0, 0]
def k0_off8 (d0 : Dev nD) (c0_i32_145 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v402 : BitVec 32 := Scalar.subi v2 c0_i32_145
  let c16_i32_146 : BitVec 32 := 16#32
  let v403 : BitVec 32 := Scalar.addi v402 c16_i32_146
  let c16_i32_147 : BitVec 32 := 16#32
  let v404 : BitVec 32 := Scalar.remsi v403 c16_i32_147
  let c0_i32_154 : BitVec 32 := 0#32
  let c0_i32_155 : BitVec 32 := 0#32
  ![v404.toNat, 0, 0]
def k0_dev3 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_152 : BitVec 32 := 1#32
  let v405 : BitVec 32 := Scalar.muli v7 c1_i32_152
  let v406 : BitVec 32 := Scalar.addi c0_i32_153 v405
  v406.toNat
def k0_off9 (d0 : Dev nD) (c0_i32_158 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v415 : BitVec 32 := Scalar.addi v2 c0_i32_158
  let c16_i32_159 : BitVec 32 := 16#32
  let v416 : BitVec 32 := Scalar.remsi v415 c16_i32_159
  let c0_i32_166 : BitVec 32 := 0#32
  let c0_i32_167 : BitVec 32 := 0#32
  ![v416.toNat, 0, 0]
def k0_dev4 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_164 : BitVec 32 := 1#32
  let v417 : BitVec 32 := Scalar.muli v5 c1_i32_164
  let v418 : BitVec 32 := Scalar.addi c0_i32_165 v417
  v418.toNat
def k0_off10 (d0 : Dev nD) (c0_i32_170 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v427 : BitVec 32 := Scalar.subi v2 c0_i32_170
  let c16_i32_171 : BitVec 32 := 16#32
  let v428 : BitVec 32 := Scalar.addi v427 c16_i32_171
  let c16_i32_172 : BitVec 32 := 16#32
  let v429 : BitVec 32 := Scalar.remsi v428 c16_i32_172
  let c32_i32_179 : BitVec 32 := 32#32
  let c0_i32_180 : BitVec 32 := 0#32
  ![v429.toNat, 32, 0]
def k0_dev5 (d0 : Dev nD) : Nat :=
  let c0_i32_178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_177 : BitVec 32 := 1#32
  let v430 : BitVec 32 := Scalar.muli v7 c1_i32_177
  let v431 : BitVec 32 := Scalar.addi c0_i32_178 v430
  v431.toNat
def k0_off11 (d0 : Dev nD) (c0_i32_183 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v440 : BitVec 32 := Scalar.addi v2 c0_i32_183
  let c16_i32_184 : BitVec 32 := 16#32
  let v441 : BitVec 32 := Scalar.remsi v440 c16_i32_184
  let c32_i32_191 : BitVec 32 := 32#32
  let c0_i32_192 : BitVec 32 := 0#32
  ![v441.toNat, 32, 0]
def k0_dev6 (d0 : Dev nD) : Nat :=
  let c0_i32_190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_189 : BitVec 32 := 1#32
  let v442 : BitVec 32 := Scalar.muli v5 c1_i32_189
  let v443 : BitVec 32 := Scalar.addi c0_i32_190 v442
  v443.toNat
def k0_off12 (d0 : Dev nD) (c0_i32_195 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v452 : BitVec 32 := Scalar.subi v2 c0_i32_195
  let c16_i32_196 : BitVec 32 := 16#32
  let v453 : BitVec 32 := Scalar.addi v452 c16_i32_196
  let c16_i32_197 : BitVec 32 := 16#32
  let v454 : BitVec 32 := Scalar.remsi v453 c16_i32_197
  let c64_i32 : BitVec 32 := 64#32
  let c0_i32_204 : BitVec 32 := 0#32
  ![v454.toNat, 64, 0]
def k0_dev7 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_202 : BitVec 32 := 1#32
  let v455 : BitVec 32 := Scalar.muli v7 c1_i32_202
  let v456 : BitVec 32 := Scalar.addi c0_i32_203 v455
  v456.toNat
def k0_off13 (d0 : Dev nD) (c0_i32_207 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v465 : BitVec 32 := Scalar.addi v2 c0_i32_207
  let c16_i32_208 : BitVec 32 := 16#32
  let v466 : BitVec 32 := Scalar.remsi v465 c16_i32_208
  let c64_i32_215 : BitVec 32 := 64#32
  let c0_i32_216 : BitVec 32 := 0#32
  ![v466.toNat, 64, 0]
def k0_dev8 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_213 : BitVec 32 := 1#32
  let v467 : BitVec 32 := Scalar.muli v5 c1_i32_213
  let v468 : BitVec 32 := Scalar.addi c0_i32_214 v467
  v468.toNat
def k0_off14 (d0 : Dev nD) (c0_i32_219 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v477 : BitVec 32 := Scalar.subi v2 c0_i32_219
  let c16_i32_220 : BitVec 32 := 16#32
  let v478 : BitVec 32 := Scalar.addi v477 c16_i32_220
  let c16_i32_221 : BitVec 32 := 16#32
  let v479 : BitVec 32 := Scalar.remsi v478 c16_i32_221
  let c96_i32 : BitVec 32 := 96#32
  let c0_i32_227 : BitVec 32 := 0#32
  ![v479.toNat, 96, 0]
def k0_dev9 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_225 : BitVec 32 := 1#32
  let v480 : BitVec 32 := Scalar.muli v7 c1_i32_225
  let v481 : BitVec 32 := Scalar.addi c0_i32_226 v480
  v481.toNat
def k0_off15 (d0 : Dev nD) (c0_i32_230 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v490 : BitVec 32 := Scalar.addi v2 c0_i32_230
  let c16_i32_231 : BitVec 32 := 16#32
  let v491 : BitVec 32 := Scalar.remsi v490 c16_i32_231
  let c96_i32_238 : BitVec 32 := 96#32
  let c0_i32_239 : BitVec 32 := 0#32
  ![v491.toNat, 96, 0]
def k0_dev10 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_236 : BitVec 32 := 1#32
  let v492 : BitVec 32 := Scalar.muli v5 c1_i32_236
  let v493 : BitVec 32 := Scalar.addi c0_i32_237 v492
  v493.toNat
def k0_off16 (d0 : Dev nD) (c0_i32_242 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v502 : BitVec 32 := Scalar.subi v2 c0_i32_242
  let c1_i32_243 : BitVec 32 := 1#32
  let v503 : BitVec 32 := Scalar.subi v502 c1_i32_243
  let c16_i32_244 : BitVec 32 := 16#32
  let v504 : BitVec 32 := Scalar.addi v503 c16_i32_244
  let c16_i32_245 : BitVec 32 := 16#32
  let v505 : BitVec 32 := Scalar.remsi v504 c16_i32_245
  let c0_i32_252 : BitVec 32 := 0#32
  let c0_i32_253 : BitVec 32 := 0#32
  ![v505.toNat, 0, 0]
def k0_dev11 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_263 : BitVec 32 := 1#32
  let v517 : BitVec 32 := Scalar.muli v7 c1_i32_263
  let v518 : BitVec 32 := Scalar.addi c0_i32_264 v517
  v518.toNat
def k0_off17 (d0 : Dev nD) (c0_i32_269 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v527 : BitVec 32 := Scalar.addi v2 c0_i32_269
  let c1_i32_270 : BitVec 32 := 1#32
  let v528 : BitVec 32 := Scalar.addi v527 c1_i32_270
  let c16_i32_271 : BitVec 32 := 16#32
  let v529 : BitVec 32 := Scalar.remsi v528 c16_i32_271
  let c0_i32_278 : BitVec 32 := 0#32
  let c0_i32_279 : BitVec 32 := 0#32
  ![v529.toNat, 0, 0]
def k0_dev12 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_288 : BitVec 32 := 1#32
  let v540 : BitVec 32 := Scalar.muli v5 c1_i32_288
  let v541 : BitVec 32 := Scalar.addi c0_i32_289 v540
  v541.toNat
def k0_off18 (d0 : Dev nD) (c0_i32_294 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v550 : BitVec 32 := Scalar.subi v2 c0_i32_294
  let c1_i32_295 : BitVec 32 := 1#32
  let v551 : BitVec 32 := Scalar.subi v550 c1_i32_295
  let c16_i32_296 : BitVec 32 := 16#32
  let v552 : BitVec 32 := Scalar.addi v551 c16_i32_296
  let c16_i32_297 : BitVec 32 := 16#32
  let v553 : BitVec 32 := Scalar.remsi v552 c16_i32_297
  let c32_i32_304 : BitVec 32 := 32#32
  let c0_i32_305 : BitVec 32 := 0#32
  ![v553.toNat, 32, 0]
def k0_dev13 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_315 : BitVec 32 := 1#32
  let v565 : BitVec 32 := Scalar.muli v7 c1_i32_315
  let v566 : BitVec 32 := Scalar.addi c0_i32_316 v565
  v566.toNat
def k0_off19 (d0 : Dev nD) (c0_i32_321 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v575 : BitVec 32 := Scalar.addi v2 c0_i32_321
  let c1_i32_322 : BitVec 32 := 1#32
  let v576 : BitVec 32 := Scalar.addi v575 c1_i32_322
  let c16_i32_323 : BitVec 32 := 16#32
  let v577 : BitVec 32 := Scalar.remsi v576 c16_i32_323
  let c32_i32_330 : BitVec 32 := 32#32
  let c0_i32_331 : BitVec 32 := 0#32
  ![v577.toNat, 32, 0]
def k0_dev14 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_340 : BitVec 32 := 1#32
  let v588 : BitVec 32 := Scalar.muli v5 c1_i32_340
  let v589 : BitVec 32 := Scalar.addi c0_i32_341 v588
  v589.toNat
def k0_off20 (d0 : Dev nD) (c0_i32_346 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v598 : BitVec 32 := Scalar.subi v2 c0_i32_346
  let c1_i32_347 : BitVec 32 := 1#32
  let v599 : BitVec 32 := Scalar.subi v598 c1_i32_347
  let c16_i32_348 : BitVec 32 := 16#32
  let v600 : BitVec 32 := Scalar.addi v599 c16_i32_348
  let c16_i32_349 : BitVec 32 := 16#32
  let v601 : BitVec 32 := Scalar.remsi v600 c16_i32_349
  let c64_i32_356 : BitVec 32 := 64#32
  let c0_i32_357 : BitVec 32 := 0#32
  ![v601.toNat, 64, 0]
def k0_dev15 (d0 : Dev nD) : Nat :=
  let c0_i32_368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_367 : BitVec 32 := 1#32
  let v613 : BitVec 32 := Scalar.muli v7 c1_i32_367
  let v614 : BitVec 32 := Scalar.addi c0_i32_368 v613
  v614.toNat
def k0_off21 (d0 : Dev nD) (c0_i32_373 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v623 : BitVec 32 := Scalar.addi v2 c0_i32_373
  let c1_i32_374 : BitVec 32 := 1#32
  let v624 : BitVec 32 := Scalar.addi v623 c1_i32_374
  let c16_i32_375 : BitVec 32 := 16#32
  let v625 : BitVec 32 := Scalar.remsi v624 c16_i32_375
  let c64_i32_382 : BitVec 32 := 64#32
  let c0_i32_383 : BitVec 32 := 0#32
  ![v625.toNat, 64, 0]
def k0_dev16 (d0 : Dev nD) : Nat :=
  let c0_i32_393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_392 : BitVec 32 := 1#32
  let v636 : BitVec 32 := Scalar.muli v5 c1_i32_392
  let v637 : BitVec 32 := Scalar.addi c0_i32_393 v636
  v637.toNat
def k0_off22 (d0 : Dev nD) (c0_i32_398 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v646 : BitVec 32 := Scalar.subi v2 c0_i32_398
  let c1_i32_399 : BitVec 32 := 1#32
  let v647 : BitVec 32 := Scalar.subi v646 c1_i32_399
  let c16_i32_400 : BitVec 32 := 16#32
  let v648 : BitVec 32 := Scalar.addi v647 c16_i32_400
  let c16_i32_401 : BitVec 32 := 16#32
  let v649 : BitVec 32 := Scalar.remsi v648 c16_i32_401
  let c96_i32_408 : BitVec 32 := 96#32
  let c0_i32_409 : BitVec 32 := 0#32
  ![v649.toNat, 96, 0]
def k0_dev17 (d0 : Dev nD) : Nat :=
  let c0_i32_420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_419 : BitVec 32 := 1#32
  let v661 : BitVec 32 := Scalar.muli v7 c1_i32_419
  let v662 : BitVec 32 := Scalar.addi c0_i32_420 v661
  v662.toNat
def k0_off23 (d0 : Dev nD) (c0_i32_425 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v671 : BitVec 32 := Scalar.addi v2 c0_i32_425
  let c1_i32_426 : BitVec 32 := 1#32
  let v672 : BitVec 32 := Scalar.addi v671 c1_i32_426
  let c16_i32_427 : BitVec 32 := 16#32
  let v673 : BitVec 32 := Scalar.remsi v672 c16_i32_427
  let c96_i32_434 : BitVec 32 := 96#32
  let c0_i32_435 : BitVec 32 := 0#32
  ![v673.toNat, 96, 0]
def k0_dev18 (d0 : Dev nD) : Nat :=
  let c0_i32_445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_444 : BitVec 32 := 1#32
  let v684 : BitVec 32 := Scalar.muli v5 c1_i32_444
  let v685 : BitVec 32 := Scalar.addi c0_i32_445 v684
  v685.toNat
def k0_off24 (d0 : Dev nD) (c0_i32_450 : BitVec 32) : Fin 2 → Nat :=
  let c0_455 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v694 : BitVec 32 := Scalar.subi v2 c0_i32_450
  let c1_i32_451 : BitVec 32 := 1#32
  let v695 : BitVec 32 := Scalar.subi v694 c1_i32_451
  let c16_i32_452 : BitVec 32 := 16#32
  let v696 : BitVec 32 := Scalar.addi v695 c16_i32_452
  let c16_i32_453 : BitVec 32 := 16#32
  let v697 : BitVec 32 := Scalar.remsi v696 c16_i32_453
  let c128_i32_454 : BitVec 32 := 128#32
  let v698 : BitVec 32 := Scalar.muli v697 c128_i32_454
  let v699 : Index := Scalar.indexCast v698
  ![0, v699.toNat]
def k0_off25 (d0 : Dev nD) (c0_i32_450 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v694 : BitVec 32 := Scalar.subi v2 c0_i32_450
  let c1_i32_451 : BitVec 32 := 1#32
  let v695 : BitVec 32 := Scalar.subi v694 c1_i32_451
  let c16_i32_452 : BitVec 32 := 16#32
  let v696 : BitVec 32 := Scalar.addi v695 c16_i32_452
  let c16_i32_453 : BitVec 32 := 16#32
  let v697 : BitVec 32 := Scalar.remsi v696 c16_i32_453
  let v701 : Index := Scalar.indexCast v697
  let c0_456 : Index := 0#32
  let c0_457 : Index := 0#32
  ![v701.toNat, 0, 0]
def k0_off26 (d0 : Dev nD) (c0_i32_459 : BitVec 32) : Fin 2 → Nat :=
  let c0_463 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v706 : BitVec 32 := Scalar.addi v2 c0_i32_459
  let c1_i32_460 : BitVec 32 := 1#32
  let v707 : BitVec 32 := Scalar.addi v706 c1_i32_460
  let c16_i32_461 : BitVec 32 := 16#32
  let v708 : BitVec 32 := Scalar.remsi v707 c16_i32_461
  let c128_i32_462 : BitVec 32 := 128#32
  let v709 : BitVec 32 := Scalar.muli v708 c128_i32_462
  let v710 : Index := Scalar.indexCast v709
  ![0, v710.toNat]
def k0_off27 (d0 : Dev nD) (c0_i32_459 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v706 : BitVec 32 := Scalar.addi v2 c0_i32_459
  let c1_i32_460 : BitVec 32 := 1#32
  let v707 : BitVec 32 := Scalar.addi v706 c1_i32_460
  let c16_i32_461 : BitVec 32 := 16#32
  let v708 : BitVec 32 := Scalar.remsi v707 c16_i32_461
  let v712 : Index := Scalar.indexCast v708
  let c0_464 : Index := 0#32
  let c0_465 : Index := 0#32
  ![v712.toNat, 0, 0]
def k0_dev19 (d0 : Dev nD) : Nat :=
  let c0_i32_489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_488 : BitVec 32 := 1#32
  let v732 : BitVec 32 := Scalar.muli v7 c1_i32_488
  let v733 : BitVec 32 := Scalar.addi c0_i32_489 v732
  v733.toNat
def k0_dev20 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_513 : BitVec 32 := 1#32
  let v755 : BitVec 32 := Scalar.muli v5 c1_i32_513
  let v756 : BitVec 32 := Scalar.addi c0_i32_514 v755
  v756.toNat
def k0_dev21 (d0 : Dev nD) : Nat :=
  let c0_i32_541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_540 : BitVec 32 := 1#32
  let v780 : BitVec 32 := Scalar.muli v7 c1_i32_540
  let v781 : BitVec 32 := Scalar.addi c0_i32_541 v780
  v781.toNat
def k0_dev22 (d0 : Dev nD) : Nat :=
  let c0_i32_566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_565 : BitVec 32 := 1#32
  let v803 : BitVec 32 := Scalar.muli v5 c1_i32_565
  let v804 : BitVec 32 := Scalar.addi c0_i32_566 v803
  v804.toNat
def k0_dev23 (d0 : Dev nD) : Nat :=
  let c0_i32_593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_592 : BitVec 32 := 1#32
  let v828 : BitVec 32 := Scalar.muli v7 c1_i32_592
  let v829 : BitVec 32 := Scalar.addi c0_i32_593 v828
  v829.toNat
def k0_dev24 (d0 : Dev nD) : Nat :=
  let c0_i32_618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_617 : BitVec 32 := 1#32
  let v851 : BitVec 32 := Scalar.muli v5 c1_i32_617
  let v852 : BitVec 32 := Scalar.addi c0_i32_618 v851
  v852.toNat
def k0_dev25 (d0 : Dev nD) : Nat :=
  let c0_i32_645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_644 : BitVec 32 := 1#32
  let v876 : BitVec 32 := Scalar.muli v7 c1_i32_644
  let v877 : BitVec 32 := Scalar.addi c0_i32_645 v876
  v877.toNat
def k0_dev26 (d0 : Dev nD) : Nat :=
  let c0_i32_670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_669 : BitVec 32 := 1#32
  let v899 : BitVec 32 := Scalar.muli v5 c1_i32_669
  let v900 : BitVec 32 := Scalar.addi c0_i32_670 v899
  v900.toNat
def k0_dev27 (d0 : Dev nD) : Nat :=
  let c0_i32_714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_713 : BitVec 32 := 1#32
  let v947 : BitVec 32 := Scalar.muli v7 c1_i32_713
  let v948 : BitVec 32 := Scalar.addi c0_i32_714 v947
  v948.toNat
def k0_dev28 (d0 : Dev nD) : Nat :=
  let c0_i32_739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_738 : BitVec 32 := 1#32
  let v970 : BitVec 32 := Scalar.muli v5 c1_i32_738
  let v971 : BitVec 32 := Scalar.addi c0_i32_739 v970
  v971.toNat
def k0_dev29 (d0 : Dev nD) : Nat :=
  let c0_i32_766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_765 : BitVec 32 := 1#32
  let v995 : BitVec 32 := Scalar.muli v7 c1_i32_765
  let v996 : BitVec 32 := Scalar.addi c0_i32_766 v995
  v996.toNat
def k0_dev30 (d0 : Dev nD) : Nat :=
  let c0_i32_791 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_790 : BitVec 32 := 1#32
  let v1018 : BitVec 32 := Scalar.muli v5 c1_i32_790
  let v1019 : BitVec 32 := Scalar.addi c0_i32_791 v1018
  v1019.toNat
def k0_dev31 (d0 : Dev nD) : Nat :=
  let c0_i32_818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_817 : BitVec 32 := 1#32
  let v1043 : BitVec 32 := Scalar.muli v7 c1_i32_817
  let v1044 : BitVec 32 := Scalar.addi c0_i32_818 v1043
  v1044.toNat
def k0_dev32 (d0 : Dev nD) : Nat :=
  let c0_i32_843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_842 : BitVec 32 := 1#32
  let v1066 : BitVec 32 := Scalar.muli v5 c1_i32_842
  let v1067 : BitVec 32 := Scalar.addi c0_i32_843 v1066
  v1067.toNat
def k0_dev33 (d0 : Dev nD) : Nat :=
  let c0_i32_870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_869 : BitVec 32 := 1#32
  let v1091 : BitVec 32 := Scalar.muli v7 c1_i32_869
  let v1092 : BitVec 32 := Scalar.addi c0_i32_870 v1091
  v1092.toNat
def k0_dev34 (d0 : Dev nD) : Nat :=
  let c0_i32_895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_894 : BitVec 32 := 1#32
  let v1114 : BitVec 32 := Scalar.muli v5 c1_i32_894
  let v1115 : BitVec 32 := Scalar.addi c0_i32_895 v1114
  v1115.toNat
def k0_dev35 (d0 : Dev nD) : Nat :=
  let c0_i32_939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_938 : BitVec 32 := 1#32
  let v1162 : BitVec 32 := Scalar.muli v7 c1_i32_938
  let v1163 : BitVec 32 := Scalar.addi c0_i32_939 v1162
  v1163.toNat
def k0_dev36 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_963 : BitVec 32 := 1#32
  let v1185 : BitVec 32 := Scalar.muli v5 c1_i32_963
  let v1186 : BitVec 32 := Scalar.addi c0_i32_964 v1185
  v1186.toNat
def k0_dev37 (d0 : Dev nD) : Nat :=
  let c0_i32_991 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_990 : BitVec 32 := 1#32
  let v1210 : BitVec 32 := Scalar.muli v7 c1_i32_990
  let v1211 : BitVec 32 := Scalar.addi c0_i32_991 v1210
  v1211.toNat
def k0_dev38 (d0 : Dev nD) : Nat :=
  let c0_i32_1016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1015 : BitVec 32 := 1#32
  let v1233 : BitVec 32 := Scalar.muli v5 c1_i32_1015
  let v1234 : BitVec 32 := Scalar.addi c0_i32_1016 v1233
  v1234.toNat
def k0_dev39 (d0 : Dev nD) : Nat :=
  let c0_i32_1043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1042 : BitVec 32 := 1#32
  let v1258 : BitVec 32 := Scalar.muli v7 c1_i32_1042
  let v1259 : BitVec 32 := Scalar.addi c0_i32_1043 v1258
  v1259.toNat
def k0_dev40 (d0 : Dev nD) : Nat :=
  let c0_i32_1068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1067 : BitVec 32 := 1#32
  let v1281 : BitVec 32 := Scalar.muli v5 c1_i32_1067
  let v1282 : BitVec 32 := Scalar.addi c0_i32_1068 v1281
  v1282.toNat
def k0_dev41 (d0 : Dev nD) : Nat :=
  let c0_i32_1095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1094 : BitVec 32 := 1#32
  let v1306 : BitVec 32 := Scalar.muli v7 c1_i32_1094
  let v1307 : BitVec 32 := Scalar.addi c0_i32_1095 v1306
  v1307.toNat
def k0_dev42 (d0 : Dev nD) : Nat :=
  let c0_i32_1120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1119 : BitVec 32 := 1#32
  let v1329 : BitVec 32 := Scalar.muli v5 c1_i32_1119
  let v1330 : BitVec 32 := Scalar.addi c0_i32_1120 v1329
  v1330.toNat
def k0_dev43 (d0 : Dev nD) : Nat :=
  let c0_i32_1163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1162 : BitVec 32 := 1#32
  let v1377 : BitVec 32 := Scalar.muli v7 c1_i32_1162
  let v1378 : BitVec 32 := Scalar.addi c0_i32_1163 v1377
  v1378.toNat
def k0_dev44 (d0 : Dev nD) : Nat :=
  let c0_i32_1188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1187 : BitVec 32 := 1#32
  let v1400 : BitVec 32 := Scalar.muli v5 c1_i32_1187
  let v1401 : BitVec 32 := Scalar.addi c0_i32_1188 v1400
  v1401.toNat
def k0_dev45 (d0 : Dev nD) : Nat :=
  let c0_i32_1215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1214 : BitVec 32 := 1#32
  let v1425 : BitVec 32 := Scalar.muli v7 c1_i32_1214
  let v1426 : BitVec 32 := Scalar.addi c0_i32_1215 v1425
  v1426.toNat
def k0_dev46 (d0 : Dev nD) : Nat :=
  let c0_i32_1240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1239 : BitVec 32 := 1#32
  let v1448 : BitVec 32 := Scalar.muli v5 c1_i32_1239
  let v1449 : BitVec 32 := Scalar.addi c0_i32_1240 v1448
  v1449.toNat
def k0_dev47 (d0 : Dev nD) : Nat :=
  let c0_i32_1267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1266 : BitVec 32 := 1#32
  let v1473 : BitVec 32 := Scalar.muli v7 c1_i32_1266
  let v1474 : BitVec 32 := Scalar.addi c0_i32_1267 v1473
  v1474.toNat
def k0_dev48 (d0 : Dev nD) : Nat :=
  let c0_i32_1292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1291 : BitVec 32 := 1#32
  let v1496 : BitVec 32 := Scalar.muli v5 c1_i32_1291
  let v1497 : BitVec 32 := Scalar.addi c0_i32_1292 v1496
  v1497.toNat
def k0_dev49 (d0 : Dev nD) : Nat :=
  let c0_i32_1319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1318 : BitVec 32 := 1#32
  let v1521 : BitVec 32 := Scalar.muli v7 c1_i32_1318
  let v1522 : BitVec 32 := Scalar.addi c0_i32_1319 v1521
  v1522.toNat
def k0_dev50 (d0 : Dev nD) : Nat :=
  let c0_i32_1344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1343 : BitVec 32 := 1#32
  let v1544 : BitVec 32 := Scalar.muli v5 c1_i32_1343
  let v1545 : BitVec 32 := Scalar.addi c0_i32_1344 v1544
  v1545.toNat
def k0_dev51 (d0 : Dev nD) : Nat :=
  let c0_i32_1387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1386 : BitVec 32 := 1#32
  let v1592 : BitVec 32 := Scalar.muli v7 c1_i32_1386
  let v1593 : BitVec 32 := Scalar.addi c0_i32_1387 v1592
  v1593.toNat
def k0_dev52 (d0 : Dev nD) : Nat :=
  let c0_i32_1412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1411 : BitVec 32 := 1#32
  let v1615 : BitVec 32 := Scalar.muli v5 c1_i32_1411
  let v1616 : BitVec 32 := Scalar.addi c0_i32_1412 v1615
  v1616.toNat
def k0_dev53 (d0 : Dev nD) : Nat :=
  let c0_i32_1439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1438 : BitVec 32 := 1#32
  let v1640 : BitVec 32 := Scalar.muli v7 c1_i32_1438
  let v1641 : BitVec 32 := Scalar.addi c0_i32_1439 v1640
  v1641.toNat
def k0_dev54 (d0 : Dev nD) : Nat :=
  let c0_i32_1464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1463 : BitVec 32 := 1#32
  let v1663 : BitVec 32 := Scalar.muli v5 c1_i32_1463
  let v1664 : BitVec 32 := Scalar.addi c0_i32_1464 v1663
  v1664.toNat
def k0_dev55 (d0 : Dev nD) : Nat :=
  let c0_i32_1491 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1490 : BitVec 32 := 1#32
  let v1688 : BitVec 32 := Scalar.muli v7 c1_i32_1490
  let v1689 : BitVec 32 := Scalar.addi c0_i32_1491 v1688
  v1689.toNat
def k0_dev56 (d0 : Dev nD) : Nat :=
  let c0_i32_1516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1515 : BitVec 32 := 1#32
  let v1711 : BitVec 32 := Scalar.muli v5 c1_i32_1515
  let v1712 : BitVec 32 := Scalar.addi c0_i32_1516 v1711
  v1712.toNat
def k0_dev57 (d0 : Dev nD) : Nat :=
  let c0_i32_1543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1542 : BitVec 32 := 1#32
  let v1736 : BitVec 32 := Scalar.muli v7 c1_i32_1542
  let v1737 : BitVec 32 := Scalar.addi c0_i32_1543 v1736
  v1737.toNat
def k0_dev58 (d0 : Dev nD) : Nat :=
  let c0_i32_1568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1567 : BitVec 32 := 1#32
  let v1759 : BitVec 32 := Scalar.muli v5 c1_i32_1567
  let v1760 : BitVec 32 := Scalar.addi c0_i32_1568 v1759
  v1760.toNat
def k0_dev59 (d0 : Dev nD) : Nat :=
  let c0_i32_1611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1610 : BitVec 32 := 1#32
  let v1807 : BitVec 32 := Scalar.muli v7 c1_i32_1610
  let v1808 : BitVec 32 := Scalar.addi c0_i32_1611 v1807
  v1808.toNat
def k0_dev60 (d0 : Dev nD) : Nat :=
  let c0_i32_1651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1650 : BitVec 32 := 1#32
  let v1843 : BitVec 32 := Scalar.muli v7 c1_i32_1650
  let v1844 : BitVec 32 := Scalar.addi c0_i32_1651 v1843
  v1844.toNat
def k0_dev61 (d0 : Dev nD) : Nat :=
  let c0_i32_1691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1690 : BitVec 32 := 1#32
  let v1879 : BitVec 32 := Scalar.muli v7 c1_i32_1690
  let v1880 : BitVec 32 := Scalar.addi c0_i32_1691 v1879
  v1880.toNat
def k0_dev62 (d0 : Dev nD) : Nat :=
  let c0_i32_1731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1730 : BitVec 32 := 1#32
  let v1915 : BitVec 32 := Scalar.muli v7 c1_i32_1730
  let v1916 : BitVec 32 := Scalar.addi c0_i32_1731 v1915
  v1916.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S2048 : Shape := ⟨1, ![2048]⟩
abbrev S64 : Shape := ⟨1, ![64]⟩
abbrev S1x64 : Shape := ⟨2, ![1, 64]⟩
abbrev S2048x64 : Shape := ⟨2, ![2048, 64]⟩
abbrev S_ : Shape := ⟨0, ![]⟩
abbrev S2048x64x1024 : Shape := ⟨3, ![2048, 64, 1024]⟩
abbrev S2048x64x1 : Shape := ⟨3, ![2048, 64, 1]⟩
abbrev S2048x1024 : Shape := ⟨2, ![2048, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x64, .bf16⟩
  | .hbm, ⟨2, _⟩ => ⟨S2048x1, .i32⟩
  | .hbm, ⟨3, _⟩ => ⟨S64x512x1024, .bf16⟩
  | .hbm, ⟨4, _⟩ => ⟨S2048, .i32⟩
  | .hbm, ⟨5, _⟩ => ⟨S2048x1, .i32⟩
  | .hbm, ⟨6, _⟩ => ⟨S64, .i32⟩
  | .hbm, ⟨7, _⟩ => ⟨S1x64, .i32⟩
  | .hbm, ⟨8, _⟩ => ⟨S2048x64, .i32⟩
  | .hbm, ⟨9, _⟩ => ⟨S2048x64, .i32⟩
  | .hbm, ⟨10, _⟩ => ⟨S2048x64, .i1⟩
  | .hbm, ⟨11, _⟩ => ⟨S2048x64, .i32⟩
  | .hbm, ⟨12, _⟩ => ⟨S_, .i32⟩
  | .hbm, ⟨13, _⟩ => ⟨S_, .i32⟩
  | .hbm, ⟨14, _⟩ => ⟨S2048x64, .i32⟩
  | .hbm, ⟨15, _⟩ => ⟨S_, .i32⟩
  | .hbm, ⟨16, _⟩ => ⟨S2048x64, .i32⟩
  | .hbm, ⟨17, _⟩ => ⟨S2048x64, .i1⟩
  | .hbm, ⟨18, _⟩ => ⟨S_, .i32⟩
  | .hbm, ⟨19, _⟩ => ⟨S2048x64, .i32⟩
  | .hbm, ⟨20, _⟩ => ⟨S2048x64, .i1⟩
  | .hbm, ⟨21, _⟩ => ⟨S2048x64, .i1⟩
  | .hbm, ⟨22, _⟩ => ⟨S2048x512, .f32⟩
  | .hbm, ⟨23, _⟩ => ⟨S64x512x1024, .f32⟩
  | .hbm, ⟨24, _⟩ => ⟨S2048x64x1024, .f32⟩
  | .hbm, ⟨25, _⟩ => ⟨S2048x64x1, .i1⟩
  | .hbm, ⟨26, _⟩ => ⟨S_, .f32⟩
  | .hbm, ⟨27, _⟩ => ⟨S_, .f32⟩
  | .hbm, ⟨28, _⟩ => ⟨S2048x64x1024, .i1⟩
  | .hbm, ⟨29, _⟩ => ⟨S2048x64x1024, .f32⟩
  | .hbm, ⟨30, _⟩ => ⟨S2048x64x1024, .f32⟩
  | .hbm, ⟨31, _⟩ => ⟨S_, .f32⟩
  | .hbm, ⟨32, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== Proof.KernelIdeal.Protocol.lean ====
/-
# `Protocol`: how the sixteen devices pass their blocks round the ring

Every device `c` holds a buffer of sixteen slots of 128 rows; slot `o` is to hold the rows computed on device `o`. A slot
travels as four sub-blocks of 32 rows. One index `j < 60` numbers a device's transfers, in the order the kernel issues
them; the same numbers serve its arrivals (in the order it awaits them) and its send completions. Even `j < 56` and every
`j ≥ 56` go clockwise (to `nxt c`), odd `j < 56` counter-clockwise (to `prv c`).

Cells: the barrier semaphore; per `j` the send semaphore of transfer `j` and the receive semaphore of arrival `j`. Each
cell has one round. The barrier's has two duties of one unit: the right neighbour's hands over the slots of that
neighbour which the clockwise transfers fill, the left neighbour's those the counter-clockwise ones fill. A receive
cell's duty hands over the landed sub-block, a send cell's duty the lent share of the source.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit
public import Idealize.ShloMosaic.Lib.Tactic
public import Idealize.SL.BI.BigOpNat

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds library's ghost state of the ring, duties named by `Bool`; -/
abbrev UB : Type := URounds (GSem nD τ sig) Bool
/-- beside the pipeline library's own. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

set_option backward.proofsInPublic true in
/-- The right neighbour. -/
def nxt (c : Dev nD) : Dev nD := ⟨(c.val + 1) % 16, Nat.mod_lt _ (by decide)⟩
set_option backward.proofsInPublic true in
/-- The left neighbour. -/
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide
theorem dev_lt (c : Dev nD) : c.val < 16 := c.isLt

/-- The hop of transfer `j`; -/
def hop (j : ℕ) : ℕ := if j < 56 then j / 8 else 7
/-- its sub-block; -/
def sub (j : ℕ) : ℕ := if j < 56 then (j % 8) / 2 else (j - 56) % 4
/-- whether it goes clockwise; -/
def cw (j : ℕ) : Bool := decide (56 ≤ j ∨ j % 2 = 0)
/-- the device it goes to; -/
def tg (c : Dev nD) (j : ℕ) : Dev nD := if cw j then nxt c else prv c
/-- the device whose arrival `j` it is that comes to `c`; -/
def fr (c : Dev nD) (j : ℕ) : Dev nD := if cw j then prv c else nxt c
/-- the slot device `c` sends in transfer `j`; -/
def so (c : Dev nD) (j : ℕ) : ℕ := if cw j then (c.val + 16 - hop j) % 16 else (c.val + hop j) % 16
/-- the slot arrival `j` fills on device `c`; -/
def ro (c : Dev nD) (j : ℕ) : ℕ := if cw j then (c.val + 15 - hop j) % 16 else (c.val + hop j + 1) % 16

theorem hop_lt (j : ℕ) : hop j < 8 := by unfold hop; split <;> omega
theorem sub_lt (j : ℕ) : sub j < 4 := by unfold sub; split <;> omega
theorem tg_fr (c : Dev nD) (j : ℕ) : tg (fr c j) j = c := by
  unfold tg fr; cases cw j <;> simp [prv_nxt, nxt_prv]
theorem fr_tg (c : Dev nD) (j : ℕ) : fr (tg c j) j = c := by
  unfold tg fr; cases cw j <;> simp [prv_nxt, nxt_prv]
/-- What a transfer sends is what the arrival fills. -/
theorem ro_tg (c : Dev nD) (j : ℕ) : ro (tg c j) j = so c j := by
  have h := hop_lt j; have hc := dev_lt c
  unfold ro so tg
  cases cw j
  · simp only [Bool.false_eq_true, if_false, prv]; omega
  · simp only [if_true, nxt]; omega

/-- The share of the source that transfer `j` lends: the first hop sends one slot both ways, one half each; a later hop
    forwards an arrival, keeping its left half. -/
def lq (j : ℕ) : PosShare TreeShare := if j < 8 ∧ cw j then fullShare.left else fullShare.right
/-- Whether arrival `j` is forwarded; -/
def fwd (j : ℕ) : Bool := decide (j < 48 ∨ (j < 56 ∧ j % 2 = 0))
/-- the share of it that stays. -/
def kq (j : ℕ) : PosShare TreeShare := if fwd j then fullShare.left else fullShare

/-! ## The memrefs and cells -/

/-- The buffer of slots. -/
abbrev cM : Memref sig .tc .vmem S16x128x1024 .bf16 := Memref.whole cc0_scratch0

/-- The runtime's barrier semaphore (unscoped). -/
abbrev barS : Sem sig := (SemArray.scalar (sig.barrier 0 rfl) : Sems sig S_).sem

set_option backward.proofsInPublic true in
/-- The kernel's own semaphores: numbers 4 to 123. -/
def osem (k : Fin 120) : SemLoc sig := .dma (⟨4 + k.val, by have := k.isLt; show 4 + k.val < 124; omega⟩ : Fin 124)
set_option backward.proofsInPublic true in
/-- The barrier semaphore, then the kernel's own. -/
def csem (k : Fin 121) : SemLoc sig := if h : k.val = 0 then .reg barS else osem ⟨k.val - 1, by have := k.isLt; omega⟩
abbrev kcell (ck : Dev nD × Fin 121) : GSem nD τ sig := ((ck.1 : Thread nD τ), csem ck.2)

set_option backward.proofsInPublic true in
/-- The send semaphore of transfer `j`, by its place among the cells; -/
def sk (j : ℕ) : Fin 121 := ⟨(if cw j then 1 + 4 * hop j + sub j else 65 + 4 * hop j + sub j) % 121, Nat.mod_lt _ (by decide)⟩
set_option backward.proofsInPublic true in
/-- the receive semaphore of arrival `j`. -/
def rk (j : ℕ) : Fin 121 := ⟨(if cw j then 33 + 4 * hop j + sub j else 93 + 4 * hop j + sub j) % 121, Nat.mod_lt _ (by decide)⟩

abbrev ssem (j : ℕ) : SemLoc sig := csem (sk j)
abbrev rsem (j : ℕ) : SemLoc sig := csem (rk j)
abbrev barCell (c : Dev nD) : GSem nD τ sig := ((c : Thread nD τ), .reg barS)
abbrev scell (c : Dev nD) (j : ℕ) : GSem nD τ sig := ((c : Thread nD τ), ssem j)
abbrev rcell (c : Dev nD) (j : ℕ) : GSem nD τ sig := ((c : Thread nD τ), rsem j)

/-- What a semaphore is to the ring. -/
inductive Cls where
  | bar | snd (j : ℕ) | rcv (j : ℕ) | other
  deriving DecidableEq

/-- Transfer number of a clockwise, -/
def jcw (k : ℕ) : ℕ := if k < 28 then 8 * (k / 4) + 2 * (k % 4) else 56 + (k - 28)
/-- of a counter-clockwise semaphore. -/
def jccw (k : ℕ) : ℕ := 8 * (k / 4) + 2 * (k % 4) + 1
/-- The class of DMA semaphore number `n`. -/
def clsN (n : ℕ) : Cls :=
  if n < 4 then .other else if n < 36 then .snd (jcw (n - 4)) else if n < 68 then .rcv (jcw (n - 36))
  else if n < 96 then .snd (jccw (n - 68)) else .rcv (jccw (n - 96))
/-- The class of a semaphore. -/
def cls : SemLoc sig → Cls
  | .reg s => if s = barS then .bar else .other
  | .dma q => clsN (show Fin 124 from q).val

theorem cls_bar : cls (.reg barS) = .bar := by unfold cls; exact if_pos rfl
theorem cls_osem (k : Fin 120) : cls (osem k) = clsN (4 + k.val) := rfl
theorem csem_succ (k : Fin 121) (h : k.val ≠ 0) : cls (csem k) = clsN (3 + k.val) := by
  unfold csem; rw [dif_neg h, cls_osem]; congr 1; show 4 + (k.val - 1) = _; omega
theorem sk_val (j : ℕ) (hj : j < 60) : (sk j).val = if cw j then 1 + 4 * hop j + sub j else 65 + 4 * hop j + sub j := by
  have := hop_lt j; have := sub_lt j
  show _ % 121 = _
  split <;> omega
theorem rk_val (j : ℕ) (hj : j < 60) : (rk j).val = if cw j then 33 + 4 * hop j + sub j else 93 + 4 * hop j + sub j := by
  have := sub_lt j; have := hop_lt j
  show _ % 121 = _
  by_cases h : cw j
  · rw [if_pos h]; omega
  · rw [if_neg h]
    have h56 : j < 56 := by by_contra hh; exact h (by unfold cw; simp; omega)
    have : hop j < 7 := by unfold hop; rw [if_pos h56]; omega
    omega

theorem cls_ssem (j : ℕ) (hj : j < 60) : cls (ssem j) = .snd j := by
  have hv := sk_val j hj
  have hne : (sk j).val ≠ 0 := by rw [hv]; split <;> omega
  rw [show ssem j = csem (sk j) from rfl, csem_succ _ hne, hv]
  clear hv hne; revert j; decide
theorem cls_rsem (j : ℕ) (hj : j < 60) : cls (rsem j) = .rcv j := by
  have hv := rk_val j hj
  have hne : (rk j).val ≠ 0 := by rw [hv]; split <;> omega
  rw [show rsem j = csem (rk j) from rfl, csem_succ _ hne, hv]
  clear hv hne; revert j; decide

theorem cls_stage (q : Fin 4) : cls (.dma (⟨q.val, by have := q.isLt; show q.val < 124; omega⟩ : Fin 124)) = .other := by
  show clsN q.val = _
  unfold clsN; exact if_pos q.isLt

/-! ## Families over the cells, transfer by transfer -/

theorem sk_inj : ∀ x ∈ Finset.range 60, ∀ y ∈ Finset.range 60, sk x = sk y → x = y := fun x hx y hy h => by
  have := cls_ssem x (Finset.mem_range.mp hx)
  rw [show ssem x = ssem y from congrArg csem h, cls_ssem y (Finset.mem_range.mp hy)] at this
  injection this with h'; exact h'.symm
theorem rk_inj : ∀ x ∈ Finset.range 60, ∀ y ∈ Finset.range 60, rk x = rk y → x = y := fun x hx y hy h => by
  have := cls_rsem x (Finset.mem_range.mp hx)
  rw [show rsem x = rsem y from congrArg csem h, cls_rsem y (Finset.mem_range.mp hy)] at this
  injection this with h'; exact h'.symm
theorem univ_cells : (Finset.univ : Finset (Fin 121)) = {0} ∪ ((Finset.range 60).image sk ∪ (Finset.range 60).image rk) := by decide
theorem disj_cells : Disjoint ((Finset.range 60).image sk) ((Finset.range 60).image rk) := by decide
theorem disj_cells₀ : Disjoint ({0} : Finset (Fin 121)) ((Finset.range 60).image sk ∪ (Finset.range 60).image rk) := by decide

/-- A family over the cells: the barrier's member, the send cells', the receive cells'. -/
theorem bigSep_cells {M : Type} [URA M] (Φ : Fin 121 → sProp M) :
    bigSep Finset.univ Φ = iprop(Φ 0 ∗ bigSep (Finset.range 60) (fun j => Φ (sk j)) ∗ bigSep (Finset.range 60) (fun j => Φ (rk j))) := by
  rw [univ_cells, bigSep_union disj_cells₀, bigSep_union disj_cells, bigSep_singleton]
  unfold bigSep
  rw [Finset.fold_image sk_inj, Finset.fold_image rk_inj]
  rfl

/-! ## The sub-blocks of the buffer -/

/-- The elements of sub-block `s` of slot `o`; -/
def blk (o s : ℕ) : Finset S16x128x1024.Idx := Finset.univ.filter fun i => (i 0).val = o ∧ (i 1).val / 32 = s
/-- of slot `o`. -/
def slot (o : ℕ) : Finset S16x128x1024.Idx := Finset.univ.filter fun i => (i 0).val = o

theorem mem_blk {o s : ℕ} {i : S16x128x1024.Idx} : i ∈ blk o s ↔ (i 0).val = o ∧ (i 1).val / 32 = s := by
  unfold blk; rw [Finset.mem_filter]; exact ⟨fun h => h.2, fun h => ⟨Finset.mem_univ _, h⟩⟩
theorem mem_slot {o : ℕ} {i : S16x128x1024.Idx} : i ∈ slot o ↔ (i 0).val = o := by
  unfold slot; rw [Finset.mem_filter]; exact ⟨fun h => h.2, fun h => ⟨Finset.mem_univ _, h⟩⟩

/-- The kernel's view of 32 rows of the buffer from the offsets `off`. -/
abbrev subM (off : Fin 3 → ℕ) (h : ∀ a, off a + S1x32x1024.size a ≤ S16x128x1024.size a) : Memref sig .tc .vmem S32x1024 .bf16 :=
  (cM.slice (Rect.unit (s := S16x128x1024) off S1x32x1024.size h) (fun _ => rfl)).squeeze S32x1024 squeezes_S1x32x1024_S32x1024

theorem subM_set (off : Fin 3 → ℕ) (h) (o s : ℕ) (e : off = ![o, 32 * s, 0]) : (subM off h).view.set = blk o s := by
  subst e
  ext i
  show i ∈ (((View.whole (cc0_scratch0 : Ref sig .tc)).slice _).reshape _ _).set ↔ _
  rw [View.set_reshape, View.set_slice_whole, Rect.mem_set_unit, mem_blk]
  have h1 : (i 1).val < 128 := (i 1).isLt
  have h2 : (i 2).val < 1024 := (i 2).isLt
  constructor
  · intro H
    have a0 : o ≤ (i 0).val ∧ (i 0).val < o + 1 := H 0
    have a1 : 32 * s ≤ (i 1).val ∧ (i 1).val < 32 * s + 32 := H 1
    omega
  · rintro ⟨H0, H1⟩ a
    fin_cases a
    · show o ≤ (i 0).val ∧ (i 0).val < o + 1; omega
    · show 32 * s ≤ (i 1).val ∧ (i 1).val < 32 * s + 32; omega
    · show 0 ≤ (i 2).val ∧ (i 2).val < 0 + 1024; omega

theorem blk_disj {o s o' s' : ℕ} (h : ¬ (o = o' ∧ s = s')) : Disjoint (blk o s) (blk o' s') :=
  Finset.disjoint_left.mpr fun i h1 h2 => h ⟨(mem_blk.mp h1).1.symm.trans (mem_blk.mp h2).1, (mem_blk.mp h1).2.symm.trans (mem_blk.mp h2).2⟩

theorem slot_eq (o : ℕ) : slot o = (Finset.range 4).biUnion (blk o) := by
  ext i
  rw [mem_slot, Finset.mem_biUnion]
  have h1 : (i 1).val < 128 := (i 1).isLt
  exact ⟨fun h => ⟨(i 1).val / 32, Finset.mem_range.mpr (by omega), mem_blk.mpr ⟨h, rfl⟩⟩, fun ⟨s, _, h⟩ => (mem_blk.mp h).1⟩

/-- What one transfer of a sub-block credits. -/
abbrev N : ℕ := (subM ![0, 0, 0] (by decide)).view.dmaCredit
theorem N_pos : 0 < N := View.dmaCredit_pos _ (by decide)
theorem subM_credit (off h) : (subM off h).view.dmaCredit = N := rfl

/-- Share `q` of sub-block `s` of slot `o` of device `c`'s buffer, at contents `f`. -/
def bPts (c : Dev nD) (o s : ℕ) (q : PosShare TreeShare) (f : (cc0_scratch0 : Ref sig .tc).ty.Contents (Elt F)) : sProp 𝕄 :=
  ((c : Thread nD τ).loc cc0_scratch0) ↦[blk o s]{q} f

omit [FloatOps F] in
instance bPts_storable (c : Dev nD) (o s q f) : BI.Storable (upEmb : UEmb _ 𝕄) (bPts (F := F) c o s q f) := by unfold bPts; infer_instance

/-! ## The schedule -/

/-- What the barrier duty `d` of device `c` hands it: the sub-blocks on its neighbour which `c`'s transfers that way fill. -/
def barPay (c : Dev nD) (d : Bool) : sProp 𝕄 :=
  bigSep ((Finset.range 60).filter fun j => cw j = !d) fun j => iprop(∃ f, bPts (F := F) (tg c j) (so c j) (sub j) fullShare f)

variable (G : (cc0_scratch0 : Ref sig .tc).ty.Contents (Elt F))

/-- What the duty of a cell hands its owner `c`, by the cell's class. -/
def payOf (c : Dev nD) (d : Bool) : Cls → sProp 𝕄
  | .bar => barPay c d
  | .snd j => bPts c (so c j) (sub j) (lq j) G
  | .rcv j => bPts c (ro c j) (sub j) fullShare G
  | .other => iprop(emp)
def dutiesOf : Cls → Finset Bool
  | .bar => Finset.univ
  | .other => ∅
  | _ => {false}
def amountOf : Cls → ℕ
  | .bar => 1
  | _ => N

/-- One round: the duties of a cell, what each adds, what each hands over. -/
def ringRd : Rounds.Schedule (GSem nD τ sig) Bool 𝕄 where
  duties g r := if r = 0 ∧ g.1.2 = .tc then dutiesOf (cls g.2) else ∅
  unitless _ := False
  amount g _ _ := amountOf (cls g.2)
  payload g _ d := payOf G g.1.1 d (cls g.2)
  amount_pos g _ _ _ := by
    unfold amountOf; split
    · exact Nat.one_pos
    · exact N_pos

omit [FloatOps F] in
instance ringRd_payload_storable (g : GSem nD τ sig) (r : ℕ) (d : Bool) :
    BI.Storable (upEmb : UEmb _ 𝕄) ((ringRd (F := F) G).payload g r d) := by
  show BI.Storable upEmb (payOf G g.1.1 d (cls g.2))
  unfold payOf barPay
  split <;> infer_instance

section Sched
variable (c : Dev nD) (j : ℕ) (hj : j < 60)

omit [FloatOps F] in
theorem duties_of (sm : SemLoc sig) : (ringRd (F := F) G).duties ((c : Thread nD τ), sm) 0 = dutiesOf (cls sm) := by
  dsimp only [ringRd]; exact if_pos ⟨rfl, rfl⟩
omit [FloatOps F] in
theorem duties_later (g : GSem nD τ sig) : ∀ r, 1 ≤ r → (ringRd (F := F) G).duties g r = ∅ :=
  fun r hr => by dsimp only [ringRd]; rw [if_neg fun h => by omega]
omit [FloatOps F] in
theorem duties_bar : (ringRd (F := F) G).duties (barCell c) 0 = Finset.univ := by rw [duties_of, cls_bar]; rfl
include hj
omit [FloatOps F] in
theorem duties_snd : (ringRd (F := F) G).duties (scell c j) 0 = {false} := by rw [duties_of, cls_ssem j hj]; rfl
omit [FloatOps F] in
theorem duties_rcv : (ringRd (F := F) G).duties (rcell c j) 0 = {false} := by rw [duties_of, cls_rsem j hj]; rfl
omit hj
omit [FloatOps F] in
theorem amount_bar (d : Bool) : (ringRd (F := F) G).amount (barCell c) 0 d = 1 := by
  show amountOf (cls (.reg barS)) = 1; rw [cls_bar]; rfl
include hj
omit [FloatOps F] in
theorem amount_snd (d : Bool) : (ringRd (F := F) G).amount (scell c j) 0 d = N := by
  show amountOf (cls (ssem j)) = N; rw [cls_ssem j hj]; rfl
omit [FloatOps F] in
theorem amount_rcv (d : Bool) : (ringRd (F := F) G).amount (rcell c j) 0 d = N := by
  show amountOf (cls (rsem j)) = N; rw [cls_rsem j hj]; rfl
omit hj
omit [FloatOps F] in
theorem expect_bar : (ringRd (F := F) G).expect (barCell c) 0 = 2 := by
  unfold Schedule.expect Schedule.amountOf
  rw [duties_bar, Finset.sum_congr rfl fun d _ => amount_bar G c d, Finset.sum_const, Finset.card_univ, Fintype.card_bool, smul_eq_mul]
include hj
omit [FloatOps F] in
theorem expect_snd : (ringRd (F := F) G).expect (scell c j) 0 = N := by
  unfold Schedule.expect Schedule.amountOf; rw [duties_snd G c j hj, Finset.sum_singleton, amount_snd G c j hj]
omit [FloatOps F] in
theorem expect_rcv : (ringRd (F := F) G).expect (rcell c j) 0 = N := by
  unfold Schedule.expect Schedule.amountOf; rw [duties_rcv G c j hj, Finset.sum_singleton, amount_rcv G c j hj]
omit hj
omit [FloatOps F] in
theorem payload_bar (d : Bool) : (ringRd (F := F) G).payload (barCell c) 0 d = barPay c d := by
  show payOf G c d (cls (.reg barS)) = _; rw [cls_bar]; rfl
include hj
omit [FloatOps F] in
theorem payload_snd (d : Bool) : (ringRd (F := F) G).payload (scell c j) 0 d = bPts c (so c j) (sub j) (lq j) G := by
  show payOf G c d (cls (ssem j)) = _; rw [cls_ssem j hj]; rfl
omit [FloatOps F] in
theorem payload_rcv (d : Bool) : (ringRd (F := F) G).payload (rcell c j) 0 d = bPts c (ro c j) (sub j) fullShare G := by
  show payOf G c d (cls (rsem j)) = _; rw [cls_rsem j hj]; rfl
omit [FloatOps F] in
theorem rest_snd : bigSep ((ringRd (F := F) G).duties (scell c j) 0 \ ∅) (fun d => (ringRd (F := F) G).payload (scell c j) 0 d)
    = bPts c (so c j) (sub j) (lq j) G := by
  rw [Finset.sdiff_empty, duties_snd G c j hj, bigSep_singleton, payload_snd G c j hj]
omit [FloatOps F] in
theorem rest_rcv : bigSep ((ringRd (F := F) G).duties (rcell c j) 0 \ ∅) (fun d => (ringRd (F := F) G).payload (rcell c j) 0 d)
    = bPts c (ro c j) (sub j) fullShare G := by
  rw [Finset.sdiff_empty, duties_rcv G c j hj, bigSep_singleton, payload_rcv G c j hj]
omit hj
omit [FloatOps F] in
/-- The barrier's whole round: every sub-block the device's transfers fill. -/
theorem rest_bar : bigSep ((ringRd (F := F) G).duties (barCell c) 0 \ ∅) (fun d => (ringRd (F := F) G).payload (barCell c) 0 d)
    = bigSep (Finset.range 60) fun j => iprop(∃ f, bPts (F := F) (tg c j) (so c j) (sub j) fullShare f) := by
  rw [Finset.sdiff_empty, duties_bar, bigSep_univ_eq_bigSepL [false, true] (by decide) (by decide), bigSepL_cons_cons, bigSepL_singleton,
    payload_bar, payload_bar]
  rw [bigSep_filter_split (Finset.range 60) (fun j => cw j = !false)]
  unfold barPay
  congr 2

end Sched

/-! ## What each device owes at launch; the levels -/

/-- What transfer `j` of device `c` adds to the cell it lands at. -/
def due (c : Dev nD) (j : ℕ) : CellTallies nD τ sig Unit := tallyAt (rcell (tg c j) j) () N
/-- What device `c` owes when it has issued its first `i` transfers. -/
def Otail (c : Dev nD) (i : ℕ) : CellTallies nD τ sig Unit := ∑ j ∈ Finset.Ico i 60, due c j
def O₁ (c : Dev nD) : CellTallies nD τ sig Unit := Otail c 0 + tallyAt (barCell (nxt c)) () 1
/-- At launch: its transfers and a unit to either neighbour's barrier. -/
def O₀ (c : Dev nD) : CellTallies nD τ sig Unit := O₁ c + tallyAt (barCell (prv c)) () 1

theorem Otail_peel (c : Dev nD) (i : ℕ) (hi : i < 60) : Otail c i = Otail c (i + 1) + due c i := by
  unfold Otail; rw [Finset.sum_eq_sum_Ico_succ_bot hi, add_comm]
theorem Otail_end (c : Dev nD) : Otail c 60 = 0 := by unfold Otail; rw [Finset.Ico_self, Finset.sum_empty]

def L (g : GSem nD τ sig) : Finset Unit := if g.1.2 = .tc then {()} else ∅
def lvOf : Cls → ℕ
  | .bar => 1
  | .rcv j => j + 2
  | _ => 0
/-- Barrier cells at 1, the receive cell of arrival `j` at `j + 2`, every other cell at 0. -/
def lv (g : GSem nD τ sig) (_ : Unit) : ℕ := lvOf (cls g.2)

theorem L_of_ne (g : GSem nD τ sig) (h : g.1.2 ≠ .tc) : L g = ∅ := if_neg h
theorem L_tc (c : Dev nD) (sm : SemLoc sig) : L ((c : Thread nD τ), sm) = {()} := if_pos rfl

theorem Otail_pos {c : Dev nD} {i : ℕ} {g : GSem nD τ sig} {u : Unit} (h : 0 < Otail c i g u) : ∃ j, i ≤ j ∧ j < 60 ∧ g = rcell (tg c j) j := by
  obtain ⟨j, hj, hp⟩ := Pipeline.sum_pos_exists (s := Finset.Ico i 60) (D := due c) h
  rw [Finset.mem_Ico] at hj
  refine ⟨j, hj.1, hj.2, ?_⟩
  unfold due at hp
  rw [tallyAt_apply] at hp
  by_contra hn
  rw [if_neg (fun h' => hn h'.1)] at hp
  exact Nat.lt_irrefl 0 hp

theorem O₀_pos {c : Dev nD} {g : GSem nD τ sig} {u : Unit} (h : 0 < O₀ c g u) :
    (∃ j, j < 60 ∧ g = rcell (tg c j) j) ∨ g = barCell (nxt c) ∨ g = barCell (prv c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨j, _, hj, e⟩ := Otail_pos (c := c) (i := 0) (g := g) (u := u) (by omega)
  exact hn.1 ⟨j, hj, e⟩

omit [FloatOps F] in
/-- A cell of a level below every cell owed may be awaited. -/
theorem mayWait_tail (c : Dev nD) (sm : SemLoc sig) (i : ℕ) (h : lvOf (cls sm) < i + 2) :
    (levAts L lv : sProp 𝕄) ⊢ MayWait (c : Thread nD τ) sm () (Otail c i) := by
  refine Pipeline.mayWait_of_levAts (by rw [L_tc]; exact Finset.mem_singleton_self _) fun g u hg => ?_
  obtain ⟨j, h1, h2, rfl⟩ := Otail_pos hg
  refine ⟨by rw [L_tc]; exact Finset.mem_singleton_self _, ?_⟩
  show lvOf (cls sm) < lvOf (cls (rsem j))
  rw [cls_rsem j h2]; show _ < j + 2; omega

omit [FloatOps F] in
theorem mayWait_stage (c : Dev nD) (q : DmaSem sig) (hq : cls (.dma q) = .other) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    have hl : lv ((c : Thread nD τ), .dma q) () = 0 := by show lvOf (cls (.dma q)) = 0; rw [hq]; rfl
    rw [hl]
    rcases O₀_pos hg with ⟨j, h2, rfl⟩ | rfl | rfl
    · refine ⟨by rw [L_tc]; exact Finset.mem_singleton_self _, ?_⟩
      show 0 < lvOf (cls (rsem j)); rw [cls_rsem j h2]; exact Nat.succ_pos _
    · refine ⟨by rw [L_tc]; exact Finset.mem_singleton_self _, ?_⟩
      show 0 < lvOf (cls (.reg barS)); rw [cls_bar]; exact Nat.one_pos
    · refine ⟨by rw [L_tc]; exact Finset.mem_singleton_self _, ?_⟩
      show 0 < lvOf (cls (.reg barS)); rw [cls_bar]; exact Nat.one_pos
  · rw [MayWait_zero]; iintro -; iempintro

end Cert.KernelIdeal.Ring
-- ==== Proof.KernelIdeal.Steps.lean ====
/-
# `Steps`: one rule per step of the ring

The state between two steps counts the transfers issued (`i`) and the arrivals awaited (`r`); a step moves one count by
one. After the ring, the completed sends are counted (`w`).
-/
module

public import proofs.«01_k».proof.Proof.KernelIdeal.Protocol

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (G : (cc0_scratch0 : Ref sig .tc).ty.Contents (Elt F)) (K : Dev nD × Fin 121 → ℕ)

abbrev 𝒱₀ : Variants := Variants.none

/-- The cells' invariants, that round 0 of each is reached, and the level facts. -/
def records : sProp 𝕄 :=
  iprop((bigSep Finset.univ fun ck : Dev nD × Fin 121 => cellInv ER (ringRd G) (K ck) (kcell ck))
    ∗ (bigSep Finset.univ fun ck : Dev nD × Fin 121 => reached ER (kcell ck) 0) ∗ levAts L lv)

instance records_persistent : BI.Persistent (records (F := F) G K) := by unfold records; infer_instance

theorem inv_at (ck : Dev nD × Fin 121) : records G K ⊢ cellInv ER (ringRd G) (K ck) (kcell ck) := by
  have h : (bigSep Finset.univ fun ck : Dev nD × Fin 121 => cellInv ER (ringRd G) (K ck) (kcell ck)) ⊢ cellInv ER (ringRd G) (K ck) (kcell ck) :=
    bigSep_elim (Finset.mem_univ ck)
  unfold records; iintro ⟨H, -, -⟩; iapply h; iexact H
theorem reached_at (ck : Dev nD × Fin 121) : records G K ⊢ (reached ER (kcell ck) 0 : sProp 𝕄) := by
  have h : (bigSep Finset.univ fun ck : Dev nD × Fin 121 => (reached ER (kcell ck) 0 : sProp 𝕄)) ⊢ (reached ER (kcell ck) 0 : sProp 𝕄) :=
    bigSep_elim (Finset.mem_univ ck)
  unfold records; iintro ⟨-, H, -⟩; iapply h; iexact H
/-- What transfer `j` still to be issued holds: the sub-block it fills, the two duties it pays. -/
def pend (c : Dev nD) (j : ℕ) : sProp 𝕄 :=
  iprop((∃ f, bPts (F := F) (tg c j) (so c j) (sub j) fullShare f) ∗ dutyTok ER (scell c j) 0 false ∗ dutyTok ER (rcell (tg c j) j) 0 false)
/-- What arrival `j` still to be awaited holds. -/
def rpend (c : Dev nD) (j : ℕ) : sProp 𝕄 := iprop(cred (tallyAt (rcell c j) () N) ∗ atPos ER (rcell c j) 0 ∅ 0)
/-- What arrival `j`, awaited, leaves: its cell's position, the kept share of its sub-block. -/
def rdone (c : Dev nD) (j : ℕ) : sProp 𝕄 := iprop(atPos ER (rcell c j) 1 ∅ 0 ∗ bPts c (ro c j) (sub j) (kq j) G)
/-- The credit an issued transfer leaves. -/
def scred (c : Dev nD) (j : ℕ) : sProp 𝕄 := cred (tallyAt (scell c j) () N)

/-- The ring's state: `i` transfers issued, `r` arrivals awaited. -/
def Rst (c : Dev nD) (i r : ℕ) : sProp 𝕄 :=
  iprop((∃ W, owes (c : Thread nD τ) (Otail c i) W) ∗ bigSep (Finset.Ico i 60) (pend c) ∗ bigSep (Finset.range i) (scred (F := F) c)
    ∗ bigSep (Finset.Ico r 60) (rpend (F := F) c) ∗ bigSep (Finset.range r) (rdone G c))

/-- What a completed send leaves: its cell's position, the lent share. -/
def sdone (c : Dev nD) (j : ℕ) : sProp 𝕄 := iprop(atPos ER (scell c j) 1 ∅ 0 ∗ bPts c (so c j) (sub j) (lq j) G)
/-- What a send to be completed holds. -/
def spend (c : Dev nD) (j : ℕ) : sProp 𝕄 := iprop(scred (F := F) c j ∗ atPos ER (scell c j) 0 ∅ 0)
/-- The state after the ring: `w` sends completed. -/
def Tst (c : Dev nD) (w : ℕ) : sProp 𝕄 :=
  iprop((∃ W, owes (c : Thread nD τ) 0 W) ∗ bigSep (Finset.Ico w 60) (spend (F := F) c) ∗ bigSep (Finset.range w) (sdone G c))

/-- What lands: the target's sub-block at the source's contents. -/
theorem landed (n : Dev nD) (off h) (h') (o s : ℕ) (e : off = ![o, 32 * s, 0]) (fd : (cc0_scratch0 : Ref sig .tc).ty.Contents (Elt F)) :
    (((subM off h).view.loc (n : Thread nD τ)) ↦[(subM off h).view.set]{fullShare}
        ((subM off h).view.write (Elt F) fd ((subM off h').view.read (Elt F) G) Finset.univ) : sProp 𝕄)
      ⊢ bPts n o s fullShare G := by
  unfold bPts
  rw [View.write_read_eq_piecewise]
  have hs : (subM off h).view.setOn Finset.univ = (subM off h).view.set := rfl
  rw [hs, pointsTo_congr (g := G) fun i hi => Finset.piecewise_eq_of_mem _ _ _ hi, subM_set off h o s e]

/-- The arrival forwarded by transfer `nx r`. -/
def nx (r : ℕ) : ℕ := if r < 48 then r + 8 else 56 + (r - 48) / 2

theorem fwd_lt {r : ℕ} (h : fwd r = true) : r < 56 := by unfold fwd at h; have := of_decide_eq_true h; omega
theorem nx_so (c : Dev nD) {r : ℕ} (h : fwd r = true) : so c (nx r) = ro c r := by
  have h' := of_decide_eq_true (show decide _ = true from h)
  have hc := dev_lt c
  have hcw : cw (nx r) = cw r := by
    unfold cw nx; split <;> (apply Bool.eq_iff_iff.mpr; simp only [decide_eq_true_eq]; omega)
  unfold so ro; rw [hcw]
  have hh : hop (nx r) = hop r + 1 := by unfold hop nx; (repeat' split) <;> omega
  have h8 := hop_lt (nx r)
  rw [hh] at h8 ⊢
  split <;> omega
theorem nx_sub {r : ℕ} (h : fwd r = true) : sub (nx r) = sub r := by
  have h' := of_decide_eq_true (show decide _ = true from h)
  unfold sub nx; (repeat' split) <;> omega
theorem nx_lq {r : ℕ} (h : fwd r = true) : lq (nx r) = fullShare.right := by
  unfold lq; rw [if_neg]; rintro ⟨h1, -⟩; unfold nx at h1; split at h1 <;> omega

theorem amount_rsem (off h) (j : ℕ) (hj : j < 60) : (subM off h).view.amount (rsem j) = N := by
  have hne : (rk j).val ≠ 0 := by rw [rk_val j hj]; split <;> omega
  unfold rsem csem; rw [dif_neg hne]; rfl

/-- Issue transfer `i`. -/
theorem wp_send_step (c n : Dev nD) (i r : ℕ) (hi : i < 60) (hn : n = tg c i) {off : Fin 3 → ℕ} {h h'} (e : off = ![so c i, 32 * sub i, 0])
    {sS sR : SemLoc sig} (hsS : sS = ssem i) (hsR : sR = rsem i)
    {hsc : (subM off h' : Memref sig (Dev.tc n : Thread nD τ).2.kind .vmem S32x1024 .bf16).view.ref.isScScratch = false}
    {hsrc : (subM off h).view.WordExact} {hdst : (subM off h').view.WordExact}
    {hsem : DmaTarget.Typed .vmem sR (.remote (Dev.tc n : Thread nD τ) (subM off h') sS hsc)}
    {α : Type} {Q : α → sProp 𝕄} {k : PUnit → Prog (TpuEff nD τ sig (Elt F) Λ₀ .tc) α} :
    iprop(records G K ∗ Rst G c i r ∗ bPts c (so c i) (sub i) (lq i) G)
      ⊢ iprop((Rst G c (i + 1) r -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (subM off h) (.remote (Dev.tc n : Thread nD τ) (subM off h') sS hsc) sR hsrc hdst hsem) k) Q) := by
  subst hn hsS hsR
  iintro ⟨#HR, HS, Hsrc⟩
  unfold Rst
  rw [bigSep_Ico_succ_bot hi, bigSep_range_succ i]
  icases HS with ⟨⟨%W, HO⟩, ⟨Hp, Hps⟩, Hcs, Hrp, Hrd⟩
  unfold pend
  icases Hp with ⟨⟨%fd, Hdst⟩, Ht1, Ht2⟩
  iintro Hk
  iapply (Rounds.wp_send_pointsTo 𝒱₀ ER (ringRd G) (c : Thread nD τ) none (κ₁ := K (c, sk i)) (κ₂ := K (tg c i, rk i))
    (r₁ := 0) (r₂ := 0) (d₁ := false) (d₂ := false) (fs := G) (fd := fd) (q := lq i)
    (by rw [duties_snd G c i hi]; exact Finset.mem_singleton_self _) (by rw [duties_rcv G (tg c i) i hi]; exact Finset.mem_singleton_self _)
    () () N (amount_rsem off h' i hi) (amount_snd G c i hi false) (amount_rcv G (tg c i) i hi false) (Otail c (i + 1)) (Otail_peel c i hi) (W := W)
    (by rw [payload_snd G c i hi]; unfold bPts; rw [subM_set off h _ _ e])
    (by rw [payload_rcv G (tg c i) i hi, ro_tg]; exact landed G (tg c i) off h' h _ _ e fd)) $$ [HO Hsrc Hdst Ht1 Ht2]
  · isplitr; · iapply (inv_at G K (c, sk i)); iexact HR
    isplitr; · iapply (inv_at G K (tg c i, rk i)); iexact HR
    isplitl [Hsrc]; · unfold bPts; rw [subM_set off h _ _ e]; iexact Hsrc
    isplitl [Hdst]; · unfold bPts; rw [subM_set off h' _ _ e]; iexact Hdst
    isplitl [HO]; · iexact HO
    isplitl [Ht1]; · iexact Ht1
    isplitr; · iapply (reached_at G K (c, sk i)); iexact HR
    isplitl [Ht2]; · iexact Ht2
    iapply (reached_at G K (tg c i, rk i)); iexact HR
  iintro ⟨Hc, HO⟩
  iapply Hk
  isplitl [HO]; · iexists W; iexact HO
  isplitl [Hps]; · iexact Hps
  isplitl [Hcs Hc]
  · isplitl [Hc]; · unfold scred; iexact Hc
    iexact Hcs
  isplitl [Hrp]; · iexact Hrp
  iexact Hrd

/-- Await arrival `r`, whole. -/
theorem wp_recv_core (c : Dev nD) (i r : ℕ) (hr : r < 60) (hri : r < i) {sR : DmaSem sig} (hsR : SemLoc.dma sR = rsem r)
    {m m' : Memref sig .tc .vmem S32x1024 .bf16} (hm : m'.view.dmaCredit = N) {hsrc : m.view.WordExact} {hdst : m'.view.WordExact}
    {α : Type} {Q : α → sProp 𝕄} {k : PUnit → Prog (TpuEff nD τ sig (Elt F) Λ₀ .tc) α} :
    iprop(records G K ∗ (∃ W, owes (c : Thread nD τ) (Otail c i) W) ∗ rpend (F := F) c r)
      ⊢ iprop((((∃ W, owes (c : Thread nD τ) (Otail c i) W) ∗ atPos ER (rcell c r) 1 ∅ 0 ∗ bPts c (ro c r) (sub r) fullShare G)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR m m' hsrc hdst) k) Q) := by
  have hlv : lvOf (cls (rsem r)) < i + 2 := by rw [cls_rsem r hr]; show r + 2 < i + 2; omega
  have hmw : (levAts L lv : sProp 𝕄) ⊢ MayWait (c : Thread nD τ) (.dma sR) () (Otail c i) := by
    rw [hsR]; exact mayWait_tail c (rsem r) i hlv
  iintro ⟨#HR, ⟨%W, HO⟩, Hp⟩
  unfold rpend
  icases Hp with ⟨Hc, Hat⟩
  iintro Hk
  iapply (Rounds.wp_wait_rest_token 𝒱₀ ER (ringRd G) (c : Thread nD τ) none (k' := m'.view.dmaCredit) (κ := K (c, rk r)) (sm := .dma sR)
      (wpE_waitDma2_eq 𝒱₀ (c : Thread nD τ) none Set.univ) (Set.mem_univ _) () (O := Otail c i) (W := W) (R := 0) (m := 0) (T := ∅)
      (by rw [Nat.zero_add, hsR, expect_rcv G c r hr, hm])) $$ [Hc HO Hat]
  · isplitr; · rw [hsR]; iapply (inv_at G K (c, rk r)); iexact HR
    isplitl [Hc]; · rw [hm, hsR]; iexact Hc
    isplitl [HO]; · iexact HO
    isplitr
    · unfold records
      icases HR with ⟨-, -, #Hl⟩
      iapply hmw; iexact Hl
    rw [hsR]; iexact Hat
  rw [hsR]
  iintro ⟨HO, Hat, -, Hpay⟩
  ihave Hp := (Entails.of_eq (rest_rcv G c r hr)) $$ Hpay
  iapply Hk
  isplitl [HO]; · iexists _; iexact HO
  isplitl [Hat]; · iexact Hat
  iexact Hp

/-- Await arrival `r`, which transfer `j'` forwards. -/
theorem wp_recv_step (c : Dev nD) (i r j' : ℕ) (hr : r < 60) (hri : r < i) (hf : fwd r = true) (hj' : nx r = j')
    {sR : DmaSem sig} (hsR : SemLoc.dma sR = rsem r)
    {m m' : Memref sig .tc .vmem S32x1024 .bf16} (hm : m'.view.dmaCredit = N) {hsrc : m.view.WordExact} {hdst : m'.view.WordExact}
    {α : Type} {Q : α → sProp 𝕄} {k : PUnit → Prog (TpuEff nD τ sig (Elt F) Λ₀ .tc) α} :
    iprop(records G K ∗ Rst G c i r)
      ⊢ iprop(((Rst G c i (r + 1) ∗ bPts c (so c j') (sub j') (lq j') G) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR m m' hsrc hdst) k) Q) := by
  subst hj'
  iintro ⟨#HR, HS⟩
  unfold Rst
  rw [bigSep_Ico_succ_bot hr, bigSep_range_succ r]
  icases HS with ⟨HO, Hps, Hcs, ⟨Hrp, Hrps⟩, Hrd⟩
  iintro Hk
  iapply (wp_recv_core G K c i r hr hri hsR hm) $$ [HO Hrp]
  · isplitr; · iexact HR
    isplitl [HO]; · iexact HO
    iexact Hrp
  iintro ⟨HO, Hat, Hb⟩
  ihave Hb2 := (show bPts c (ro c r) (sub r) fullShare G ⊢ iprop(bPts c (ro c r) (sub r) fullShare.left G ∗ bPts c (ro c r) (sub r) fullShare.right G) from
    (pointsTo_share (PosShare.mem_left_op_right _)).1) $$ Hb
  icases Hb2 with ⟨Hl, Hr⟩
  iapply Hk
  isplitr [Hr]
  · isplitl [HO]; · iexact HO
    isplitl [Hps]; · iexact Hps
    isplitl [Hcs]; · iexact Hcs
    isplitl [Hrps]; · iexact Hrps
    isplitr [Hrd]
    · unfold rdone kq; rw [if_pos hf]
      isplitl [Hat]; · iexact Hat
      iexact Hl
    iexact Hrd
  rw [nx_so c hf, nx_sub hf, nx_lq hf]; iexact Hr

/-- Await arrival `r`, which stays. -/
theorem wp_recv_last (c : Dev nD) (i r : ℕ) (hr : r < 60) (hri : r < i) (hf : fwd r = false)
    {sR : DmaSem sig} (hsR : SemLoc.dma sR = rsem r)
    {m m' : Memref sig .tc .vmem S32x1024 .bf16} (hm : m'.view.dmaCredit = N) {hsrc : m.view.WordExact} {hdst : m'.view.WordExact}
    {α : Type} {Q : α → sProp 𝕄} {k : PUnit → Prog (TpuEff nD τ sig (Elt F) Λ₀ .tc) α} :
    iprop(records G K ∗ Rst G c i r)
      ⊢ iprop((Rst G c i (r + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR m m' hsrc hdst) k) Q) := by
  iintro ⟨#HR, HS⟩
  unfold Rst
  rw [bigSep_Ico_succ_bot hr, bigSep_range_succ r]
  icases HS with ⟨HO, Hps, Hcs, ⟨Hrp, Hrps⟩, Hrd⟩
  iintro Hk
  iapply (wp_recv_core G K c i r hr hri hsR hm) $$ [HO Hrp]
  · isplitr; · iexact HR
    isplitl [HO]; · iexact HO
    iexact Hrp
  iintro ⟨HO, Hat, Hb⟩
  iapply Hk
  isplitl [HO]; · iexact HO
  isplitl [Hps]; · iexact Hps
  isplitl [Hcs]; · iexact Hcs
  isplitl [Hrps]; · iexact Hrps
  isplitr [Hrd]
  · unfold rdone kq; rw [if_neg (by rw [hf]; exact Bool.false_ne_true)]
    isplitl [Hat]; · iexact Hat
    iexact Hb
  iexact Hrd

/-- Complete send `w`. -/
theorem wp_done_step (c : Dev nD) (w : ℕ) (hw : w < 60) {sS : DmaSem sig} (hsS : SemLoc.dma sS = ssem w)
    {m m' : Memref sig .tc .vmem S32x1024 .bf16} (hm : m'.view.dmaCredit = N) {hsrc : m.view.WordExact} {hdst : m'.view.WordExact}
    {α : Type} {Q : α → sProp 𝕄} {k : PUnit → Prog (TpuEff nD τ sig (Elt F) Λ₀ .tc) α} :
    iprop(records G K ∗ Tst G c w)
      ⊢ iprop((Tst G c (w + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS m m' hsrc hdst) k) Q) := by
  iintro ⟨#HR, HS⟩
  unfold Tst
  rw [bigSep_Ico_succ_bot hw, bigSep_range_succ w]
  unfold spend scred
  icases HS with ⟨⟨%W, HO⟩, ⟨⟨Hc, Hat⟩, Hps⟩, Hds⟩
  iintro Hk
  iapply (Rounds.wp_wait_rest_token 𝒱₀ ER (ringRd G) (c : Thread nD τ) none (k' := m'.view.dmaCredit) (κ := K (c, sk w)) (sm := .dma sS)
      (wpE_waitDma2_eq 𝒱₀ (c : Thread nD τ) none Set.univ) (Set.mem_univ _) () (O := 0) (W := W) (R := 0) (m := 0) (T := ∅)
      (by rw [Nat.zero_add, hsS, expect_snd G c w hw, hm])) $$ [Hc HO Hat]
  · rw [hsS]
    isplitr; · iapply (inv_at G K (c, sk w)); iexact HR
    isplitl [Hc]; · rw [hm]; iexact Hc
    isplitl [HO]; · iexact HO
    isplitr; · rw [MayWait_zero]; iempintro
    iexact Hat
  rw [hsS]
  iintro ⟨HO, Hat, -, Hpay⟩
  ihave Hp := (Entails.of_eq (rest_snd G c w hw)) $$ Hpay
  iapply Hk
  isplitl [HO]; · iexists _; iexact HO
  isplitl [Hps]; · iexact Hps
  isplitr [Hds]
  · unfold sdone
    isplitl [Hat]; · iexact Hat
    iexact Hp
  iexact Hds

/-! ## Loads of a slot -/

/-- A slot as its four sub-blocks. -/
theorem slot_pts (c : Dev nD) (o : ℕ) (q : PosShare TreeShare) (f : (cc0_scratch0 : Ref sig .tc).ty.Contents (Elt F)) :
    (((c : Thread nD τ).loc cc0_scratch0) ↦[slot o]{q} f : sProp 𝕄) = bigSep (Finset.range 4) fun s => bPts c o s q f := by
  rw [slot_eq, pointsTo_biUnion _ _ fun s _ s' _ hne => blk_disj fun h => hne h.2]; rfl

abbrev slotR (off : Fin 3 → ℕ) (h : ∀ a, off a + S1x128x1024.size a ≤ S16x128x1024.size a) : Rect S16x128x1024 :=
  Rect.unit (s := S16x128x1024) off S1x128x1024.size h

theorem slotR_sub (off : Fin 3 → ℕ) (h) (o : ℕ) (e : off = ![o, 0, 0]) : cM.view.setOn (slotR off h).toLoadRect.set ⊆ slot o := by
  subst e
  intro i hi
  obtain ⟨x, hx, rfl⟩ := Finset.mem_map.mp hi
  have hx' : x ∈ (slotR ![o, 0, 0] h).set := hx
  rw [Rect.mem_set_unit] at hx'
  have a0 : o ≤ (x 0).val ∧ (x 0).val < o + 1 := hx' 0
  rw [mem_slot]
  show (x 0).val = o
  omega

/-- Load the slot whose sub-blocks are the kept shares of four awaited arrivals. -/
theorem wp_slot_load (c : Dev nD) (i r : ℕ) (o : ℕ) (q : PosShare TreeShare) (jf : ℕ → ℕ)
    (hjf : ∀ s, s < 4 → jf s < r ∧ ro c (jf s) = o ∧ sub (jf s) = s ∧ kq (jf s) = q)
    {off : Fin 3 → ℕ} {h} (e : off = ![o, 0, 0]) {hl : cM.view.LoadsAt (slotR off h).toLoadRect}
    {α : Type} {Q : α → sProp 𝕄} {k : Vec F S1x128x1024 .bf16 → Prog (TpuEff nD τ sig (Elt F) Λ₀ .tc) α} :
    Rst G c i r
      ⊢ iprop((Rst G c i r -∗ wp frame (wpE (defs₀ (F := F)) 𝒱₀ (c : Thread nD τ) none) Set.univ (k (cM.view.readAt (Elt F) (slotR off h).toLoadRect G)) Q)
          -∗ wp frame (wpE (defs₀ (F := F)) 𝒱₀ (c : Thread nD τ) none) Set.univ (.op (.load cM (slotR off h).toLoadRect hl) k) Q) := by
  have hJ : (Finset.range 4).image jf ⊆ Finset.range r := fun j hj => by
    obtain ⟨s, hs, rfl⟩ := Finset.mem_image.mp hj
    exact Finset.mem_range.mpr (hjf s (Finset.mem_range.mp hs)).1
  have hinj : ∀ x ∈ Finset.range 4, ∀ y ∈ Finset.range 4, jf x = jf y → x = y := fun x hx y hy hxy => by
    rw [← (hjf x (Finset.mem_range.mp hx)).2.2.1, ← (hjf y (Finset.mem_range.mp hy)).2.2.1, hxy]
  have hsplit : bigSep (Finset.range r) (rdone G c) = iprop((bigSep (Finset.range 4) (fun s => (atPos ER (rcell c (jf s)) 1 ∅ 0 : sProp 𝕄))
      ∗ (((c : Thread nD τ).loc cc0_scratch0) ↦[slot o]{q} G)) ∗ bigSep (Finset.range r \ (Finset.range 4).image jf) (rdone G c)) := by
    rw [bigSep_sdiff_split hJ]
    have h1 : bigSep ((Finset.range 4).image jf) (rdone G c) = bigSep (Finset.range 4) fun s => rdone G c (jf s) := by
      unfold bigSep; rw [Finset.fold_image hinj]; rfl
    rw [h1, slot_pts, ← bigSep_sep']
    congr 1
    refine bigSep_congr fun s hs => ?_
    obtain ⟨-, h2, h3, h4⟩ := hjf s (Finset.mem_range.mp hs)
    unfold rdone; rw [h2, h3, h4]
  unfold Rst
  rw [hsplit]
  iintro ⟨HO, Hps, Hcs, Hrp, ⟨Hat, Hb⟩, Hrd⟩
  iintro Hk
  iapply (wp_load 𝒱₀ (c : Thread nD τ) none Set.univ (m := cM) (slotR_sub off h o e)) $$ Hb
  iintro Hb
  iapply Hk
  isplitl [HO]; · iexact HO
  isplitl [Hps]; · iexact Hps
  isplitl [Hcs]; · iexact Hcs
  isplitl [Hrp]; · iexact Hrp
  isplitl [Hat Hb]
  · isplitl [Hat]; · iexact Hat
    iexact Hb
  iexact Hrd

end Cert.KernelIdeal.Ring
-- ==== Proof.KernelIdeal.Parts1.lean ====
/-
# `Parts1`: the kernel's parts 12 to 33, step by step
-/
module

public import proofs.«01_k».proof.Proof.KernelIdeal.Steps

@[expose] public section

noncomputable section

namespace Cert.KernelIdeal.Ring

open Cert.KernelIdeal Cert.KernelIdeal.Gen

open Idealize.ShloMosaic
open Memref (isWhole_whole)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev xM : Memref sig .tc .vmem S2048x512 .bf16 := Memref.whole cc0_stg0_0
abbrev eM : Memref sig .tc .vmem S2048x1 .i32 := Memref.whole cc0_stg1_0
abbrev wM : Memref sig .tc .vmem S4x512x1024 .bf16 := Memref.whole cc0_stg2_0
abbrev oM : Memref sig .tc .vmem S128x1024 .f32 := Memref.whole cc0_stg3_0
abbrev rkM : Memref sig .tc .vmem S2048x1 .f32 := Memref.whole cc0_scratch1
abbrev bsM : Memref sig .tc .vmem S16x64 .f32 := Memref.whole cc0_scratch2
abbrev inM : Memref sig .tc .vmem S2048x64 .f32 := Memref.whole cc0_scratch3
abbrev slM : Memref sig .tc .vmem S128x2048 .bf16 := Memref.whole cc0_scratch4

/-- The buffer of row selectors at contents `S`; -/
def selPts (c : Dev nD) (S : (cc0_scratch4 : Ref sig .tc).ty.Contents (Elt F)) : sProp 𝕄 := ((c : Thread nD τ).loc cc0_scratch4) ↦{fullShare} S
/-- the staged result at contents `f`. -/
def outPts (c : Dev nD) (f : (cc0_stg3_0 : Ref sig .tc).ty.Contents (Elt F)) : sProp 𝕄 := ((c : Thread nD τ).loc cc0_stg3_0) ↦{fullShare} f

/-- 128 columns of the selectors; -/
abbrev selV (off : Fin 2 → ℕ) (h : ∀ a, off a + S128x128.size a ≤ S128x2048.size a) (S : (cc0_scratch4 : Ref sig .tc).ty.Contents (Elt F)) :
    Vec F S128x128 .bf16 :=
  slM.view.readAt (Elt F) (Rect.unit (s := S128x2048) off S128x128.size h).toLoadRect S
/-- a slot. -/
abbrev slotV (off : Fin 3 → ℕ) (h : ∀ a, off a + S1x128x1024.size a ≤ S16x128x1024.size a) (G : (cc0_scratch0 : Ref sig .tc).ty.Contents (Elt F)) :
    Vec F S1x128x1024 .bf16 :=
  cM.view.readAt (Elt F) (slotR off h).toLoadRect G

theorem hz : (![0, 0] : Fin 2 → Nat) = fun _ => 0 := funext fun a => by fin_cases a <;> rfl
omit [FloatOps F] in
theorem oM_write (f w : (cc0_stg3_0 : Ref sig .tc).ty.Contents (Elt F)) (h) :
    (oM.access (Rect.unit (s := S128x1024) ![0, 0] S128x1024.size h) : View sig .tc _ _ _).write (Elt F) f w Finset.univ = w :=
  Memref.write_access_unit_zero_univ (Elt F) cc0_stg3_0 hz h f w

variable (G : (cc0_scratch0 : Ref sig .tc).ty.Contents (Elt F)) (K : Dev nD × Fin 121 → ℕ)

/-- Part 12: transfers 0 to 3, arrivals 0 to 0. -/
theorem part12 (c : Dev nD) (v2 : BitVec 32) (v5 : BitVec 32) (v7 : BitVec 32) {Q : _ → sProp 𝕄} :
    iprop(records G K ∗ Rst G c 0 0 ∗ bPts c (so c 0) (sub 0) (lq 0) G ∗ bPts c (so c 1) (sub 1) (lq 1) G ∗ bPts c (so c 2) (sub 2) (lq 2) G)
      ⊢ iprop((Rst G c 3 0 -∗ Q (⟨⟩))
          -∗ wp frame (wpE (defs₀ (F := F)) 𝒱₀ (c : Thread nD τ) none) Set.univ (k0_part12 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7) Q) := by
  rw [k0_part12_eq_skeleton]
  unfold k0_part12_skel
  simp only [Prog.lift, Prog.bind_op, Prog.bind_ret, Prog.pure_eq_ret]
  iintro ⟨#HR, HS, H0, H1, H2⟩
  iintro Hk
  iapply (wp_send_step G K c ⟨k0_dev3 c, k0_dev3_lt c⟩ 0 0 (by decide) (by exact Fin.ext (k0_dev3_eq c)) (off := k0_off8 c 0#32) (by exact (k0_off8_eq c 0)) (by rfl) (by rfl)) $$ [HS H0]
  · isplitr; · iexact HR
    isplitl [HS]; · iexact HS
    iexact H0
  iintro HS
  iapply (wp_send_step G K c ⟨k0_dev4 c, k0_dev4_lt c⟩ 1 0 (by decide) (by exact Fin.ext (k0_dev4_eq c)) (off := k0_off9 c 0#32) (by exact (k0_off9_eq c 0)) (by rfl) (by rfl)) $$ [HS H1]
  · isplitr; · iexact HR
    isplitl [HS]; · iexact HS
    iexact H1
  iintro HS
  iapply (wp_send_step G K c ⟨k0_dev5 c, k0_dev5_lt c⟩ 2 0 (by decide) (by exact Fin.ext (k0_dev5_eq c)) (off := k0_off10 c 0#32) (by exact (k0_off10_eq c 0)) (by rfl) (by rfl)) $$ [HS H2]
  · isplitr; · iexact HR
    isplitl [HS]; · iexact HS
    iexact H2
  iintro HS
  rw [wp_ret]; imodintro
  iapply Hk
  iexact HS

/-- Part 13: transfers 3 to 5, arrivals 0 to 0. -/
theorem part13 (c : Dev nD) (v2 : BitVec 32) (v5 : BitVec 32) (v7 : BitVec 32) {Q : _ → sProp 𝕄} :
    iprop(records G K ∗ Rst G c 3 0 ∗ bPts c (so c 3) (sub 3) (lq 3) G ∗ bPts c (so c 4) (sub 4) (lq 4) G)
      ⊢ iprop((Rst G c 5 0 -∗ Q (⟨⟩))
          -∗ wp frame (wpE (defs₀ (F := F)) 𝒱₀ (c : Thread nD τ) none) Set.univ (k0_part13 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7) Q) := by
  rw [k0_part13_eq_skeleton]
  unfold k0_part13_skel
  simp only [Prog.lift, Prog.bind_op, Prog.bind_ret, Prog.pure_eq_ret]
  iintro ⟨#HR, HS, H3, H4⟩
  iintro Hk
  iapply (wp_send_step G K c ⟨k0_dev6 c, k0_dev6_lt c⟩ 3 0 (by decide) (by exact Fin.ext (k0_dev6_eq c)) (off := k0_off11 c 0#32) (by exact (k0_off11_eq c 0)) (by rfl) (by rfl)) $$ [HS H3]
  · isplitr; · iexact HR
    isplitl [HS]; · iexact HS
    iexact H3
  iintro HS
  iapply (wp_send_step G K c ⟨k0_dev7 c, k0_dev7_lt c⟩ 4 0 (by decide) (by exact Fin.ext (k0_dev7_eq c)) (off := k0_off12 c 0#32) (by exact (k0_off12_eq c 0)) (by rfl) (by rfl)) $$ [HS H4]
  · isplitr; · iexact HR
    isplitl [HS]; · iexact HS
    iexact H4
  iintro HS
  rw [wp_ret]; imodintro
  iapply Hk
  iexact HS

/-- Part 14: transfers 5 to 7, arrivals 0 to 0. -/
theorem part14 (c : Dev nD) (v2 : BitVec 32) (v5 : BitVec 32) (v7 : BitVec 32) {Q : _ → sProp 𝕄} :
    iprop(records G K ∗ Rst G c 5 0 ∗ bPts c (so c 5) (sub 5) (lq 5) G ∗ bPts c (so c 6) (sub 6) (lq 6) G)
      ⊢ iprop((Rst G c 7 0 -∗ Q (⟨⟩))
          -∗ wp frame (wpE (defs₀ (F := F)) 𝒱₀ (c : Thread nD τ) none) Set.univ (k0_part14 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7) Q) := by
  rw [k0_part14_eq_skeleton]
  unfold k0_part14_skel
  simp only [Prog.lift, Prog.bind_op, Prog.bind_ret, Prog.pure_eq_ret]
  iintro ⟨#HR, HS, H5, H6⟩
  iintro Hk
  iapply (wp_send_step G K c ⟨k0_dev8 c, k0_dev8_lt c⟩ 5 0 (by decide) (by exact Fin.ext (k0_dev8_eq c)) (off := k0_off13 c 0#32) (by exact (k0_off13_eq c 0)) (by rfl) (by rfl)) $$ [HS H5]
  · isplitr; · iexact HR
    isplitl [HS]; · iexact HS
    iexact H5
  iintro HS
  iapply (wp_send_step G K c ⟨k0_dev9 c, k0_dev9_lt c⟩ 6 0 (by decide) (by exact Fin.ext (k0_dev9_eq c)) (off := k0_off14 c 0#32) (by exact (k0_off14_eq c 0)) (by rfl) (by rfl)) $$ [HS H6]
  · isplitr; · iexact HR
    isplitl [HS]; · iexact HS
    iexact H6
  iintro HS
  rw [wp_ret]; imodintro
  iapply Hk
  iexact HS

/-- Part 15: transfers 7 to 9, arrivals 0 to 1. -/
theorem part15 (c : Dev nD) (v2 : BitVec 32) (v5 : BitVec 32) (v7 : BitVec 32) {Q : _ → sProp 𝕄} :
    iprop(records G K ∗ Rst G c 7 0 ∗ bPts c (so c 7) (sub 7) (lq 7) G)
      ⊢ iprop((Rst G c 9 1 -∗ Q ((Scalar.addi (Scalar.addi v2 0#32) 1#32)))
          -∗ wp frame (wpE (defs₀ (F := F)) 𝒱₀ (c : Thread nD τ) none) Set.univ (k0_part15 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7) Q) := by
  rw [k0_part15_eq_skeleton]
  unfold k0_part15_skel
  simp only [Prog.lift, Prog.bind_op, Prog.bind_ret, Prog.pure_eq_ret]
  iintro ⟨#HR, HS, H7⟩
  iintro Hk
  iapply (wp_send_step G K c ⟨k0_dev10 c, k0_dev10_lt c⟩ 7 0 (by decide) (by exact Fin.ext (k0_dev10_eq c)) (off := k0_off15 c 0#32) (by exact (k0_off15_eq c 0)) (by rfl) (by rfl)) $$ [HS H7]
  · isplitr; · iexact HR
    isplitl [HS]; · iexact HS
    iexact H7
  iintro HS
  iapply (wp_recv_step G K c 8 0 8 (by decide) (by decide) rfl rfl (by rfl) (by rfl)) $$ [HS]
  · isplitr; · iexact HR
    iexact HS
  iintro ⟨HS, H8⟩
  iapply (wp_send_step G K c ⟨k0_dev11 c, k0_dev11_lt c⟩ 8 1 (by decide) (by exact Fin.ext (k0_dev11_eq c)) (off := k0_off8 c 1#32) (by exact (k0_off8_eq c 1)) (by rfl) (by rfl)) $$ [HS H8]
  · isplitr; · iexact HR
    isplitl [HS]; · iexact HS
    iexact H8
  iintro HS
  rw [wp_ret]; imodintro
  iapply Hk
  iexact HS

/-- Part 16: transfers 9 to 10, arrivals 1 to 2. -/
theorem part16 (c : Dev nD) (v2 : BitVec 32) (v5 : BitVec 32) (v7 : BitVec 32) (v528 : BitVec 32) {Q : _ → sProp 𝕄} :
    iprop(records G K ∗ Rst G c 9 1)
      ⊢ iprop((Rst G c 10 2 -∗ Q ((Scalar.muli v5 1#32)))
          -∗ wp frame (wpE (defs₀ (F := F)) 𝒱₀ (c : Thread nD τ) none) Set.univ (k0_part16 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7 v528) Q) := by
  rw [k0_part16_eq_skeleton]
  unfold k0_part16_skel
  simp only [Prog.lift, Prog.bind_op, Prog.bind_ret, Prog.pure_eq_ret]
  iintro ⟨#HR, HS⟩
  iintro Hk
  iapply (wp_recv_step G K c 9 1 9 (by decide) (by decide) rfl rfl (by rfl) (by rfl)) $$ [HS]
  · isplitr; · iexact HR
    iexact HS
  iintro ⟨HS, H9⟩
  iapply (wp_send_step G K c ⟨k0_dev12 c, k0_dev12_lt c⟩ 9 2 (by decide) (by exact Fin.ext (k0_dev12_eq c)) (off := k0_off9 c 1#32) (by exact (k0_off9_eq c 1)) (by rfl) (by rfl)) $$ [HS H9]
  · isplitr; · iexact HR
    isplitl [HS]; · iexact HS
    iexact H9
  iintro HS
  rw [wp_ret]; imodintro
  iapply Hk
  iexact HS

/-- Part 17: transfers 10 to 11, arrivals 2 to 3. -/
theorem part17 (c : Dev nD) (v2 : BitVec 32) (v7 : BitVec 32) (v554 : BitVec 32) {Q : _ → sProp 𝕄} :
    iprop(records G K ∗ Rst G c 10 2)
      ⊢ iprop((Rst G c 11 3 -∗ Q (⟨⟩))
          -∗ wp frame (wpE (defs₀ (F := F)) 𝒱₀ (c : Thread nD τ) none) Set.univ (k0_part17 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v7 v554) Q) := by
  rw [k0_part17_eq_skeleton]
  unfold k0_part17_skel
  simp only [Prog.lift, Prog.bind_op, Prog.bind_ret, Prog.pure_eq_ret]
  iintro ⟨#HR, HS⟩
  iintro Hk
  iapply (wp_recv_step G K c 10 2 10 (by decide) (by decide) rfl rfl (by rfl) (by rfl)) $$ [HS]
  · isplitr; · iexact HR
    iexact HS
  iintro ⟨HS, H10⟩
  iapply (wp_send_step G K c ⟨k0_dev13 c, k0_dev13_lt c⟩ 10 3 (by decide) (by exact Fin.ext (k0_dev13_eq c)) (off := k0_off10 c 1#32) (by exact (k0_off10_eq c 1)) (by rfl) (by rfl)) $$ [HS H10]
  · isplitr; · iexact HR
    isplitl [HS]; · iexact HS
    iexact H10
  iintro HS
  rw [wp_ret]; imodintro
  iapply Hk
  iexact HS

/-- Part 18: transfers 11 to 12, arrivals 3 to 5. -/
theorem part18 (c : Dev nD) (v2 : BitVec 32) (v5 : BitVec 32) {Q : _ → sProp 𝕄} :
    iprop(records G K ∗ Rst G c 11 3)
      ⊢ iprop((Rst G c 12 5 ∗ bPts c (so c 12) (sub 12) (lq 12) G -∗ Q (⟨(Scalar.subi v2 1#32), 16#32⟩))
          -∗ wp frame (wpE (defs₀ (F := F)) 𝒱₀ (c : Thread nD τ) none) Set.univ (k0_part18 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5) Q) := by
  rw [k0_part18_eq_skeleton]
  unfold k0_part18_skel
  simp only [Prog.lift, Prog.bind_op, Prog.bind_ret, Prog.pure_eq_ret]
  iintro ⟨#HR, HS⟩
  iintro Hk
  iapply (wp_recv_step G K c 11 3 11 (by decide) (by decide) rfl rfl (by rfl) (by rfl)) $$ [HS]
  · isplitr; · iexact HR
    iexact HS
  iintro ⟨HS, H11⟩
  iapply (wp_send_step G K c ⟨k0_dev14 c, k0_dev14_lt c⟩ 11 4 (by decide) (by exact Fin.ext (k0_dev14_eq c)) (off := k0_off11 c 1#32) (by exact (k0_off11_eq c 1)) (by rfl) (by rfl)) $$ [HS H11]
  · isplitr; · iexact HR
    isplitl [HS]; · iexact HS
    iexact H11
  iintro HS
  iapply (wp_recv_step G K c 12 4 12 (by decide) (by decide) rfl rfl (by rfl) (by rfl)) $$ [HS]
  · isplitr; · iexact HR
    iexact HS
  iintro ⟨HS, H12⟩
  rw [wp_ret]; imodintro
  iapply Hk
  isplitl [HS]; · iexact HS
  iexact H12

/-- Part 19: transfers 12 to 13, arrivals 5 to 6. -/
theorem part19 (c : Dev nD) (v2 : BitVec 32) (v5 : BitVec 32) (v7 : BitVec 32) (v610 : BitVec 32) (c16_i32_361 : BitVec 32) {Q : _ → sProp 𝕄} :
    iprop(records G K ∗ Rst G c 12 5 ∗ bPts c (so c 12) (sub 12) (lq 12) G)
      ⊢ iprop((Rst G c 13 6 ∗ bPts c (so c 13) (sub 13) (lq 13) G -∗ Q (⟨(Scalar.muli v5 1#32), 0#32⟩))
          -∗ wp frame (wpE (defs₀ (F := F)) 𝒱₀ (c : Thread nD τ) none) Set.univ (k0_part19 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7 v610 c16_i32_361) Q) := by
  rw [k0_part19_eq_skeleton]
  unfold k0_part19_skel
  simp only [Prog.lift, Prog.bind_op, Prog.bind_ret, Prog.pure_eq_ret]
  iintro ⟨#HR, HS, H12⟩
  iintro Hk
  iapply (wp_send_step G K c ⟨k0_dev15 c, k0_dev15_lt c⟩ 12 5 (by decide) (by exact Fin.ext (k0_dev15_eq c)) (off := k0_off12 c 1#32) (by exact (k0_off12_eq c 1)) (by rfl) (by rfl)) $$ [HS H12]
  · isplitr; · iexact HR
    isplitl [HS]; · iexact HS
    iexact H12
  iintro HS
  iapply (wp_recv_step G K c 13 5 13 (by decide) (by decide) rfl rfl (by rfl) (by rfl)) $$ [HS]
  · isplitr; · iexact HR
    iexact HS
  iintro ⟨HS, H13⟩
  rw [wp_ret]; imodintro
  iapply Hk
  isplitl [HS]; · iexact HS
  iexact H13

/-- Part 20: transfers 13 to 14, arrivals 6 to 7. -/
theorem part20 (c : Dev nD) (v2 : BitVec 32) (v5 : BitVec 32) (v7 : BitVec 32) (v636 : BitVec 32) (c0_i32_393 : BitVec 32) {Q : _ → sProp 𝕄} :
    iprop(records G K ∗ Rst G c 13 6 ∗ bPts c (so c 13) (sub 13) (lq 13) G)
      ⊢ iprop((Rst G c 14 7 ∗ bPts c (so c 14) (sub 14) (lq 14) G -∗ Q (⟨⟩))
          -∗ wp frame (wpE (defs₀ (F := F)) 𝒱₀ (c : Thread nD τ) none) Set.univ (k0_part20 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7 v636 c0_i32_393) Q) := by
  rw [k0_part20_eq_skeleton]
  unfold k0_part20_skel
  simp only [Prog.lift, Prog.bind_op, Prog.bind_ret, Prog.pure_eq_ret]
  iintro ⟨#HR, HS, H13⟩
  iintro Hk
  iapply (wp_send_step G K c ⟨k0_dev16 c, k0_dev16_lt c⟩ 13 6 (by decide) (by exact Fin.ext (k0_dev16_eq c)) (off := k0_off13 c 1#32) (by exact (k0_off13_eq c 1)) (by rfl) (by rfl)) $$ [HS H13]
  · isplitr; · iexact HR
    isplitl [HS]; · iexact HS
    iexact H13
  iintro HS
  iapply (wp_recv_step G K c 14 6 14 (by decide) (by decide) rfl rfl (by rfl) (by rfl)) $$ [HS]
  · isplitr; · iexact HR
    iexact HS
  iintro ⟨HS, H14⟩
  rw [wp_ret]; imodintro
  iapply Hk
  isplitl [HS]; · iexact HS
  iexact H14

/-- Part 21: transfers 14 to 16, arrivals 7 to 8. -/
theorem part21 (c : Dev nD) (v2 : BitVec 32) (v5 : BitVec 32) (v7 : BitVec 32) {Q : _ → sProp 𝕄} :
    iprop(records G K ∗ Rst G c 14 7 ∗ bPts c (so c 14) (sub 14) (lq 14) G)
      ⊢ iprop((Rst G c 16 8 -∗ Q ((Scalar.subi v2 0#32)))
          -∗ wp frame (wpE (defs₀ (F := F)) 𝒱₀ (c : Thread nD τ) none) Set.univ (k0_part21 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7) Q) := by
  rw [k0_part21_eq_skeleton]
  unfold k0_part21_skel
  simp only [Prog.lift, Prog.bind_op, Prog.bind_ret, Prog.pure_eq_ret]
  iintro ⟨#HR, HS, H14⟩
  iintro Hk
  iapply (wp_send_step G K c ⟨k0_dev17 c, k0_dev17_lt c⟩ 14 7 (by decide) (by exact Fin.ext (k0_dev17_eq c)) (off := k0_off14 c 1#32) (by exact (k0_off14_eq c 1)) (by rfl) (by rfl)) $$ [HS H14]
  · isplitr; · iexact HR
    isplitl [HS]; · iexact HS
    iexact H14
  iintro HS
  iapply (wp_recv_step G K c 15 7 15 (by decide) (by decide) rfl rfl (by rfl) (by rfl)) $$ [HS]
  · isplitr; · iexact HR
    iexact HS
  iintro ⟨HS, H15⟩
  iapply (wp_send_step G K c ⟨k0_dev18 c, k0_dev18_lt c⟩ 15 8 (by decide) (by exact Fin.ext (k0_dev18_eq c)) (off := k0_off15 c 1#32) (by exact (k0_off15_eq c 1)) (by rfl) (by rfl)) $$ [HS H15]
  · isplitr; · iexact HR
    isplitl [HS]; · iexact HS
    iexact H15
  iintro HS
  rw [wp_ret]; imodintro
  iapply Hk
  iexact HS

/-- Part 22: transfers 16 to 16, arrivals 8 to 8. -/
theorem part22 (c : Dev nD) (v2 : BitVec 32) (v5 : BitVec 32) (v401 : FVec F S128x1024 .f32) (v694 : BitVec 32) (S : (cc0_scratch4 : Ref sig .tc).ty.Contents (Elt F)) {Q : _ → sProp 𝕄} :
    iprop(records G K ∗ Rst G c 16 8 ∗ selPts c S)
      ⊢ iprop((Rst G c 16 8 ∗ selPts c S -∗ Q ((k0_pay71 v401 (selV (k0_off24 c 0#32) (k0_off24_inb c 0) S) (slotV (k0_off25 c 0#32) (k0_off25_inb c 0) G) (selV (k0_off26 c 0#32) (k0_off26_inb c 0) S) (slotV (k0_off27 c 0#32) (k0_off27_inb c 0) G))))
          -∗ wp frame (wpE (defs₀ (F := F)) 𝒱₀ (c : Thread nD τ) none) Set.univ (k0_part22 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v401 v694) Q) := by
  rw [k0_part22_eq_skeleton]
  unfold k0_part22_skel
  simp only [Prog.lift, Prog.bind_op, Prog.bind_ret, Prog.pure_eq_ret]
  unfold selPts
  iintro ⟨#HR, HS, Hsel⟩
  iintro Hk
  iapply (wp_load 𝒱₀ (c : Thread nD τ) none Set.univ (m := slM) (Finset.subset_univ _)) $$ Hsel; iintro Hsel
  iapply (wp_slot_load G c 16 8 ((c.val + 15 - 0) % 16) fullShare.left (fun s => 0 + 2 * s)
    (by intro s hs; interval_cases s <;> exact ⟨by decide, rfl, rfl, rfl⟩) (off := k0_off25 c 0#32) (by exact k0_off25_eq c 0)) $$ HS
  iintro HS
  iapply (wp_load 𝒱₀ (c : Thread nD τ) none Set.univ (m := slM) (Finset.subset_univ _)) $$ Hsel; iintro Hsel
  iapply (wp_slot_load G c 16 8 ((c.val + 0 + 1) % 16) fullShare.left (fun s => 1 + 2 * s)
    (by intro s hs; interval_cases s <;> exact ⟨by decide, rfl, rfl, rfl⟩) (off := k0_off27 c 0#32) (by exact k0_off27_eq c 0)) $$ HS
  iintro HS
  rw [wp_ret]; imodintro
  iapply Hk
  isplitl [HS]; · iexact HS
  iexact Hsel

/-- Part 23: transfers 16 to 17, arrivals 8 to 10. -/
theorem part23 (c : Dev nD) (v2 : BitVec 32) (v7 : BitVec 32) {Q : _ → sProp 𝕄} :
    iprop(records G K ∗ Rst G c 16 8)
      ⊢ iprop((Rst G c 17 10 ∗ bPts c (so c 17) (sub 17) (lq 17) G -∗ Q (⟨(Scalar.addi v2 2#32), 16#32⟩))
          -∗ wp frame (wpE (defs₀ (F := F)) 𝒱₀ (c : Thread nD τ) none) Set.univ (k0_part23 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v7) Q) := by
  rw [k0_part23_eq_skeleton]
  unfold k0_part23_skel
  simp only [Prog.lift, Prog.bind_op, Prog.bind_ret, Prog.pure_eq_ret]
  iintro ⟨#HR, HS⟩
  iintro Hk
  iapply (wp_recv_step G K c 16 8 16 (by decide) (by decide) rfl rfl (by rfl) (by rfl)) $$ [HS]
  · isplitr; · iexact HR
    iexact HS
  iintro ⟨HS, H16⟩
  iapply (wp_send_step G K c ⟨k0_dev19 c, k0_dev19_lt c⟩ 16 9 (by decide) (by exact Fin.ext (k0_dev19_eq c)) (off := k0_off8 c 2#32) (by exact (k0_off8_eq c 2)) (by rfl) (by rfl)) $$ [HS H16]
  · isplitr; · iexact HR
    isplitl [HS]; · iexact HS
    iexact H16
  iintro HS
  iapply (wp_recv_step G K c 17 9 17 (by decide) (by decide) rfl rfl (by rfl) (by rfl)) $$ [HS]
  · isplitr; · iexact HR
    iexact HS
  iintro ⟨HS, H17⟩
  rw [wp_ret]; imodintro
  iapply Hk
  isplitl [HS]; · iexact HS
  iexact H17

/-- Part 24: transfers 17 to 18, arrivals 10 to 11. -/
theorem part24 (c : Dev nD) (v2 : BitVec 32) (v5 : BitVec 32) (v753 : BitVec 32) (c16_i32_508 : BitVec 32) {Q : _ → sProp 𝕄} :
    iprop(records G K ∗ Rst G c 17 10 ∗ bPts c (so c 17) (sub 17) (lq 17) G)
      ⊢ iprop((Rst G c 18 11 ∗ bPts c (so c 18) (sub 18) (lq 18) G -∗ Q (1#32))
          -∗ wp frame (wpE (defs₀ (F := F)) 𝒱₀ (c : Thread nD τ) none) Set.univ (k0_part24 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v753 c16_i32_508) Q) := by
  rw [k0_part24_eq_skeleton]
  unfold k0_part24_skel
  simp only [Prog.lift, Prog.bind_op, Prog.bind_ret, Prog.pure_eq_ret]
  iintro ⟨#HR, HS, H17⟩
  iintro Hk
  iapply (wp_send_step G K c ⟨k0_dev20 c, k0_dev20_lt c⟩ 17 10 (by decide) (by exact Fin.ext (k0_dev20_eq c)) (off := k0_off9 c 2#32) (by exact (k0_off9_eq c 2)) (by rfl) (by rfl)) $$ [HS H17]
  · isplitr; · iexact HR
    isplitl [HS]; · iexact HS
    iexact H17
  iintro HS
  iapply (wp_recv_step G K c 18 10 18 (by decide) (by decide) rfl rfl (by rfl) (by rfl)) $$ [HS]
  · isplitr; · iexact HR
    iexact HS
  iintro ⟨HS, H18⟩
  rw [wp_ret]; imodintro
  iapply Hk
  isplitl [HS]; · iexact HS
  iexact H18

/-- Part 25: transfers 18 to 19, arrivals 11 to 12. -/
theorem part25 (c : Dev nD) (v2 : BitVec 32) (v5 : BitVec 32) (v7 : BitVec 32) (c1_i32_540 : BitVec 32) {Q : _ → sProp 𝕄} :
    iprop(records G K ∗ Rst G c 18 11 ∗ bPts c (so c 18) (sub 18) (lq 18) G)
      ⊢ iprop((Rst G c 19 12 ∗ bPts c (so c 19) (sub 19) (lq 19) G -∗ Q (⟨⟩))
          -∗ wp frame (wpE (defs₀ (F := F)) 𝒱₀ (c : Thread nD τ) none) Set.univ (k0_part25 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7 c1_i32_540) Q) := by
  rw [k0_part25_eq_skeleton]
  unfold k0_part25_skel
  simp only [Prog.lift, Prog.bind_op, Prog.bind_ret, Prog.pure_eq_ret]
  iintro ⟨#HR, HS, H18⟩
  iintro Hk
  iapply (wp_send_step G K c ⟨k0_dev21 c, k0_dev21_lt c⟩ 18 11 (by decide) (by exact Fin.ext (k0_dev21_eq c)) (off := k0_off10 c 2#32) (by exact (k0_off10_eq c 2)) (by rfl) (by rfl)) $$ [HS H18]
  · isplitr; · iexact HR
    isplitl [HS]; · iexact HS
    iexact H18
  iintro HS
  iapply (wp_recv_step G K c 19 11 19 (by decide) (by decide) rfl rfl (by rfl) (by rfl)) $$ [HS]
  · isplitr; · iexact HR
    iexact HS
  iintro ⟨HS, H19⟩
  rw [wp_ret]; imodintro
  iapply Hk
  isplitl [HS]; · iexact HS
  iexact H19

/-- Part 26: transfers 19 to 21, arrivals 12 to 13. -/
theorem part26 (c : Dev nD) (v2 : BitVec 32) (v5 : BitVec 32) (v7 : BitVec 32) {Q : _ → sProp 𝕄} :
    iprop(records G K ∗ Rst G c 19 12 ∗ bPts c (so c 19) (sub 19) (lq 19) G)
      ⊢ iprop((Rst G c 21 13 -∗ Q (⟨⟩))
          -∗ wp frame (wpE (defs₀ (F := F)) 𝒱₀ (c : Thread nD τ) none) Set.univ (k0_part26 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7) Q) := by
  rw [k0_part26_eq_skeleton]
  unfold k0_part26_skel
  simp only [Prog.lift, Prog.bind_op, Prog.bind_ret, Prog.pure_eq_ret]
  iintro ⟨#HR, HS, H19⟩
  iintro Hk
  iapply (wp_send_step G K c ⟨k0_dev22 c, k0_dev22_lt c⟩ 19 12 (by decide) (by exact Fin.ext (k0_dev22_eq c)) (off := k0_off11 c 2#32) (by exact (k0_off11_eq c 2)) (by rfl) (by rfl)) $$ [HS H19]
  · isplitr; · iexact HR
    isplitl [HS]; · iexact HS
    iexact H19
  iintro HS
  iapply (wp_recv_step G K c 20 12 20 (by decide) (by decide) rfl rfl (by rfl) (by rfl)) $$ [HS]
  · isplitr; · iexact HR
    iexact HS
  iintro ⟨HS, H20⟩
  iapply (wp_send_step G K c ⟨k0_dev23 c, k0_dev23_lt c⟩ 20 13 (by decide) (by exact Fin.ext (k0_dev23_eq c)) (off := k0_off12 c 2#32) (by exact (k0_off12_eq c 2)) (by rfl) (by rfl)) $$ [HS H20]
  · isplitr; · iexact HR
    isplitl [HS]; · iexact HS
    iexact H20
  iintro HS
  rw [wp_ret]; imodintro
  iapply Hk
  iexact HS

/-- Part 27: transfers 21 to 22, arrivals 13 to 14. -/
theorem part27 (c : Dev nD) (v2 : BitVec 32) (v5 : BitVec 32) (v7 : BitVec 32) {Q : _ → sProp 𝕄} :
    iprop(records G K ∗ Rst G c 21 13)
      ⊢ iprop((Rst G c 22 14 -∗ Q (⟨⟩))
          -∗ wp frame (wpE (defs₀ (F := F)) 𝒱₀ (c : Thread nD τ) none) Set.univ (k0_part27 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7) Q) := by
  rw [k0_part27_eq_skeleton]
  unfold k0_part27_skel
  simp only [Prog.lift, Prog.bind_op, Prog.bind_ret, Prog.pure_eq_ret]
  iintro ⟨#HR, HS⟩
  iintro Hk
  iapply (wp_recv_step G K c 21 13 21 (by decide) (by decide) rfl rfl (by rfl) (by rfl)) $$ [HS]
  · isplitr; · iexact HR
    iexact HS
  iintro ⟨HS, H21⟩
  iapply (wp_send_step G K c ⟨k0_dev24 c, k0_dev24_lt c⟩ 21 14 (by decide) (by exact Fin.ext (k0_dev24_eq c)) (off := k0_off13 c 2#32) (by exact (k0_off13_eq c 2)) (by rfl) (by rfl)) $$ [HS H21]
  · isplitr; · iexact HR
    isplitl [HS]; · iexact HS
    iexact H21
  iintro HS
  rw [wp_ret]; imodintro
  iapply Hk
  iexact HS

/-- Part 28: transfers 22 to 23, arrivals 14 to 15. -/
theorem part28 (c : Dev nD) (v2 : BitVec 32) (v5 : BitVec 32) (v7 : BitVec 32) {Q : _ → sProp 𝕄} :
    iprop(records G K ∗ Rst G c 22 14)
      ⊢ iprop((Rst G c 23 15 -∗ Q (⟨⟩))
          -∗ wp frame (wpE (defs₀ (F := F)) 𝒱₀ (c : Thread nD τ) none) Set.univ (k0_part28 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7) Q) := by
  rw [k0_part28_eq_skeleton]
  unfold k0_part28_skel
  simp only [Prog.lift, Prog.bind_op, Prog.bind_ret, Prog.pure_eq_ret]
  iintro ⟨#HR, HS⟩
  iintro Hk
  iapply (wp_recv_step G K c 22 14 22 (by decide) (by decide) rfl rfl (by rfl) (by rfl)) $$ [HS]
  · isplitr; · iexact HR
    iexact HS
  iintro ⟨HS, H22⟩
  iapply (wp_send_step G K c ⟨k0_dev25 c, k0_dev25_lt c⟩ 22 15 (by decide) (by exact Fin.ext (k0_dev25_eq c)) (off := k0_off14 c 2#32) (by exact (k0_off14_eq c 2)) (by rfl) (by rfl)) $$ [HS H22]
  · isplitr; · iexact HR
    isplitl [HS]; · iexact HS
    iexact H22
  iintro HS
  rw [wp_ret]; imodintro
  iapply Hk
  iexact HS

/-- Part 29: transfers 23 to 24, arrivals 15 to 16. -/
theorem part29 (c : Dev nD) (v2 : BitVec 32) (v5 : BitVec 32) (v716 : FVec F S128x1024 .f32) (S : (cc0_scratch4 : Ref sig .tc).ty.Contents (Elt F)) {Q : _ → sProp 𝕄} :
    iprop(records G K ∗ Rst G c 23 15 ∗ selPts c S)
      ⊢ iprop((Rst G c 24 16 ∗ selPts c S -∗ Q (⟨k0_pay72 v716 (selV (k0_off24 c 1#32) (k0_off24_inb c 1) S) (slotV (k0_off25 c 1#32) (k0_off25_inb c 1) G), (Scalar.addi (Scalar.addi v2 1#32) 1#32), 16#32⟩))
          -∗ wp frame (wpE (defs₀ (F := F)) 𝒱₀ (c : Thread nD τ) none) Set.univ (k0_part29 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v716) Q) := by
  rw [k0_part29_eq_skeleton]
  unfold k0_part29_skel
  simp only [Prog.lift, Prog.bind_op, Prog.bind_ret, Prog.pure_eq_ret]
  unfold selPts
  iintro ⟨#HR, HS, Hsel⟩
  iintro Hk
  iapply (wp_recv_step G K c 23 15 23 (by decide) (by decide) rfl rfl (by rfl) (by rfl)) $$ [HS]
  · isplitr; · iexact HR
    iexact HS
  iintro ⟨HS, H23⟩
  iapply (wp_send_step G K c ⟨k0_dev26 c, k0_dev26_lt c⟩ 23 16 (by decide) (by exact Fin.ext (k0_dev26_eq c)) (off := k0_off15 c 2#32) (by exact (k0_off15_eq c 2)) (by rfl) (by rfl)) $$ [HS H23]
  · isplitr; · iexact HR
    isplitl [HS]; · iexact HS
    iexact H23
  iintro HS
  iapply (wp_load 𝒱₀ (c : Thread nD τ) none Set.univ (m := slM) (Finset.subset_univ _)) $$ Hsel; iintro Hsel
  iapply (wp_slot_load G c 24 16 ((c.val + 15 - 1) % 16) fullShare.left (fun s => 8 + 2 * s)
    (by intro s hs; interval_cases s <;> exact ⟨by decide, rfl, rfl, rfl⟩) (off := k0_off25 c 1#32) (by exact k0_off25_eq c 1)) $$ HS
  iintro HS
  rw [wp_ret]; imodintro
  iapply Hk
  isplitl [HS]; · iexact HS
  iexact Hsel

/-- Part 30: transfers 24 to 24, arrivals 16 to 17. -/
theorem part30 (c : Dev nD) (v2 : BitVec 32) (v5 : BitVec 32) (v7 : BitVec 32) (v920 : FVec F S128x1024 .f32) (v922 : BitVec 32) (c16_i32_686 : BitVec 32) (S : (cc0_scratch4 : Ref sig .tc).ty.Contents (Elt F)) {Q : _ → sProp 𝕄} :
    iprop(records G K ∗ Rst G c 24 16 ∗ selPts c S)
      ⊢ iprop((Rst G c 24 17 ∗ bPts c (so c 24) (sub 24) (lq 24) G ∗ selPts c S -∗ Q ((k0_pay73 v920 (selV (k0_off26 c 1#32) (k0_off26_inb c 1) S) (slotV (k0_off27 c 1#32) (k0_off27_inb c 1) G))))
          -∗ wp frame (wpE (defs₀ (F := F)) 𝒱₀ (c : Thread nD τ) none) Set.univ (k0_part30 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7 v920 v922 c16_i32_686) Q) := by
  rw [k0_part30_eq_skeleton]
  unfold k0_part30_skel
  simp only [Prog.lift, Prog.bind_op, Prog.bind_ret, Prog.pure_eq_ret]
  unfold selPts
  iintro ⟨#HR, HS, Hsel⟩
  iintro Hk
  iapply (wp_load 𝒱₀ (c : Thread nD τ) none Set.univ (m := slM) (Finset.subset_univ _)) $$ Hsel; iintro Hsel
  iapply (wp_slot_load G c 24 16 ((c.val + 1 + 1) % 16) fullShare.left (fun s => 9 + 2 * s)
    (by intro s hs; interval_cases s <;> exact ⟨by decide, rfl, rfl, rfl⟩) (off := k0_off27 c 1#32) (by exact k0_off27_eq c 1)) $$ HS
  iintro HS
  iapply (wp_recv_step G K c 24 16 24 (by decide) (by decide) rfl rfl (by rfl) (by rfl)) $$ [HS]
  · isplitr; · iexact HR
    iexact HS
  iintro ⟨HS, H24⟩
  rw [wp_ret]; imodintro
  iapply Hk
  isplitl [HS]; · iexact HS
  isplitl [H24]; · iexact H24
  iexact Hsel

/-- Part 31: transfers 24 to 26, arrivals 17 to 18. -/
theorem part31 (c : Dev nD) (v2 : BitVec 32) (v5 : BitVec 32) (v7 : BitVec 32) {Q : _ → sProp 𝕄} :
    iprop(records G K ∗ Rst G c 24 17 ∗ bPts c (so c 24) (sub 24) (lq 24) G)
      ⊢ iprop((Rst G c 26 18 -∗ Q ((Scalar.subi v2 2#32)))
          -∗ wp frame (wpE (defs₀ (F := F)) 𝒱₀ (c : Thread nD τ) none) Set.univ (k0_part31 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7) Q) := by
  rw [k0_part31_eq_skeleton]
  unfold k0_part31_skel
  simp only [Prog.lift, Prog.bind_op, Prog.bind_ret, Prog.pure_eq_ret]
  iintro ⟨#HR, HS, H24⟩
  iintro Hk
  iapply (wp_send_step G K c ⟨k0_dev27 c, k0_dev27_lt c⟩ 24 17 (by decide) (by exact Fin.ext (k0_dev27_eq c)) (off := k0_off8 c 3#32) (by exact (k0_off8_eq c 3)) (by rfl) (by rfl)) $$ [HS H24]
  · isplitr; · iexact HR
    isplitl [HS]; · iexact HS
    iexact H24
  iintro HS
  iapply (wp_recv_step G K c 25 17 25 (by decide) (by decide) rfl rfl (by rfl) (by rfl)) $$ [HS]
  · isplitr; · iexact HR
    iexact HS
  iintro ⟨HS, H25⟩
  iapply (wp_send_step G K c ⟨k0_dev28 c, k0_dev28_lt c⟩ 25 18 (by decide) (by exact Fin.ext (k0_dev28_eq c)) (off := k0_off9 c 3#32) (by exact (k0_off9_eq c 3)) (by rfl) (by rfl)) $$ [HS H25]
  · isplitr; · iexact HR
    isplitl [HS]; · iexact HS
    iexact H25
  iintro HS
  rw [wp_ret]; imodintro
  iapply Hk
  iexact HS

/-- Part 32: transfers 26 to 27, arrivals 18 to 19. -/
theorem part32 (c : Dev nD) (v2 : BitVec 32) (v5 : BitVec 32) (v7 : BitVec 32) (v980 : BitVec 32) {Q : _ → sProp 𝕄} :
    iprop(records G K ∗ Rst G c 26 18)
      ⊢ iprop((Rst G c 27 19 -∗ Q (⟨⟩))
          -∗ wp frame (wpE (defs₀ (F := F)) 𝒱₀ (c : Thread nD τ) none) Set.univ (k0_part32 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7 v980) Q) := by
  rw [k0_part32_eq_skeleton]
  unfold k0_part32_skel
  simp only [Prog.lift, Prog.bind_op, Prog.bind_ret, Prog.pure_eq_ret]
  iintro ⟨#HR, HS⟩
  iintro Hk
  iapply (wp_recv_step G K c 26 18 26 (by decide) (by decide) rfl rfl (by rfl) (by rfl)) $$ [HS]
  · isplitr; · iexact HR
    iexact HS
  iintro ⟨HS, H26⟩
  iapply (wp_send_step G K c ⟨k0_dev29 c, k0_dev29_lt c⟩ 26 19 (by decide) (by exact Fin.ext (k0_dev29_eq c)) (off := k0_off10 c 3#32) (by exact (k0_off10_eq c 3)) (by rfl) (by rfl)) $$ [HS H26]
  · isplitr; · iexact HR
    isplitl [HS]; · iexact HS
    iexact H26
  iintro HS
  rw [wp_ret]; imodintro
  iapply Hk
  iexact HS

/-- Part 33: transfers 27 to 28, arrivals 19 to 20. -/
theorem part33 (c : Dev nD) (v2 : BitVec 32) (v5 : BitVec 32) (v7 : BitVec 32) {Q : _ → sProp 𝕄} :
    iprop(records G K ∗ Rst G c 27 19)
      ⊢ iprop((Rst G c 28 20 -∗ Q (⟨⟩))
          -∗ wp frame (wpE (defs₀ (F := F)) 𝒱₀ (c : Thread nD τ) none) Set.univ (k0_part33 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7) Q) := by
  rw [k0_part33_eq_skeleton]
  unfold k0_part33_skel
  simp only [Prog.lift, Prog.bind_op, Prog.bind_ret, Prog.pure_eq_ret]
  iintro ⟨#HR, HS⟩
  iintro Hk
  iapply (wp_recv_step G K c 27 19 27 (by decide) (by decide) rfl rfl (by rfl) (by rfl)) $$ [HS]
  · isplitr; · iexact HR
    iexact HS
  iintro ⟨HS, H27⟩
  iapply (wp_send_step G K c ⟨k0_dev30 c, k0_dev30_lt c⟩ 27 20 (by decide) (by exact Fin.ext (k0_dev30_eq c)) (off := k0_off11 c 3#32) (by exact (k0_off11_eq c 3)) (by rfl) (by rfl)) $$ [HS H27]
  · isplitr; · iexact HR
    isplitl [HS]; · iexact HS
    iexact H27
  iintro HS
  rw [wp_ret]; imodintro
  iapply Hk
  iexact HS

end Cert.KernelIdeal.Ring
-- ==== Proof.KernelIdeal.Parts2.lean ====
/-
# `Parts2`: the kernel's parts 34 to 60, step by step
-/
module

public import proofs.«01_k».proof.Proof.KernelIdeal.Parts1

@[expose] public section

noncomputable section

namespace Cert.KernelIdeal.Ring

open Cert.KernelIdeal Cert.KernelIdeal.Gen

open Idealize.ShloMosaic
open Memref (isWhole_whole)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (G : (cc0_scratch0 : Ref sig .tc).ty.Contents (Elt F)) (K : Dev nD × Fin 121 → ℕ)

/-- Part 34: transfers 28 to 29, arrivals 20 to 21. -/
theorem part34 (c : Dev nD) (v2 : BitVec 32) (v7 : BitVec 32) {Q : _ → sProp 𝕄} :
    iprop(records G K ∗ Rst G c 28 20)
      ⊢ iprop((Rst G c 29 21 -∗ Q (⟨⟩))
          -∗ wp frame (wpE (defs₀ (F := F)) 𝒱₀ (c : Thread nD τ) none) Set.univ (k0_part34 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v7) Q) := by
  rw [k0_part34_eq_skeleton]
  unfold k0_part34_skel
  simp only [Prog.lift, Prog.bind_op, Prog.bind_ret, Prog.pure_eq_ret]
  iintro ⟨#HR, HS⟩
  iintro Hk
  iapply (wp_recv_step G K c 28 20 28 (by decide) (by decide) rfl rfl (by rfl) (by rfl)) $$ [HS]
  · isplitr; · iexact HR
    iexact HS
  iintro ⟨HS, H28⟩
  iapply (wp_send_step G K c ⟨k0_dev31 c, k0_dev31_lt c⟩ 28 21 (by decide) (by exact Fin.ext (k0_dev31_eq c)) (off := k0_off12 c 3#32) (by exact (k0_off12_eq c 3)) (by rfl) (by rfl)) $$ [HS H28]
  · isplitr; · iexact HR
    isplitl [HS]; · iexact HS
    iexact H28
  iintro HS
  rw [wp_ret]; imodintro
  iapply Hk
  iexact HS

/-- Part 35: transfers 29 to 30, arrivals 21 to 23. -/
theorem part35 (c : Dev nD) (v2 : BitVec 32) (v5 : BitVec 32) {Q : _ → sProp 𝕄} :
    iprop(records G K ∗ Rst G c 29 21)
      ⊢ iprop((Rst G c 30 23 ∗ bPts c (so c 30) (sub 30) (lq 30) G -∗ Q (⟨⟩))
          -∗ wp frame (wpE (defs₀ (F := F)) 𝒱₀ (c : Thread nD τ) none) Set.univ (k0_part35 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5) Q) := by
  rw [k0_part35_eq_skeleton]
  unfold k0_part35_skel
  simp only [Prog.lift, Prog.bind_op, Prog.bind_ret, Prog.pure_eq_ret]
  iintro ⟨#HR, HS⟩
  iintro Hk
  iapply (wp_recv_step G K c 29 21 29 (by decide) (by decide) rfl rfl (by rfl) (by rfl)) $$ [HS]
  · isplitr; · iexact HR
    iexact HS
  iintro ⟨HS, H29⟩
  iapply (wp_send_step G K c ⟨k0_dev32 c, k0_dev32_lt c⟩ 29 22 (by decide) (by exact Fin.ext (k0_dev32_eq c)) (off := k0_off13 c 3#32) (by exact (k0_off13_eq c 3)) (by rfl) (by rfl)) $$ [HS H29]
  · isplitr; · iexact HR
    isplitl [HS]; · iexact HS
    iexact H29
  iintro HS
  iapply (wp_recv_step G K c 30 22 30 (by decide) (by decide) rfl rfl (by rfl) (by rfl)) $$ [HS]
  · isplitr; · iexact HR
    iexact HS
  iintro ⟨HS, H30⟩
  rw [wp_ret]; imodintro
  iapply Hk
  isplitl [HS]; · iexact HS
  iexact H30

/-- Part 36: transfers 30 to 31, arrivals 23 to 24. -/
theorem part36 (c : Dev nD) (v2 : BitVec 32) (v5 : BitVec 32) (v7 : BitVec 32) {Q : _ → sProp 𝕄} :
    iprop(records G K ∗ Rst G c 30 23 ∗ bPts c (so c 30) (sub 30) (lq 30) G)
      ⊢ iprop((Rst G c 31 24 ∗ bPts c (so c 31) (sub 31) (lq 31) G -∗ Q (⟨⟩))
          -∗ wp frame (wpE (defs₀ (F := F)) 𝒱₀ (c : Thread nD τ) none) Set.univ (k0_part36 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7) Q) := by
  rw [k0_part36_eq_skeleton]
  unfold k0_part36_skel
  simp only [Prog.lift, Prog.bind_op, Prog.bind_ret, Prog.pure_eq_ret]
  iintro ⟨#HR, HS, H30⟩
  iintro Hk
  iapply (wp_send_step G K c ⟨k0_dev33 c, k0_dev33_lt c⟩ 30 23 (by decide) (by exact Fin.ext (k0_dev33_eq c)) (off := k0_off14 c 3#32) (by exact (k0_off14_eq c 3)) (by rfl) (by rfl)) $$ [HS H30]
  · isplitr; · iexact HR
    isplitl [HS]; · iexact HS
    iexact H30
  iintro HS
  iapply (wp_recv_step G K c 31 23 31 (by decide) (by decide) rfl rfl (by rfl) (by rfl)) $$ [HS]
  · isplitr; · iexact HR
    iexact HS
  iintro ⟨HS, H31⟩
  rw [wp_ret]; imodintro
  iapply Hk
  isplitl [HS]; · iexact HS
  iexact H31

/-- Part 37: transfers 31 to 32, arrivals 24 to 24. -/
theorem part37 (c : Dev nD) (v2 : BitVec 32) (v931 : FVec F S128x1024 .f32) (S : (cc0_scratch4 : Ref sig .tc).ty.Contents (Elt F)) {Q : _ → sProp 𝕄} :
    iprop(records G K ∗ Rst G c 31 24 ∗ bPts c (so c 31) (sub 31) (lq 31) G ∗ selPts c S)
      ⊢ iprop((Rst G c 32 24 ∗ selPts c S -∗ Q ((k0_pay74 v931 (selV (k0_off24 c 2#32) (k0_off24_inb c 2) S) (slotV (k0_off25 c 2#32) (k0_off25_inb c 2) G) (selV (k0_off26 c 2#32) (k0_off26_inb c 2) S) (slotV (k0_off27 c 2#32) (k0_off27_inb c 2) G))))
          -∗ wp frame (wpE (defs₀ (F := F)) 𝒱₀ (c : Thread nD τ) none) Set.univ (k0_part37 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v931) Q) := by
  rw [k0_part37_eq_skeleton]
  unfold k0_part37_skel
  simp only [Prog.lift, Prog.bind_op, Prog.bind_ret, Prog.pure_eq_ret]
  unfold selPts
  iintro ⟨#HR, HS, H31, Hsel⟩
  iintro Hk
  iapply (wp_send_step G K c ⟨k0_dev34 c, k0_dev34_lt c⟩ 31 24 (by decide) (by exact Fin.ext (k0_dev34_eq c)) (off := k0_off15 c 3#32) (by exact (k0_off15_eq c 3)) (by rfl) (by rfl)) $$ [HS H31]
  · isplitr; · iexact HR
    isplitl [HS]; · iexact HS
    iexact H31
  iintro HS
  iapply (wp_load 𝒱₀ (c : Thread nD τ) none Set.univ (m := slM) (Finset.subset_univ _)) $$ Hsel; iintro Hsel
  iapply (wp_slot_load G c 32 24 ((c.val + 15 - 2) % 16) fullShare.left (fun s => 16 + 2 * s)
    (by intro s hs; interval_cases s <;> exact ⟨by decide, rfl, rfl, rfl⟩) (off := k0_off25 c 2#32) (by exact k0_off25_eq c 2)) $$ HS
  iintro HS
  iapply (wp_load 𝒱₀ (c : Thread nD τ) none Set.univ (m := slM) (Finset.subset_univ _)) $$ Hsel; iintro Hsel
  iapply (wp_slot_load G c 32 24 ((c.val + 2 + 1) % 16) fullShare.left (fun s => 17 + 2 * s)
    (by intro s hs; interval_cases s <;> exact ⟨by decide, rfl, rfl, rfl⟩) (off := k0_off27 c 2#32) (by exact k0_off27_eq c 2)) $$ HS
  iintro HS
  rw [wp_ret]; imodintro
  iapply Hk
  isplitl [HS]; · iexact HS
  iexact Hsel

/-- Part 38: transfers 32 to 33, arrivals 24 to 25. -/
theorem part38 (c : Dev nD) (v2 : BitVec 32) (v5 : BitVec 32) (v7 : BitVec 32) {Q : _ → sProp 𝕄} :
    iprop(records G K ∗ Rst G c 32 24)
      ⊢ iprop((Rst G c 33 25 -∗ Q (⟨⟩))
          -∗ wp frame (wpE (defs₀ (F := F)) 𝒱₀ (c : Thread nD τ) none) Set.univ (k0_part38 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7) Q) := by
  rw [k0_part38_eq_skeleton]
  unfold k0_part38_skel
  simp only [Prog.lift, Prog.bind_op, Prog.bind_ret, Prog.pure_eq_ret]
  iintro ⟨#HR, HS⟩
  iintro Hk
  iapply (wp_recv_step G K c 32 24 32 (by decide) (by decide) rfl rfl (by rfl) (by rfl)) $$ [HS]
  · isplitr; · iexact HR
    iexact HS
  iintro ⟨HS, H32⟩
  iapply (wp_send_step G K c ⟨k0_dev35 c, k0_dev35_lt c⟩ 32 25 (by decide) (by exact Fin.ext (k0_dev35_eq c)) (off := k0_off8 c 4#32) (by exact (k0_off8_eq c 4)) (by rfl) (by rfl)) $$ [HS H32]
  · isplitr; · iexact HR
    isplitl [HS]; · iexact HS
    iexact H32
  iintro HS
  rw [wp_ret]; imodintro
  iapply Hk
  iexact HS

/-- Part 39: transfers 33 to 34, arrivals 25 to 26. -/
theorem part39 (c : Dev nD) (v2 : BitVec 32) (v5 : BitVec 32) {Q : _ → sProp 𝕄} :
    iprop(records G K ∗ Rst G c 33 25)
      ⊢ iprop((Rst G c 34 26 -∗ Q (⟨⟩))
          -∗ wp frame (wpE (defs₀ (F := F)) 𝒱₀ (c : Thread nD τ) none) Set.univ (k0_part39 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5) Q) := by
  rw [k0_part39_eq_skeleton]
  unfold k0_part39_skel
  simp only [Prog.lift, Prog.bind_op, Prog.bind_ret, Prog.pure_eq_ret]
  iintro ⟨#HR, HS⟩
  iintro Hk
  iapply (wp_recv_step G K c 33 25 33 (by decide) (by decide) rfl rfl (by rfl) (by rfl)) $$ [HS]
  · isplitr; · iexact HR
    iexact HS
  iintro ⟨HS, H33⟩
  iapply (wp_send_step G K c ⟨k0_dev36 c, k0_dev36_lt c⟩ 33 26 (by decide) (by exact Fin.ext (k0_dev36_eq c)) (off := k0_off9 c 4#32) (by exact (k0_off9_eq c 4)) (by rfl) (by rfl)) $$ [HS H33]
  · isplitr; · iexact HR
    isplitl [HS]; · iexact HS
    iexact H33
  iintro HS
  rw [wp_ret]; imodintro
  iapply Hk
  iexact HS

/-- Part 40: transfers 34 to 35, arrivals 26 to 28. -/
theorem part40 (c : Dev nD) (v2 : BitVec 32) (v7 : BitVec 32) {Q : _ → sProp 𝕄} :
    iprop(records G K ∗ Rst G c 34 26)
      ⊢ iprop((Rst G c 35 28 ∗ bPts c (so c 35) (sub 35) (lq 35) G -∗ Q (⟨⟩))
          -∗ wp frame (wpE (defs₀ (F := F)) 𝒱₀ (c : Thread nD τ) none) Set.univ (k0_part40 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v7) Q) := by
  rw [k0_part40_eq_skeleton]
  unfold k0_part40_skel
  simp only [Prog.lift, Prog.bind_op, Prog.bind_ret, Prog.pure_eq_ret]
  iintro ⟨#HR, HS⟩
  iintro Hk
  iapply (wp_recv_step G K c 34 26 34 (by decide) (by decide) rfl rfl (by rfl) (by rfl)) $$ [HS]
  · isplitr; · iexact HR
    iexact HS
  iintro ⟨HS, H34⟩
  iapply (wp_send_step G K c ⟨k0_dev37 c, k0_dev37_lt c⟩ 34 27 (by decide) (by exact Fin.ext (k0_dev37_eq c)) (off := k0_off10 c 4#32) (by exact (k0_off10_eq c 4)) (by rfl) (by rfl)) $$ [HS H34]
  · isplitr; · iexact HR
    isplitl [HS]; · iexact HS
    iexact H34
  iintro HS
  iapply (wp_recv_step G K c 35 27 35 (by decide) (by decide) rfl rfl (by rfl) (by rfl)) $$ [HS]
  · isplitr; · iexact HR
    iexact HS
  iintro ⟨HS, H35⟩
  rw [wp_ret]; imodintro
  iapply Hk
  isplitl [HS]; · iexact HS
  iexact H35

/-- Part 41: transfers 35 to 36, arrivals 28 to 29. -/
theorem part41 (c : Dev nD) (v2 : BitVec 32) (v5 : BitVec 32) (v7 : BitVec 32) {Q : _ → sProp 𝕄} :
    iprop(records G K ∗ Rst G c 35 28 ∗ bPts c (so c 35) (sub 35) (lq 35) G)
      ⊢ iprop((Rst G c 36 29 ∗ bPts c (so c 36) (sub 36) (lq 36) G -∗ Q (⟨⟩))
          -∗ wp frame (wpE (defs₀ (F := F)) 𝒱₀ (c : Thread nD τ) none) Set.univ (k0_part41 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7) Q) := by
  rw [k0_part41_eq_skeleton]
  unfold k0_part41_skel
  simp only [Prog.lift, Prog.bind_op, Prog.bind_ret, Prog.pure_eq_ret]
  iintro ⟨#HR, HS, H35⟩
  iintro Hk
  iapply (wp_send_step G K c ⟨k0_dev38 c, k0_dev38_lt c⟩ 35 28 (by decide) (by exact Fin.ext (k0_dev38_eq c)) (off := k0_off11 c 4#32) (by exact (k0_off11_eq c 4)) (by rfl) (by rfl)) $$ [HS H35]
  · isplitr; · iexact HR
    isplitl [HS]; · iexact HS
    iexact H35
  iintro HS
  iapply (wp_recv_step G K c 36 28 36 (by decide) (by decide) rfl rfl (by rfl) (by rfl)) $$ [HS]
  · isplitr; · iexact HR
    iexact HS
  iintro ⟨HS, H36⟩
  rw [wp_ret]; imodintro
  iapply Hk
  isplitl [HS]; · iexact HS
  iexact H36

/-- Part 42: transfers 36 to 37, arrivals 29 to 30. -/
theorem part42 (c : Dev nD) (v2 : BitVec 32) (v5 : BitVec 32) (v7 : BitVec 32) {Q : _ → sProp 𝕄} :
    iprop(records G K ∗ Rst G c 36 29 ∗ bPts c (so c 36) (sub 36) (lq 36) G)
      ⊢ iprop((Rst G c 37 30 ∗ bPts c (so c 37) (sub 37) (lq 37) G -∗ Q (⟨⟩))
          -∗ wp frame (wpE (defs₀ (F := F)) 𝒱₀ (c : Thread nD τ) none) Set.univ (k0_part42 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7) Q) := by
  rw [k0_part42_eq_skeleton]
  unfold k0_part42_skel
  simp only [Prog.lift, Prog.bind_op, Prog.bind_ret, Prog.pure_eq_ret]
  iintro ⟨#HR, HS, H36⟩
  iintro Hk
  iapply (wp_send_step G K c ⟨k0_dev39 c, k0_dev39_lt c⟩ 36 29 (by decide) (by exact Fin.ext (k0_dev39_eq c)) (off := k0_off12 c 4#32) (by exact (k0_off12_eq c 4)) (by rfl) (by rfl)) $$ [HS H36]
  · isplitr; · iexact HR
    isplitl [HS]; · iexact HS
    iexact H36
  iintro HS
  iapply (wp_recv_step G K c 37 29 37 (by decide) (by decide) rfl rfl (by rfl) (by rfl)) $$ [HS]
  · isplitr; · iexact HR
    iexact HS
  iintro ⟨HS, H37⟩
  rw [wp_ret]; imodintro
  iapply Hk
  isplitl [HS]; · iexact HS
  iexact H37

/-- Part 43: transfers 37 to 39, arrivals 30 to 31. -/
theorem part43 (c : Dev nD) (v2 : BitVec 32) (v5 : BitVec 32) (v7 : BitVec 32) {Q : _ → sProp 𝕄} :
    iprop(records G K ∗ Rst G c 37 30 ∗ bPts c (so c 37) (sub 37) (lq 37) G)
      ⊢ iprop((Rst G c 39 31 -∗ Q ((Scalar.addi (Scalar.addi v2 3#32) 1#32)))
          -∗ wp frame (wpE (defs₀ (F := F)) 𝒱₀ (c : Thread nD τ) none) Set.univ (k0_part43 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7) Q) := by
  rw [k0_part43_eq_skeleton]
  unfold k0_part43_skel
  simp only [Prog.lift, Prog.bind_op, Prog.bind_ret, Prog.pure_eq_ret]
  iintro ⟨#HR, HS, H37⟩
  iintro Hk
  iapply (wp_send_step G K c ⟨k0_dev40 c, k0_dev40_lt c⟩ 37 30 (by decide) (by exact Fin.ext (k0_dev40_eq c)) (off := k0_off13 c 4#32) (by exact (k0_off13_eq c 4)) (by rfl) (by rfl)) $$ [HS H37]
  · isplitr; · iexact HR
    isplitl [HS]; · iexact HS
    iexact H37
  iintro HS
  iapply (wp_recv_step G K c 38 30 38 (by decide) (by decide) rfl rfl (by rfl) (by rfl)) $$ [HS]
  · isplitr; · iexact HR
    iexact HS
  iintro ⟨HS, H38⟩
  iapply (wp_send_step G K c ⟨k0_dev41 c, k0_dev41_lt c⟩ 38 31 (by decide) (by exact Fin.ext (k0_dev41_eq c)) (off := k0_off14 c 4#32) (by exact (k0_off14_eq c 4)) (by rfl) (by rfl)) $$ [HS H38]
  · isplitr; · iexact HR
    isplitl [HS]; · iexact HS
    iexact H38
  iintro HS
  rw [wp_ret]; imodintro
  iapply Hk
  iexact HS

/-- Part 44: transfers 39 to 40, arrivals 31 to 32. -/
theorem part44 (c : Dev nD) (v2 : BitVec 32) (v5 : BitVec 32) (v7 : BitVec 32) (v1317 : BitVec 32) (S : (cc0_scratch4 : Ref sig .tc).ty.Contents (Elt F)) {Q : _ → sProp 𝕄} :
    iprop(records G K ∗ Rst G c 39 31 ∗ selPts c S)
      ⊢ iprop((Rst G c 40 32 ∗ selPts c S -∗ Q ((selV (k0_off24 c 3#32) (k0_off24_inb c 3) S)))
          -∗ wp frame (wpE (defs₀ (F := F)) 𝒱₀ (c : Thread nD τ) none) Set.univ (k0_part44 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7 v1317) Q) := by
  rw [k0_part44_eq_skeleton]
  unfold k0_part44_skel
  simp only [Prog.lift, Prog.bind_op, Prog.bind_ret, Prog.pure_eq_ret]
  unfold selPts
  iintro ⟨#HR, HS, Hsel⟩
  iintro Hk
  iapply (wp_recv_step G K c 39 31 39 (by decide) (by decide) rfl rfl (by rfl) (by rfl)) $$ [HS]
  · isplitr; · iexact HR
    iexact HS
  iintro ⟨HS, H39⟩
  iapply (wp_send_step G K c ⟨k0_dev42 c, k0_dev42_lt c⟩ 39 32 (by decide) (by exact Fin.ext (k0_dev42_eq c)) (off := k0_off15 c 4#32) (by exact (k0_off15_eq c 4)) (by rfl) (by rfl)) $$ [HS H39]
  · isplitr; · iexact HR
    isplitl [HS]; · iexact HS
    iexact H39
  iintro HS
  iapply (wp_load 𝒱₀ (c : Thread nD τ) none Set.univ (m := slM) (Finset.subset_univ _)) $$ Hsel; iintro Hsel
  rw [wp_ret]; imodintro
  iapply Hk
  isplitl [HS]; · iexact HS
  iexact Hsel

/-- Part 45: transfers 40 to 40, arrivals 32 to 33. -/
theorem part45 (c : Dev nD) (v2 : BitVec 32) (v5 : BitVec 32) (v1146 : FVec F S128x1024 .f32) (v1345 : Vec F S128x128 .bf16) (S : (cc0_scratch4 : Ref sig .tc).ty.Contents (Elt F)) {Q : _ → sProp 𝕄} :
    iprop(records G K ∗ Rst G c 40 32 ∗ selPts c S)
      ⊢ iprop((Rst G c 40 33 ∗ bPts c (so c 40) (sub 40) (lq 40) G ∗ selPts c S -∗ Q ((k0_pay75 v1146 v1345 (slotV (k0_off25 c 3#32) (k0_off25_inb c 3) G) (selV (k0_off26 c 3#32) (k0_off26_inb c 3) S) (slotV (k0_off27 c 3#32) (k0_off27_inb c 3) G))))
          -∗ wp frame (wpE (defs₀ (F := F)) 𝒱₀ (c : Thread nD τ) none) Set.univ (k0_part45 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v1146 v1345) Q) := by
  rw [k0_part45_eq_skeleton]
  unfold k0_part45_skel
  simp only [Prog.lift, Prog.bind_op, Prog.bind_ret, Prog.pure_eq_ret]
  unfold selPts
  iintro ⟨#HR, HS, Hsel⟩
  iintro Hk
  iapply (wp_slot_load G c 40 32 ((c.val + 15 - 3) % 16) fullShare.left (fun s => 24 + 2 * s)
    (by intro s hs; interval_cases s <;> exact ⟨by decide, rfl, rfl, rfl⟩) (off := k0_off25 c 3#32) (by exact k0_off25_eq c 3)) $$ HS
  iintro HS
  iapply (wp_load 𝒱₀ (c : Thread nD τ) none Set.univ (m := slM) (Finset.subset_univ _)) $$ Hsel; iintro Hsel
  iapply (wp_slot_load G c 40 32 ((c.val + 3 + 1) % 16) fullShare.left (fun s => 25 + 2 * s)
    (by intro s hs; interval_cases s <;> exact ⟨by decide, rfl, rfl, rfl⟩) (off := k0_off27 c 3#32) (by exact k0_off27_eq c 3)) $$ HS
  iintro HS
  iapply (wp_recv_step G K c 40 32 40 (by decide) (by decide) rfl rfl (by rfl) (by rfl)) $$ [HS]
  · isplitr; · iexact HR
    iexact HS
  iintro ⟨HS, H40⟩
  rw [wp_ret]; imodintro
  iapply Hk
  isplitl [HS]; · iexact HS
  isplitl [H40]; · iexact H40
  iexact Hsel

/-- Part 46: transfers 40 to 41, arrivals 33 to 34. -/
theorem part46 (c : Dev nD) (v2 : BitVec 32) (v5 : BitVec 32) (v7 : BitVec 32) {Q : _ → sProp 𝕄} :
    iprop(records G K ∗ Rst G c 40 33 ∗ bPts c (so c 40) (sub 40) (lq 40) G)
      ⊢ iprop((Rst G c 41 34 ∗ bPts c (so c 41) (sub 41) (lq 41) G -∗ Q (⟨⟩))
          -∗ wp frame (wpE (defs₀ (F := F)) 𝒱₀ (c : Thread nD τ) none) Set.univ (k0_part46 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7) Q) := by
  rw [k0_part46_eq_skeleton]
  unfold k0_part46_skel
  simp only [Prog.lift, Prog.bind_op, Prog.bind_ret, Prog.pure_eq_ret]
  iintro ⟨#HR, HS, H40⟩
  iintro Hk
  iapply (wp_send_step G K c ⟨k0_dev43 c, k0_dev43_lt c⟩ 40 33 (by decide) (by exact Fin.ext (k0_dev43_eq c)) (off := k0_off8 c 5#32) (by exact (k0_off8_eq c 5)) (by rfl) (by rfl)) $$ [HS H40]
  · isplitr; · iexact HR
    isplitl [HS]; · iexact HS
    iexact H40
  iintro HS
  iapply (wp_recv_step G K c 41 33 41 (by decide) (by decide) rfl rfl (by rfl) (by rfl)) $$ [HS]
  · isplitr; · iexact HR
    iexact HS
  iintro ⟨HS, H41⟩
  rw [wp_ret]; imodintro
  iapply Hk
  isplitl [HS]; · iexact HS
  iexact H41

/-- Part 47: transfers 41 to 42, arrivals 34 to 35. -/
theorem part47 (c : Dev nD) (v2 : BitVec 32) (v5 : BitVec 32) (v7 : BitVec 32) {Q : _ → sProp 𝕄} :
    iprop(records G K ∗ Rst G c 41 34 ∗ bPts c (so c 41) (sub 41) (lq 41) G)
      ⊢ iprop((Rst G c 42 35 ∗ bPts c (so c 42) (sub 42) (lq 42) G -∗ Q (⟨⟩))
          -∗ wp frame (wpE (defs₀ (F := F)) 𝒱₀ (c : Thread nD τ) none) Set.univ (k0_part47 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7) Q) := by
  rw [k0_part47_eq_skeleton]
  unfold k0_part47_skel
  simp only [Prog.lift, Prog.bind_op, Prog.bind_ret, Prog.pure_eq_ret]
  iintro ⟨#HR, HS, H41⟩
  iintro Hk
  iapply (wp_send_step G K c ⟨k0_dev44 c, k0_dev44_lt c⟩ 41 34 (by decide) (by exact Fin.ext (k0_dev44_eq c)) (off := k0_off9 c 5#32) (by exact (k0_off9_eq c 5)) (by rfl) (by rfl)) $$ [HS H41]
  · isplitr; · iexact HR
    isplitl [HS]; · iexact HS
    iexact H41
  iintro HS
  iapply (wp_recv_step G K c 42 34 42 (by decide) (by decide) rfl rfl (by rfl) (by rfl)) $$ [HS]
  · isplitr; · iexact HR
    iexact HS
  iintro ⟨HS, H42⟩
  rw [wp_ret]; imodintro
  iapply Hk
  isplitl [HS]; · iexact HS
  iexact H42

/-- Part 48: transfers 42 to 44, arrivals 35 to 36. -/
theorem part48 (c : Dev nD) (v2 : BitVec 32) (v5 : BitVec 32) (v7 : BitVec 32) {Q : _ → sProp 𝕄} :
    iprop(records G K ∗ Rst G c 42 35 ∗ bPts c (so c 42) (sub 42) (lq 42) G)
      ⊢ iprop((Rst G c 44 36 -∗ Q ((Scalar.addi (Scalar.subi (Scalar.subi v2 4#32) 1#32) 16#32)))
          -∗ wp frame (wpE (defs₀ (F := F)) 𝒱₀ (c : Thread nD τ) none) Set.univ (k0_part48 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7) Q) := by
  rw [k0_part48_eq_skeleton]
  unfold k0_part48_skel
  simp only [Prog.lift, Prog.bind_op, Prog.bind_ret, Prog.pure_eq_ret]
  iintro ⟨#HR, HS, H42⟩
  iintro Hk
  iapply (wp_send_step G K c ⟨k0_dev45 c, k0_dev45_lt c⟩ 42 35 (by decide) (by exact Fin.ext (k0_dev45_eq c)) (off := k0_off10 c 5#32) (by exact (k0_off10_eq c 5)) (by rfl) (by rfl)) $$ [HS H42]
  · isplitr; · iexact HR
    isplitl [HS]; · iexact HS
    iexact H42
  iintro HS
  iapply (wp_recv_step G K c 43 35 43 (by decide) (by decide) rfl rfl (by rfl) (by rfl)) $$ [HS]
  · isplitr; · iexact HR
    iexact HS
  iintro ⟨HS, H43⟩
  iapply (wp_send_step G K c ⟨k0_dev46 c, k0_dev46_lt c⟩ 43 36 (by decide) (by exact Fin.ext (k0_dev46_eq c)) (off := k0_off11 c 5#32) (by exact (k0_off11_eq c 5)) (by rfl) (by rfl)) $$ [HS H43]
  · isplitr; · iexact HR
    isplitl [HS]; · iexact HS
    iexact H43
  iintro HS
  rw [wp_ret]; imodintro
  iapply Hk
  iexact HS

/-- Part 49: transfers 44 to 45, arrivals 36 to 37. -/
theorem part49 (c : Dev nD) (v2 : BitVec 32) (v5 : BitVec 32) (v7 : BitVec 32) (v1460 : BitVec 32) {Q : _ → sProp 𝕄} :
    iprop(records G K ∗ Rst G c 44 36)
      ⊢ iprop((Rst G c 45 37 -∗ Q ((Scalar.muli v7 1#32)))
          -∗ wp frame (wpE (defs₀ (F := F)) 𝒱₀ (c : Thread nD τ) none) Set.univ (k0_part49 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7 v1460) Q) := by
  rw [k0_part49_eq_skeleton]
  unfold k0_part49_skel
  simp only [Prog.lift, Prog.bind_op, Prog.bind_ret, Prog.pure_eq_ret]
  iintro ⟨#HR, HS⟩
  iintro Hk
  iapply (wp_recv_step G K c 44 36 44 (by decide) (by decide) rfl rfl (by rfl) (by rfl)) $$ [HS]
  · isplitr; · iexact HR
    iexact HS
  iintro ⟨HS, H44⟩
  iapply (wp_send_step G K c ⟨k0_dev47 c, k0_dev47_lt c⟩ 44 37 (by decide) (by exact Fin.ext (k0_dev47_eq c)) (off := k0_off12 c 5#32) (by exact (k0_off12_eq c 5)) (by rfl) (by rfl)) $$ [HS H44]
  · isplitr; · iexact HR
    isplitl [HS]; · iexact HS
    iexact H44
  iintro HS
  rw [wp_ret]; imodintro
  iapply Hk
  iexact HS

/-- Part 50: transfers 45 to 46, arrivals 37 to 38. -/
theorem part50 (c : Dev nD) (v2 : BitVec 32) (v5 : BitVec 32) (v1486 : BitVec 32) {Q : _ → sProp 𝕄} :
    iprop(records G K ∗ Rst G c 45 37)
      ⊢ iprop((Rst G c 46 38 -∗ Q (⟨⟩))
          -∗ wp frame (wpE (defs₀ (F := F)) 𝒱₀ (c : Thread nD τ) none) Set.univ (k0_part50 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v1486) Q) := by
  rw [k0_part50_eq_skeleton]
  unfold k0_part50_skel
  simp only [Prog.lift, Prog.bind_op, Prog.bind_ret, Prog.pure_eq_ret]
  iintro ⟨#HR, HS⟩
  iintro Hk
  iapply (wp_recv_step G K c 45 37 45 (by decide) (by decide) rfl rfl (by rfl) (by rfl)) $$ [HS]
  · isplitr; · iexact HR
    iexact HS
  iintro ⟨HS, H45⟩
  iapply (wp_send_step G K c ⟨k0_dev48 c, k0_dev48_lt c⟩ 45 38 (by decide) (by exact Fin.ext (k0_dev48_eq c)) (off := k0_off13 c 5#32) (by exact (k0_off13_eq c 5)) (by rfl) (by rfl)) $$ [HS H45]
  · isplitr; · iexact HR
    isplitl [HS]; · iexact HS
    iexact H45
  iintro HS
  rw [wp_ret]; imodintro
  iapply Hk
  iexact HS

/-- Part 51: transfers 46 to 47, arrivals 38 to 40. -/
theorem part51 (c : Dev nD) (v2 : BitVec 32) (v7 : BitVec 32) {Q : _ → sProp 𝕄} :
    iprop(records G K ∗ Rst G c 46 38)
      ⊢ iprop((Rst G c 47 40 ∗ bPts c (so c 47) (sub 47) (lq 47) G -∗ Q (⟨(Scalar.addi v2 5#32), 16#32⟩))
          -∗ wp frame (wpE (defs₀ (F := F)) 𝒱₀ (c : Thread nD τ) none) Set.univ (k0_part51 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v7) Q) := by
  rw [k0_part51_eq_skeleton]
  unfold k0_part51_skel
  simp only [Prog.lift, Prog.bind_op, Prog.bind_ret, Prog.pure_eq_ret]
  iintro ⟨#HR, HS⟩
  iintro Hk
  iapply (wp_recv_step G K c 46 38 46 (by decide) (by decide) rfl rfl (by rfl) (by rfl)) $$ [HS]
  · isplitr; · iexact HR
    iexact HS
  iintro ⟨HS, H46⟩
  iapply (wp_send_step G K c ⟨k0_dev49 c, k0_dev49_lt c⟩ 46 39 (by decide) (by exact Fin.ext (k0_dev49_eq c)) (off := k0_off14 c 5#32) (by exact (k0_off14_eq c 5)) (by rfl) (by rfl)) $$ [HS H46]
  · isplitr; · iexact HR
    isplitl [HS]; · iexact HS
    iexact H46
  iintro HS
  iapply (wp_recv_step G K c 47 39 47 (by decide) (by decide) rfl rfl (by rfl) (by rfl)) $$ [HS]
  · isplitr; · iexact HR
    iexact HS
  iintro ⟨HS, H47⟩
  rw [wp_ret]; imodintro
  iapply Hk
  isplitl [HS]; · iexact HS
  iexact H47

/-- Part 52: transfers 47 to 48, arrivals 40 to 40. -/
theorem part52 (c : Dev nD) (v2 : BitVec 32) (v5 : BitVec 32) (v1361 : FVec F S128x1024 .f32) (v1542 : BitVec 32) (c16_i32_1338 : BitVec 32) (S : (cc0_scratch4 : Ref sig .tc).ty.Contents (Elt F)) {Q : _ → sProp 𝕄} :
    iprop(records G K ∗ Rst G c 47 40 ∗ bPts c (so c 47) (sub 47) (lq 47) G ∗ selPts c S)
      ⊢ iprop((Rst G c 48 40 ∗ selPts c S -∗ Q (⟨k0_pay76 v1361 (selV (k0_off24 c 4#32) (k0_off24_inb c 4) S) (slotV (k0_off25 c 4#32) (k0_off25_inb c 4) G), (selV (k0_off26 c 4#32) (k0_off26_inb c 4) S), k0_pay77 (slotV (k0_off27 c 4#32) (k0_off27_inb c 4) G), (constant S128x1024 .f32 0x00000000#32)⟩))
          -∗ wp frame (wpE (defs₀ (F := F)) 𝒱₀ (c : Thread nD τ) none) Set.univ (k0_part52 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v1361 v1542 c16_i32_1338) Q) := by
  rw [k0_part52_eq_skeleton]
  unfold k0_part52_skel
  simp only [Prog.lift, Prog.bind_op, Prog.bind_ret, Prog.pure_eq_ret]
  unfold selPts
  iintro ⟨#HR, HS, H47, Hsel⟩
  iintro Hk
  iapply (wp_send_step G K c ⟨k0_dev50 c, k0_dev50_lt c⟩ 47 40 (by decide) (by exact Fin.ext (k0_dev50_eq c)) (off := k0_off15 c 5#32) (by exact (k0_off15_eq c 5)) (by rfl) (by rfl)) $$ [HS H47]
  · isplitr; · iexact HR
    isplitl [HS]; · iexact HS
    iexact H47
  iintro HS
  iapply (wp_load 𝒱₀ (c : Thread nD τ) none Set.univ (m := slM) (Finset.subset_univ _)) $$ Hsel; iintro Hsel
  iapply (wp_slot_load G c 48 40 ((c.val + 15 - 4) % 16) fullShare.left (fun s => 32 + 2 * s)
    (by intro s hs; interval_cases s <;> exact ⟨by decide, rfl, rfl, rfl⟩) (off := k0_off25 c 4#32) (by exact k0_off25_eq c 4)) $$ HS
  iintro HS
  iapply (wp_load 𝒱₀ (c : Thread nD τ) none Set.univ (m := slM) (Finset.subset_univ _)) $$ Hsel; iintro Hsel
  iapply (wp_slot_load G c 48 40 ((c.val + 4 + 1) % 16) fullShare.left (fun s => 33 + 2 * s)
    (by intro s hs; interval_cases s <;> exact ⟨by decide, rfl, rfl, rfl⟩) (off := k0_off27 c 4#32) (by exact k0_off27_eq c 4)) $$ HS
  iintro HS
  rw [wp_ret]; imodintro
  iapply Hk
  isplitl [HS]; · iexact HS
  iexact Hsel

/-- Part 53: transfers 48 to 49, arrivals 40 to 41. -/
theorem part53 (c : Dev nD) (v2 : BitVec 32) (v5 : BitVec 32) (v7 : BitVec 32) (v1565 : FVec F S128x1024 .f32) (v1571 : Vec F S128x128 .bf16) (v1574 : FVec F S128x1024 .bf16) (cst_1365 : FVec F S128x1024 .f32) {Q : _ → sProp 𝕄} :
    iprop(records G K ∗ Rst G c 48 40)
      ⊢ iprop((Rst G c 49 41 -∗ Q (⟨k0_pay78 v1565 v1571 v1574 cst_1365, (Scalar.addi (Scalar.addi v2 5#32) 1#32)⟩))
          -∗ wp frame (wpE (defs₀ (F := F)) 𝒱₀ (c : Thread nD τ) none) Set.univ (k0_part53 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7 v1565 v1571 v1574 cst_1365) Q) := by
  rw [k0_part53_eq_skeleton]
  unfold k0_part53_skel
  simp only [Prog.lift, Prog.bind_op, Prog.bind_ret, Prog.pure_eq_ret]
  iintro ⟨#HR, HS⟩
  iintro Hk
  iapply (wp_recv_step G K c 48 40 48 (by decide) (by decide) rfl rfl (by rfl) (by rfl)) $$ [HS]
  · isplitr; · iexact HR
    iexact HS
  iintro ⟨HS, H48⟩
  iapply (wp_send_step G K c ⟨k0_dev51 c, k0_dev51_lt c⟩ 48 41 (by decide) (by exact Fin.ext (k0_dev51_eq c)) (off := k0_off8 c 6#32) (by exact (k0_off8_eq c 6)) (by rfl) (by rfl)) $$ [HS H48]
  · isplitr; · iexact HR
    isplitl [HS]; · iexact HS
    iexact H48
  iintro HS
  rw [wp_ret]; imodintro
  iapply Hk
  iexact HS

/-- Part 54: transfers 49 to 50, arrivals 41 to 42. -/
theorem part54 (c : Dev nD) (v2 : BitVec 32) (v5 : BitVec 32) (v7 : BitVec 32) (v1603 : BitVec 32) {Q : _ → sProp 𝕄} :
    iprop(records G K ∗ Rst G c 49 41)
      ⊢ iprop((Rst G c 50 42 -∗ Q ((Scalar.muli v5 1#32)))
          -∗ wp frame (wpE (defs₀ (F := F)) 𝒱₀ (c : Thread nD τ) none) Set.univ (k0_part54 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7 v1603) Q) := by
  rw [k0_part54_eq_skeleton]
  unfold k0_part54_skel
  simp only [Prog.lift, Prog.bind_op, Prog.bind_ret, Prog.pure_eq_ret]
  iintro ⟨#HR, HS⟩
  iintro Hk
  iapply (wp_recv_step G K c 49 41 49 (by decide) (by decide) rfl rfl (by rfl) (by rfl)) $$ [HS]
  · isplitr; · iexact HR
    iexact HS
  iintro ⟨HS, H49⟩
  iapply (wp_send_step G K c ⟨k0_dev52 c, k0_dev52_lt c⟩ 49 42 (by decide) (by exact Fin.ext (k0_dev52_eq c)) (off := k0_off9 c 6#32) (by exact (k0_off9_eq c 6)) (by rfl) (by rfl)) $$ [HS H49]
  · isplitr; · iexact HR
    isplitl [HS]; · iexact HS
    iexact H49
  iintro HS
  rw [wp_ret]; imodintro
  iapply Hk
  iexact HS

/-- Part 55: transfers 50 to 51, arrivals 42 to 43. -/
theorem part55 (c : Dev nD) (v2 : BitVec 32) (v7 : BitVec 32) (v1629 : BitVec 32) {Q : _ → sProp 𝕄} :
    iprop(records G K ∗ Rst G c 50 42)
      ⊢ iprop((Rst G c 51 43 -∗ Q (⟨⟩))
          -∗ wp frame (wpE (defs₀ (F := F)) 𝒱₀ (c : Thread nD τ) none) Set.univ (k0_part55 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v7 v1629) Q) := by
  rw [k0_part55_eq_skeleton]
  unfold k0_part55_skel
  simp only [Prog.lift, Prog.bind_op, Prog.bind_ret, Prog.pure_eq_ret]
  iintro ⟨#HR, HS⟩
  iintro Hk
  iapply (wp_recv_step G K c 50 42 50 (by decide) (by decide) rfl rfl (by rfl) (by rfl)) $$ [HS]
  · isplitr; · iexact HR
    iexact HS
  iintro ⟨HS, H50⟩
  iapply (wp_send_step G K c ⟨k0_dev53 c, k0_dev53_lt c⟩ 50 43 (by decide) (by exact Fin.ext (k0_dev53_eq c)) (off := k0_off10 c 6#32) (by exact (k0_off10_eq c 6)) (by rfl) (by rfl)) $$ [HS H50]
  · isplitr; · iexact HR
    isplitl [HS]; · iexact HS
    iexact H50
  iintro HS
  rw [wp_ret]; imodintro
  iapply Hk
  iexact HS

/-- Part 56: transfers 51 to 52, arrivals 43 to 45. -/
theorem part56 (c : Dev nD) (v2 : BitVec 32) (v5 : BitVec 32) {Q : _ → sProp 𝕄} :
    iprop(records G K ∗ Rst G c 51 43)
      ⊢ iprop((Rst G c 52 45 ∗ bPts c (so c 52) (sub 52) (lq 52) G -∗ Q (⟨(Scalar.subi v2 6#32), 16#32⟩))
          -∗ wp frame (wpE (defs₀ (F := F)) 𝒱₀ (c : Thread nD τ) none) Set.univ (k0_part56 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5) Q) := by
  rw [k0_part56_eq_skeleton]
  unfold k0_part56_skel
  simp only [Prog.lift, Prog.bind_op, Prog.bind_ret, Prog.pure_eq_ret]
  iintro ⟨#HR, HS⟩
  iintro Hk
  iapply (wp_recv_step G K c 51 43 51 (by decide) (by decide) rfl rfl (by rfl) (by rfl)) $$ [HS]
  · isplitr; · iexact HR
    iexact HS
  iintro ⟨HS, H51⟩
  iapply (wp_send_step G K c ⟨k0_dev54 c, k0_dev54_lt c⟩ 51 44 (by decide) (by exact Fin.ext (k0_dev54_eq c)) (off := k0_off11 c 6#32) (by exact (k0_off11_eq c 6)) (by rfl) (by rfl)) $$ [HS H51]
  · isplitr; · iexact HR
    isplitl [HS]; · iexact HS
    iexact H51
  iintro HS
  iapply (wp_recv_step G K c 52 44 52 (by decide) (by decide) rfl rfl (by rfl) (by rfl)) $$ [HS]
  · isplitr; · iexact HR
    iexact HS
  iintro ⟨HS, H52⟩
  rw [wp_ret]; imodintro
  iapply Hk
  isplitl [HS]; · iexact HS
  iexact H52

/-- Part 57: transfers 52 to 53, arrivals 45 to 46. -/
theorem part57 (c : Dev nD) (v2 : BitVec 32) (v5 : BitVec 32) (v7 : BitVec 32) (v1685 : BitVec 32) (c16_i32_1484 : BitVec 32) {Q : _ → sProp 𝕄} :
    iprop(records G K ∗ Rst G c 52 45 ∗ bPts c (so c 52) (sub 52) (lq 52) G)
      ⊢ iprop((Rst G c 53 46 ∗ bPts c (so c 53) (sub 53) (lq 53) G -∗ Q (⟨(Scalar.muli v5 1#32), 0#32⟩))
          -∗ wp frame (wpE (defs₀ (F := F)) 𝒱₀ (c : Thread nD τ) none) Set.univ (k0_part57 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7 v1685 c16_i32_1484) Q) := by
  rw [k0_part57_eq_skeleton]
  unfold k0_part57_skel
  simp only [Prog.lift, Prog.bind_op, Prog.bind_ret, Prog.pure_eq_ret]
  iintro ⟨#HR, HS, H52⟩
  iintro Hk
  iapply (wp_send_step G K c ⟨k0_dev55 c, k0_dev55_lt c⟩ 52 45 (by decide) (by exact Fin.ext (k0_dev55_eq c)) (off := k0_off12 c 6#32) (by exact (k0_off12_eq c 6)) (by rfl) (by rfl)) $$ [HS H52]
  · isplitr; · iexact HR
    isplitl [HS]; · iexact HS
    iexact H52
  iintro HS
  iapply (wp_recv_step G K c 53 45 53 (by decide) (by decide) rfl rfl (by rfl) (by rfl)) $$ [HS]
  · isplitr; · iexact HR
    iexact HS
  iintro ⟨HS, H53⟩
  rw [wp_ret]; imodintro
  iapply Hk
  isplitl [HS]; · iexact HS
  iexact H53

/-- Part 58: transfers 53 to 54, arrivals 46 to 47. -/
theorem part58 (c : Dev nD) (v2 : BitVec 32) (v5 : BitVec 32) (v7 : BitVec 32) (v1711 : BitVec 32) (c0_i32_1516 : BitVec 32) {Q : _ → sProp 𝕄} :
    iprop(records G K ∗ Rst G c 53 46 ∗ bPts c (so c 53) (sub 53) (lq 53) G)
      ⊢ iprop((Rst G c 54 47 ∗ bPts c (so c 54) (sub 54) (lq 54) G -∗ Q (⟨⟩))
          -∗ wp frame (wpE (defs₀ (F := F)) 𝒱₀ (c : Thread nD τ) none) Set.univ (k0_part58 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7 v1711 c0_i32_1516) Q) := by
  rw [k0_part58_eq_skeleton]
  unfold k0_part58_skel
  simp only [Prog.lift, Prog.bind_op, Prog.bind_ret, Prog.pure_eq_ret]
  iintro ⟨#HR, HS, H53⟩
  iintro Hk
  iapply (wp_send_step G K c ⟨k0_dev56 c, k0_dev56_lt c⟩ 53 46 (by decide) (by exact Fin.ext (k0_dev56_eq c)) (off := k0_off13 c 6#32) (by exact (k0_off13_eq c 6)) (by rfl) (by rfl)) $$ [HS H53]
  · isplitr; · iexact HR
    isplitl [HS]; · iexact HS
    iexact H53
  iintro HS
  iapply (wp_recv_step G K c 54 46 54 (by decide) (by decide) rfl rfl (by rfl) (by rfl)) $$ [HS]
  · isplitr; · iexact HR
    iexact HS
  iintro ⟨HS, H54⟩
  rw [wp_ret]; imodintro
  iapply Hk
  isplitl [HS]; · iexact HS
  iexact H54

/-- Part 59: transfers 54 to 56, arrivals 47 to 48. -/
theorem part59 (c : Dev nD) (v2 : BitVec 32) (v5 : BitVec 32) (v7 : BitVec 32) {Q : _ → sProp 𝕄} :
    iprop(records G K ∗ Rst G c 54 47 ∗ bPts c (so c 54) (sub 54) (lq 54) G)
      ⊢ iprop((Rst G c 56 48 -∗ Q ((Scalar.subi v2 5#32)))
          -∗ wp frame (wpE (defs₀ (F := F)) 𝒱₀ (c : Thread nD τ) none) Set.univ (k0_part59 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7) Q) := by
  rw [k0_part59_eq_skeleton]
  unfold k0_part59_skel
  simp only [Prog.lift, Prog.bind_op, Prog.bind_ret, Prog.pure_eq_ret]
  iintro ⟨#HR, HS, H54⟩
  iintro Hk
  iapply (wp_send_step G K c ⟨k0_dev57 c, k0_dev57_lt c⟩ 54 47 (by decide) (by exact Fin.ext (k0_dev57_eq c)) (off := k0_off14 c 6#32) (by exact (k0_off14_eq c 6)) (by rfl) (by rfl)) $$ [HS H54]
  · isplitr; · iexact HR
    isplitl [HS]; · iexact HS
    iexact H54
  iintro HS
  iapply (wp_recv_step G K c 55 47 55 (by decide) (by decide) rfl rfl (by rfl) (by rfl)) $$ [HS]
  · isplitr; · iexact HR
    iexact HS
  iintro ⟨HS, H55⟩
  iapply (wp_send_step G K c ⟨k0_dev58 c, k0_dev58_lt c⟩ 55 48 (by decide) (by exact Fin.ext (k0_dev58_eq c)) (off := k0_off15 c 6#32) (by exact (k0_off15_eq c 6)) (by rfl) (by rfl)) $$ [HS H55]
  · isplitr; · iexact HR
    isplitl [HS]; · iexact HS
    iexact H55
  iintro HS
  rw [wp_ret]; imodintro
  iapply Hk
  iexact HS

/-- Part 60: transfers 56 to 56, arrivals 48 to 48. -/
theorem part60 (c : Dev nD) (v2 : BitVec 32) (v5 : BitVec 32) (v1576 : FVec F S128x1024 .f32) (v1769 : BitVec 32) (S : (cc0_scratch4 : Ref sig .tc).ty.Contents (Elt F)) {Q : _ → sProp 𝕄} :
    iprop(records G K ∗ Rst G c 56 48 ∗ selPts c S)
      ⊢ iprop((Rst G c 56 48 ∗ selPts c S -∗ Q ((k0_pay79 v1576 (selV (k0_off24 c 5#32) (k0_off24_inb c 5) S) (slotV (k0_off25 c 5#32) (k0_off25_inb c 5) G) (selV (k0_off26 c 5#32) (k0_off26_inb c 5) S) (slotV (k0_off27 c 5#32) (k0_off27_inb c 5) G))))
          -∗ wp frame (wpE (defs₀ (F := F)) 𝒱₀ (c : Thread nD τ) none) Set.univ (k0_part60 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v1576 v1769) Q) := by
  rw [k0_part60_eq_skeleton]
  unfold k0_part60_skel
  simp only [Prog.lift, Prog.bind_op, Prog.bind_ret, Prog.pure_eq_ret]
  unfold selPts
  iintro ⟨#HR, HS, Hsel⟩
  iintro Hk
  iapply (wp_load 𝒱₀ (c : Thread nD τ) none Set.univ (m := slM) (Finset.subset_univ _)) $$ Hsel; iintro Hsel
  iapply (wp_slot_load G c 56 48 ((c.val + 15 - 5) % 16) fullShare.left (fun s => 40 + 2 * s)
    (by intro s hs; interval_cases s <;> exact ⟨by decide, rfl, rfl, rfl⟩) (off := k0_off25 c 5#32) (by exact k0_off25_eq c 5)) $$ HS
  iintro HS
  iapply (wp_load 𝒱₀ (c : Thread nD τ) none Set.univ (m := slM) (Finset.subset_univ _)) $$ Hsel; iintro Hsel
  iapply (wp_slot_load G c 56 48 ((c.val + 5 + 1) % 16) fullShare.left (fun s => 41 + 2 * s)
    (by intro s hs; interval_cases s <;> exact ⟨by decide, rfl, rfl, rfl⟩) (off := k0_off27 c 5#32) (by exact k0_off27_eq c 5)) $$ HS
  iintro HS
  rw [wp_ret]; imodintro
  iapply Hk
  isplitl [HS]; · iexact HS
  iexact Hsel

end Cert.KernelIdeal.Ring
-- ==== Proof.KernelIdeal.Parts3.lean ====
/-
# `Parts3`: the kernel's parts 61 to 83, step by step
-/
module

public import proofs.«01_k».proof.Proof.KernelIdeal.Parts1

@[expose] public section

noncomputable section

namespace Cert.KernelIdeal.Ring

open Cert.KernelIdeal Cert.KernelIdeal.Gen

open Idealize.ShloMosaic
open Memref (isWhole_whole)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (G : (cc0_scratch0 : Ref sig .tc).ty.Contents (Elt F)) (K : Dev nD × Fin 121 → ℕ)

/-- Part 61: transfers 56 to 57, arrivals 48 to 50. -/
theorem part61 (c : Dev nD) (v2 : BitVec 32) (v7 : BitVec 32) {Q : _ → sProp 𝕄} :
    iprop(records G K ∗ Rst G c 56 48)
      ⊢ iprop((Rst G c 57 50 -∗ Q (⟨(Scalar.subi v2 6#32), 1#32⟩))
          -∗ wp frame (wpE (defs₀ (F := F)) 𝒱₀ (c : Thread nD τ) none) Set.univ (k0_part61 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v7) Q) := by
  rw [k0_part61_eq_skeleton]
  unfold k0_part61_skel
  simp only [Prog.lift, Prog.bind_op, Prog.bind_ret, Prog.pure_eq_ret]
  iintro ⟨#HR, HS⟩
  iintro Hk
  iapply (wp_recv_step G K c 56 48 56 (by decide) (by decide) rfl rfl (by rfl) (by rfl)) $$ [HS]
  · isplitr; · iexact HR
    iexact HS
  iintro ⟨HS, H56⟩
  iapply (wp_send_step G K c ⟨k0_dev59 c, k0_dev59_lt c⟩ 56 49 (by decide) (by exact Fin.ext (k0_dev59_eq c)) (off := k0_off8 c 7#32) (by exact (k0_off8_eq c 7)) (by rfl) (by rfl)) $$ [HS H56]
  · isplitr; · iexact HR
    isplitl [HS]; · iexact HS
    iexact H56
  iintro HS
  iapply (wp_recv_last G K c 57 49 (by decide) (by decide) rfl (by rfl) (by rfl)) $$ [HS]
  · isplitr; · iexact HR
    iexact HS
  iintro HS
  rw [wp_ret]; imodintro
  iapply Hk
  iexact HS

/-- Part 62: transfers 57 to 58, arrivals 50 to 51. -/
theorem part62 (c : Dev nD) (v2 : BitVec 32) (v5 : BitVec 32) (v7 : BitVec 32) (v1828 : BitVec 32) (c1_i32_1630 : BitVec 32) {Q : _ → sProp 𝕄} :
    iprop(records G K ∗ Rst G c 57 50)
      ⊢ iprop((Rst G c 58 51 -∗ Q (⟨⟩))
          -∗ wp frame (wpE (defs₀ (F := F)) 𝒱₀ (c : Thread nD τ) none) Set.univ (k0_part62 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7 v1828 c1_i32_1630) Q) := by
  rw [k0_part62_eq_skeleton]
  unfold k0_part62_skel
  simp only [Prog.lift, Prog.bind_op, Prog.bind_ret, Prog.pure_eq_ret]
  iintro ⟨#HR, HS⟩
  iintro Hk
  iapply (wp_recv_step G K c 57 50 57 (by decide) (by decide) rfl rfl (by rfl) (by rfl)) $$ [HS]
  · isplitr; · iexact HR
    iexact HS
  iintro ⟨HS, H57⟩
  iapply (wp_send_step G K c ⟨k0_dev60 c, k0_dev60_lt c⟩ 57 51 (by decide) (by exact Fin.ext (k0_dev60_eq c)) (off := k0_off10 c 7#32) (by exact (k0_off10_eq c 7)) (by rfl) (by rfl)) $$ [HS H57]
  · isplitr; · iexact HR
    isplitl [HS]; · iexact HS
    iexact H57
  iintro HS
  rw [wp_ret]; imodintro
  iapply Hk
  iexact HS

/-- Part 63: transfers 58 to 58, arrivals 51 to 53. -/
theorem part63 (c : Dev nD) (v2 : BitVec 32) (v5 : BitVec 32) (v7 : BitVec 32) {Q : _ → sProp 𝕄} :
    iprop(records G K ∗ Rst G c 58 51)
      ⊢ iprop((Rst G c 58 53 ∗ bPts c (so c 58) (sub 58) (lq 58) G -∗ Q (⟨⟩))
          -∗ wp frame (wpE (defs₀ (F := F)) 𝒱₀ (c : Thread nD τ) none) Set.univ (k0_part63 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7) Q) := by
  rw [k0_part63_eq_skeleton]
  unfold k0_part63_skel
  simp only [Prog.lift, Prog.bind_op, Prog.bind_ret, Prog.pure_eq_ret]
  iintro ⟨#HR, HS⟩
  iintro Hk
  iapply (wp_recv_last G K c 58 51 (by decide) (by decide) rfl (by rfl) (by rfl)) $$ [HS]
  · isplitr; · iexact HR
    iexact HS
  iintro HS
  iapply (wp_recv_step G K c 58 52 58 (by decide) (by decide) rfl rfl (by rfl) (by rfl)) $$ [HS]
  · isplitr; · iexact HR
    iexact HS
  iintro ⟨HS, H58⟩
  rw [wp_ret]; imodintro
  iapply Hk
  isplitl [HS]; · iexact HS
  iexact H58

/-- Part 64: transfers 58 to 59, arrivals 53 to 54. -/
theorem part64 (c : Dev nD) (v2 : BitVec 32) (v5 : BitVec 32) (v7 : BitVec 32) {Q : _ → sProp 𝕄} :
    iprop(records G K ∗ Rst G c 58 53 ∗ bPts c (so c 58) (sub 58) (lq 58) G)
      ⊢ iprop((Rst G c 59 54 -∗ Q (⟨⟩))
          -∗ wp frame (wpE (defs₀ (F := F)) 𝒱₀ (c : Thread nD τ) none) Set.univ (k0_part64 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7) Q) := by
  rw [k0_part64_eq_skeleton]
  unfold k0_part64_skel
  simp only [Prog.lift, Prog.bind_op, Prog.bind_ret, Prog.pure_eq_ret]
  iintro ⟨#HR, HS, H58⟩
  iintro Hk
  iapply (wp_send_step G K c ⟨k0_dev61 c, k0_dev61_lt c⟩ 58 53 (by decide) (by exact Fin.ext (k0_dev61_eq c)) (off := k0_off12 c 7#32) (by exact (k0_off12_eq c 7)) (by rfl) (by rfl)) $$ [HS H58]
  · isplitr; · iexact HR
    isplitl [HS]; · iexact HS
    iexact H58
  iintro HS
  iapply (wp_recv_last G K c 59 53 (by decide) (by decide) rfl (by rfl) (by rfl)) $$ [HS]
  · isplitr; · iexact HR
    iexact HS
  iintro HS
  rw [wp_ret]; imodintro
  iapply Hk
  iexact HS

/-- Part 65: transfers 59 to 60, arrivals 54 to 56. -/
theorem part65 (c : Dev nD) (v2 : BitVec 32) (v7 : BitVec 32) {Q : _ → sProp 𝕄} :
    iprop(records G K ∗ Rst G c 59 54)
      ⊢ iprop((Rst G c 60 56 -∗ Q ((Scalar.addi (Scalar.subi (Scalar.subi v2 6#32) 1#32) 16#32)))
          -∗ wp frame (wpE (defs₀ (F := F)) 𝒱₀ (c : Thread nD τ) none) Set.univ (k0_part65 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v7) Q) := by
  rw [k0_part65_eq_skeleton]
  unfold k0_part65_skel
  simp only [Prog.lift, Prog.bind_op, Prog.bind_ret, Prog.pure_eq_ret]
  iintro ⟨#HR, HS⟩
  iintro Hk
  iapply (wp_recv_step G K c 59 54 59 (by decide) (by decide) rfl rfl (by rfl) (by rfl)) $$ [HS]
  · isplitr; · iexact HR
    iexact HS
  iintro ⟨HS, H59⟩
  iapply (wp_send_step G K c ⟨k0_dev62 c, k0_dev62_lt c⟩ 59 55 (by decide) (by exact Fin.ext (k0_dev62_eq c)) (off := k0_off14 c 7#32) (by exact (k0_off14_eq c 7)) (by rfl) (by rfl)) $$ [HS H59]
  · isplitr; · iexact HR
    isplitl [HS]; · iexact HS
    iexact H59
  iintro HS
  iapply (wp_recv_last G K c 60 55 (by decide) (by decide) rfl (by rfl) (by rfl)) $$ [HS]
  · isplitr; · iexact HR
    iexact HS
  iintro HS
  rw [wp_ret]; imodintro
  iapply Hk
  iexact HS

/-- Part 66: transfers 60 to 60, arrivals 56 to 56. -/
theorem part66 (c : Dev nD) (v2 : BitVec 32) (v5 : BitVec 32) (v1791 : FVec F S128x1024 .f32) (v1938 : BitVec 32) (S : (cc0_scratch4 : Ref sig .tc).ty.Contents (Elt F)) {Q : _ → sProp 𝕄} :
    iprop(records G K ∗ Rst G c 60 56 ∗ selPts c S)
      ⊢ iprop((Rst G c 60 56 ∗ selPts c S -∗ Q ((k0_pay80 v1791 (selV (k0_off24 c 6#32) (k0_off24_inb c 6) S) (slotV (k0_off25 c 6#32) (k0_off25_inb c 6) G) (selV (k0_off26 c 6#32) (k0_off26_inb c 6) S) (slotV (k0_off27 c 6#32) (k0_off27_inb c 6) G))))
          -∗ wp frame (wpE (defs₀ (F := F)) 𝒱₀ (c : Thread nD τ) none) Set.univ (k0_part66 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v1791 v1938) Q) := by
  rw [k0_part66_eq_skeleton]
  unfold k0_part66_skel
  simp only [Prog.lift, Prog.bind_op, Prog.bind_ret, Prog.pure_eq_ret]
  unfold selPts
  iintro ⟨#HR, HS, Hsel⟩
  iintro Hk
  iapply (wp_load 𝒱₀ (c : Thread nD τ) none Set.univ (m := slM) (Finset.subset_univ _)) $$ Hsel; iintro Hsel
  iapply (wp_slot_load G c 60 56 ((c.val + 15 - 6) % 16) fullShare.left (fun s => 48 + 2 * s)
    (by intro s hs; interval_cases s <;> exact ⟨by decide, rfl, rfl, rfl⟩) (off := k0_off25 c 6#32) (by exact k0_off25_eq c 6)) $$ HS
  iintro HS
  iapply (wp_load 𝒱₀ (c : Thread nD τ) none Set.univ (m := slM) (Finset.subset_univ _)) $$ Hsel; iintro Hsel
  iapply (wp_slot_load G c 60 56 ((c.val + 6 + 1) % 16) fullShare (fun s => 49 + 2 * s)
    (by intro s hs; interval_cases s <;> exact ⟨by decide, rfl, rfl, rfl⟩) (off := k0_off27 c 6#32) (by exact k0_off27_eq c 6)) $$ HS
  iintro HS
  rw [wp_ret]; imodintro
  iapply Hk
  isplitl [HS]; · iexact HS
  iexact Hsel

/-- Part 67: transfers 60 to 60, arrivals 56 to 59. -/
theorem part67 (c : Dev nD) (v2 : BitVec 32) (v5 : BitVec 32) {Q : _ → sProp 𝕄} :
    iprop(records G K ∗ Rst G c 60 56)
      ⊢ iprop((Rst G c 60 59 -∗ Q (⟨(Scalar.subi (Scalar.subi v2 7#32) 1#32), 16#32⟩))
          -∗ wp frame (wpE (defs₀ (F := F)) 𝒱₀ (c : Thread nD τ) none) Set.univ (k0_part67 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5) Q) := by
  rw [k0_part67_eq_skeleton]
  unfold k0_part67_skel
  simp only [Prog.lift, Prog.bind_op, Prog.bind_ret, Prog.pure_eq_ret]
  iintro ⟨#HR, HS⟩
  iintro Hk
  iapply (wp_recv_last G K c 60 56 (by decide) (by decide) rfl (by rfl) (by rfl)) $$ [HS]
  · isplitr; · iexact HR
    iexact HS
  iintro HS
  iapply (wp_recv_last G K c 60 57 (by decide) (by decide) rfl (by rfl) (by rfl)) $$ [HS]
  · isplitr; · iexact HR
    iexact HS
  iintro HS
  iapply (wp_recv_last G K c 60 58 (by decide) (by decide) rfl (by rfl) (by rfl)) $$ [HS]
  · isplitr; · iexact HR
    iexact HS
  iintro HS
  rw [wp_ret]; imodintro
  iapply Hk
  iexact HS

/-- Part 68: transfers 60 to 60, arrivals 59 to 60. -/
theorem part68 (c : Dev nD) (v2 : BitVec 32) (v5 : BitVec 32) (v1958 : FVec F S128x1024 .f32) (v1996 : BitVec 32) (c16_i32_1810 : BitVec 32) (S : (cc0_scratch4 : Ref sig .tc).ty.Contents (Elt F)) (fo : (cc0_stg3_0 : Ref sig .tc).ty.Contents (Elt F)) {Q : _ → sProp 𝕄} :
    iprop(records G K ∗ Rst G c 60 59 ∗ selPts c S ∗ outPts c fo)
      ⊢ iprop((Rst G c 60 60 ∗ selPts c S ∗ outPts c (k0_pay81 v1958 (selV (k0_off24 c 7#32) (k0_off24_inb c 7) S) (slotV (k0_off25 c 7#32) (k0_off25_inb c 7) G)) -∗ Q (⟨⟩))
          -∗ wp frame (wpE (defs₀ (F := F)) 𝒱₀ (c : Thread nD τ) none) Set.univ (k0_part68 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v1958 v1996 c16_i32_1810) Q) := by
  rw [k0_part68_eq_skeleton]
  unfold k0_part68_skel
  simp only [Prog.lift, Prog.bind_op, Prog.bind_ret, Prog.pure_eq_ret]
  unfold selPts
  unfold outPts
  iintro ⟨#HR, HS, Hsel, Hout⟩
  iintro Hk
  iapply (wp_recv_last G K c 60 59 (by decide) (by decide) rfl (by rfl) (by rfl)) $$ [HS]
  · isplitr; · iexact HR
    iexact HS
  iintro HS
  iapply (wp_load 𝒱₀ (c : Thread nD τ) none Set.univ (m := slM) (Finset.subset_univ _)) $$ Hsel; iintro Hsel
  iapply (wp_slot_load G c 60 60 ((c.val + 15 - 7) % 16) fullShare (fun s => 56 + s)
    (by intro s hs; interval_cases s <;> exact ⟨by decide, rfl, rfl, rfl⟩) (off := k0_off25 c 7#32) (by exact k0_off25_eq c 7)) $$ HS
  iintro HS
  iapply (wp_load 𝒱₀ (c : Thread nD τ) none Set.univ (m := oM) (Finset.subset_univ _)) $$ Hout; iintro Hout
  iapply (wp_store 𝒱₀ (c : Thread nD τ) none Set.univ (m := oM) (r := Rect.unit (s := S128x1024) ![0, 0] S128x1024.size inb_S128x1024_S128x1024_0_0) (Mk := Finset.univ) (Finset.subset_univ _)) $$ Hout; iintro Hout
  rw [oM_write]
  rw [wp_ret]; imodintro
  iapply Hk
  isplitl [HS]; · iexact HS
  isplitl [Hsel]; · iexact Hsel
  iexact Hout

/-- Part 69: send completions. -/
theorem part69 (c : Dev nD)  {Q : _ → sProp 𝕄} :
    iprop(records G K ∗ Tst G c 0)
      ⊢ iprop((Tst G c 4 -∗ Q (⟨⟩))
          -∗ wp frame (wpE (defs₀ (F := F)) 𝒱₀ (c : Thread nD τ) none) Set.univ (k0_part69 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c ) Q) := by
  rw [k0_part69_eq_skeleton]
  unfold k0_part69_skel
  simp only [Prog.lift, Prog.bind_op, Prog.bind_ret, Prog.pure_eq_ret]
  iintro ⟨#HR, HS⟩
  iintro Hk
  iapply (wp_done_step G K c 0 (by decide) (by rfl) (by rfl)) $$ [HS]
  · isplitr; · iexact HR
    iexact HS
  iintro HS
  iapply (wp_done_step G K c 1 (by decide) (by rfl) (by rfl)) $$ [HS]
  · isplitr; · iexact HR
    iexact HS
  iintro HS
  iapply (wp_done_step G K c 2 (by decide) (by rfl) (by rfl)) $$ [HS]
  · isplitr; · iexact HR
    iexact HS
  iintro HS
  iapply (wp_done_step G K c 3 (by decide) (by rfl) (by rfl)) $$ [HS]
  · isplitr; · iexact HR
    iexact HS
  iintro HS
  rw [wp_ret]; imodintro
  iapply Hk
  iexact HS

/-- Part 70: send completions. -/
theorem part70 (c : Dev nD)  {Q : _ → sProp 𝕄} :
    iprop(records G K ∗ Tst G c 4)
      ⊢ iprop((Tst G c 8 -∗ Q (⟨⟩))
          -∗ wp frame (wpE (defs₀ (F := F)) 𝒱₀ (c : Thread nD τ) none) Set.univ (k0_part70 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c ) Q) := by
  rw [k0_part70_eq_skeleton]
  unfold k0_part70_skel
  simp only [Prog.lift, Prog.bind_op, Prog.bind_ret, Prog.pure_eq_ret]
  iintro ⟨#HR, HS⟩
  iintro Hk
  iapply (wp_done_step G K c 4 (by decide) (by rfl) (by rfl)) $$ [HS]
  · isplitr; · iexact HR
    iexact HS
  iintro HS
  iapply (wp_done_step G K c 5 (by decide) (by rfl) (by rfl)) $$ [HS]
  · isplitr; · iexact HR
    iexact HS
  iintro HS
  iapply (wp_done_step G K c 6 (by decide) (by rfl) (by rfl)) $$ [HS]
  · isplitr; · iexact HR
    iexact HS
  iintro HS
  iapply (wp_done_step G K c 7 (by decide) (by rfl) (by rfl)) $$ [HS]
  · isplitr; · iexact HR
    iexact HS
  iintro HS
  rw [wp_ret]; imodintro
  iapply Hk
  iexact HS

/-- Part 71: send completions. -/
theorem part71 (c : Dev nD)  {Q : _ → sProp 𝕄} :
    iprop(records G K ∗ Tst G c 8)
      ⊢ iprop((Tst G c 12 -∗ Q (⟨⟩))
          -∗ wp frame (wpE (defs₀ (F := F)) 𝒱₀ (c : Thread nD τ) none) Set.univ (k0_part71 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c ) Q) := by
  rw [k0_part71_eq_skeleton]
  unfold k0_part71_skel
  simp only [Prog.lift, Prog.bind_op, Prog.bind_ret, Prog.pure_eq_ret]
  iintro ⟨#HR, HS⟩
  iintro Hk
  iapply (wp_done_step G K c 8 (by decide) (by rfl) (by rfl)) $$ [HS]
  · isplitr; · iexact HR
    iexact HS
  iintro HS
  iapply (wp_done_step G K c 9 (by decide) (by rfl) (by rfl)) $$ [HS]
  · isplitr; · iexact HR
    iexact HS
  iintro HS
  iapply (wp_done_step G K c 10 (by decide) (by rfl) (by rfl)) $$ [HS]
  · isplitr; · iexact HR
    iexact HS
  iintro HS
  iapply (wp_done_step G K c 11 (by decide) (by rfl) (by rfl)) $$ [HS]
  · isplitr; · iexact HR
    iexact HS
  iintro HS
  rw [wp_ret]; imodintro
  iapply Hk
  iexact HS

/-- Part 72: send completions. -/
theorem part72 (c : Dev nD)  {Q : _ → sProp 𝕄} :
    iprop(records G K ∗ Tst G c 12)
      ⊢ iprop((Tst G c 15 -∗ Q (⟨⟩))
          -∗ wp frame (wpE (defs₀ (F := F)) 𝒱₀ (c : Thread nD τ) none) Set.univ (k0_part72 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c ) Q) := by
  rw [k0_part72_eq_skeleton]
  unfold k0_part72_skel
  simp only [Prog.lift, Prog.bind_op, Prog.bind_ret, Prog.pure_eq_ret]
  iintro ⟨#HR, HS⟩
  iintro Hk
  iapply (wp_done_step G K c 12 (by decide) (by rfl) (by rfl)) $$ [HS]
  · isplitr; · iexact HR
    iexact HS
  iintro HS
  iapply (wp_done_step G K c 13 (by decide) (by rfl) (by rfl)) $$ [HS]
  · isplitr; · iexact HR
    iexact HS
  iintro HS
  iapply (wp_done_step G K c 14 (by decide) (by rfl) (by rfl)) $$ [HS]
  · isplitr; · iexact HR
    iexact HS
  iintro HS
  rw [wp_ret]; imodintro
  iapply Hk
  iexact HS

/-- Part 73: send completions. -/
theorem part73 (c : Dev nD)  {Q : _ → sProp 𝕄} :
    iprop(records G K ∗ Tst G c 15)
      ⊢ iprop((Tst G c 19 -∗ Q (⟨⟩))
          -∗ wp frame (wpE (defs₀ (F := F)) 𝒱₀ (c : Thread nD τ) none) Set.univ (k0_part73 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c ) Q) := by
  rw [k0_part73_eq_skeleton]
  unfold k0_part73_skel
  simp only [Prog.lift, Prog.bind_op, Prog.bind_ret, Prog.pure_eq_ret]
  iintro ⟨#HR, HS⟩
  iintro Hk
  iapply (wp_done_step G K c 15 (by decide) (by rfl) (by rfl)) $$ [HS]
  · isplitr; · iexact HR
    iexact HS
  iintro HS
  iapply (wp_done_step G K c 16 (by decide) (by rfl) (by rfl)) $$ [HS]
  · isplitr; · iexact HR
    iexact HS
  iintro HS
  iapply (wp_done_step G K c 17 (by decide) (by rfl) (by rfl)) $$ [HS]
  · isplitr; · iexact HR
    iexact HS
  iintro HS
  iapply (wp_done_step G K c 18 (by decide) (by rfl) (by rfl)) $$ [HS]
  · isplitr; · iexact HR
    iexact HS
  iintro HS
  rw [wp_ret]; imodintro
  iapply Hk
  iexact HS

/-- Part 74: send completions. -/
theorem part74 (c : Dev nD)  {Q : _ → sProp 𝕄} :
    iprop(records G K ∗ Tst G c 19)
      ⊢ iprop((Tst G c 23 -∗ Q (⟨⟩))
          -∗ wp frame (wpE (defs₀ (F := F)) 𝒱₀ (c : Thread nD τ) none) Set.univ (k0_part74 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c ) Q) := by
  rw [k0_part74_eq_skeleton]
  unfold k0_part74_skel
  simp only [Prog.lift, Prog.bind_op, Prog.bind_ret, Prog.pure_eq_ret]
  iintro ⟨#HR, HS⟩
  iintro Hk
  iapply (wp_done_step G K c 19 (by decide) (by rfl) (by rfl)) $$ [HS]
  · isplitr; · iexact HR
    iexact HS
  iintro HS
  iapply (wp_done_step G K c 20 (by decide) (by rfl) (by rfl)) $$ [HS]
  · isplitr; · iexact HR
    iexact HS
  iintro HS
  iapply (wp_done_step G K c 21 (by decide) (by rfl) (by rfl)) $$ [HS]
  · isplitr; · iexact HR
    iexact HS
  iintro HS
  iapply (wp_done_step G K c 22 (by decide) (by rfl) (by rfl)) $$ [HS]
  · isplitr; · iexact HR
    iexact HS
  iintro HS
  rw [wp_ret]; imodintro
  iapply Hk
  iexact HS

/-- Part 75: send completions. -/
theorem part75 (c : Dev nD)  {Q : _ → sProp 𝕄} :
    iprop(records G K ∗ Tst G c 23)
      ⊢ iprop((Tst G c 27 -∗ Q (⟨⟩))
          -∗ wp frame (wpE (defs₀ (F := F)) 𝒱₀ (c : Thread nD τ) none) Set.univ (k0_part75 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c ) Q) := by
  rw [k0_part75_eq_skeleton]
  unfold k0_part75_skel
  simp only [Prog.lift, Prog.bind_op, Prog.bind_ret, Prog.pure_eq_ret]
  iintro ⟨#HR, HS⟩
  iintro Hk
  iapply (wp_done_step G K c 23 (by decide) (by rfl) (by rfl)) $$ [HS]
  · isplitr; · iexact HR
    iexact HS
  iintro HS
  iapply (wp_done_step G K c 24 (by decide) (by rfl) (by rfl)) $$ [HS]
  · isplitr; · iexact HR
    iexact HS
  iintro HS
  iapply (wp_done_step G K c 25 (by decide) (by rfl) (by rfl)) $$ [HS]
  · isplitr; · iexact HR
    iexact HS
  iintro HS
  iapply (wp_done_step G K c 26 (by decide) (by rfl) (by rfl)) $$ [HS]
  · isplitr; · iexact HR
    iexact HS
  iintro HS
  rw [wp_ret]; imodintro
  iapply Hk
  iexact HS

/-- Part 76: send completions. -/
theorem part76 (c : Dev nD)  {Q : _ → sProp 𝕄} :
    iprop(records G K ∗ Tst G c 27)
      ⊢ iprop((Tst G c 30 -∗ Q (⟨⟩))
          -∗ wp frame (wpE (defs₀ (F := F)) 𝒱₀ (c : Thread nD τ) none) Set.univ (k0_part76 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c ) Q) := by
  rw [k0_part76_eq_skeleton]
  unfold k0_part76_skel
  simp only [Prog.lift, Prog.bind_op, Prog.bind_ret, Prog.pure_eq_ret]
  iintro ⟨#HR, HS⟩
  iintro Hk
  iapply (wp_done_step G K c 27 (by decide) (by rfl) (by rfl)) $$ [HS]
  · isplitr; · iexact HR
    iexact HS
  iintro HS
  iapply (wp_done_step G K c 28 (by decide) (by rfl) (by rfl)) $$ [HS]
  · isplitr; · iexact HR
    iexact HS
  iintro HS
  iapply (wp_done_step G K c 29 (by decide) (by rfl) (by rfl)) $$ [HS]
  · isplitr; · iexact HR
    iexact HS
  iintro HS
  rw [wp_ret]; imodintro
  iapply Hk
  iexact HS

/-- Part 77: send completions. -/
theorem part77 (c : Dev nD)  {Q : _ → sProp 𝕄} :
    iprop(records G K ∗ Tst G c 30)
      ⊢ iprop((Tst G c 34 -∗ Q (⟨⟩))
          -∗ wp frame (wpE (defs₀ (F := F)) 𝒱₀ (c : Thread nD τ) none) Set.univ (k0_part77 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c ) Q) := by
  rw [k0_part77_eq_skeleton]
  unfold k0_part77_skel
  simp only [Prog.lift, Prog.bind_op, Prog.bind_ret, Prog.pure_eq_ret]
  iintro ⟨#HR, HS⟩
  iintro Hk
  iapply (wp_done_step G K c 30 (by decide) (by rfl) (by rfl)) $$ [HS]
  · isplitr; · iexact HR
    iexact HS
  iintro HS
  iapply (wp_done_step G K c 31 (by decide) (by rfl) (by rfl)) $$ [HS]
  · isplitr; · iexact HR
    iexact HS
  iintro HS
  iapply (wp_done_step G K c 32 (by decide) (by rfl) (by rfl)) $$ [HS]
  · isplitr; · iexact HR
    iexact HS
  iintro HS
  iapply (wp_done_step G K c 33 (by decide) (by rfl) (by rfl)) $$ [HS]
  · isplitr; · iexact HR
    iexact HS
  iintro HS
  rw [wp_ret]; imodintro
  iapply Hk
  iexact HS

/-- Part 78: send completions. -/
theorem part78 (c : Dev nD)  {Q : _ → sProp 𝕄} :
    iprop(records G K ∗ Tst G c 34)
      ⊢ iprop((Tst G c 38 -∗ Q (⟨⟩))
          -∗ wp frame (wpE (defs₀ (F := F)) 𝒱₀ (c : Thread nD τ) none) Set.univ (k0_part78 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c ) Q) := by
  rw [k0_part78_eq_skeleton]
  unfold k0_part78_skel
  simp only [Prog.lift, Prog.bind_op, Prog.bind_ret, Prog.pure_eq_ret]
  iintro ⟨#HR, HS⟩
  iintro Hk
  iapply (wp_done_step G K c 34 (by decide) (by rfl) (by rfl)) $$ [HS]
  · isplitr; · iexact HR
    iexact HS
  iintro HS
  iapply (wp_done_step G K c 35 (by decide) (by rfl) (by rfl)) $$ [HS]
  · isplitr; · iexact HR
    iexact HS
  iintro HS
  iapply (wp_done_step G K c 36 (by decide) (by rfl) (by rfl)) $$ [HS]
  · isplitr; · iexact HR
    iexact HS
  iintro HS
  iapply (wp_done_step G K c 37 (by decide) (by rfl) (by rfl)) $$ [HS]
  · isplitr; · iexact HR
    iexact HS
  iintro HS
  rw [wp_ret]; imodintro
  iapply Hk
  iexact HS

/-- Part 79: send completions. -/
theorem part79 (c : Dev nD)  {Q : _ → sProp 𝕄} :
    iprop(records G K ∗ Tst G c 38)
      ⊢ iprop((Tst G c 42 -∗ Q (⟨⟩))
          -∗ wp frame (wpE (defs₀ (F := F)) 𝒱₀ (c : Thread nD τ) none) Set.univ (k0_part79 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c ) Q) := by
  rw [k0_part79_eq_skeleton]
  unfold k0_part79_skel
  simp only [Prog.lift, Prog.bind_op, Prog.bind_ret, Prog.pure_eq_ret]
  iintro ⟨#HR, HS⟩
  iintro Hk
  iapply (wp_done_step G K c 38 (by decide) (by rfl) (by rfl)) $$ [HS]
  · isplitr; · iexact HR
    iexact HS
  iintro HS
  iapply (wp_done_step G K c 39 (by decide) (by rfl) (by rfl)) $$ [HS]
  · isplitr; · iexact HR
    iexact HS
  iintro HS
  iapply (wp_done_step G K c 40 (by decide) (by rfl) (by rfl)) $$ [HS]
  · isplitr; · iexact HR
    iexact HS
  iintro HS
  iapply (wp_done_step G K c 41 (by decide) (by rfl) (by rfl)) $$ [HS]
  · isplitr; · iexact HR
    iexact HS
  iintro HS
  rw [wp_ret]; imodintro
  iapply Hk
  iexact HS

/-- Part 80: send completions. -/
theorem part80 (c : Dev nD)  {Q : _ → sProp 𝕄} :
    iprop(records G K ∗ Tst G c 42)
      ⊢ iprop((Tst G c 45 -∗ Q (⟨⟩))
          -∗ wp frame (wpE (defs₀ (F := F)) 𝒱₀ (c : Thread nD τ) none) Set.univ (k0_part80 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c ) Q) := by
  rw [k0_part80_eq_skeleton]
  unfold k0_part80_skel
  simp only [Prog.lift, Prog.bind_op, Prog.bind_ret, Prog.pure_eq_ret]
  iintro ⟨#HR, HS⟩
  iintro Hk
  iapply (wp_done_step G K c 42 (by decide) (by rfl) (by rfl)) $$ [HS]
  · isplitr; · iexact HR
    iexact HS
  iintro HS
  iapply (wp_done_step G K c 43 (by decide) (by rfl) (by rfl)) $$ [HS]
  · isplitr; · iexact HR
    iexact HS
  iintro HS
  iapply (wp_done_step G K c 44 (by decide) (by rfl) (by rfl)) $$ [HS]
  · isplitr; · iexact HR
    iexact HS
  iintro HS
  rw [wp_ret]; imodintro
  iapply Hk
  iexact HS

/-- Part 81: send completions. -/
theorem part81 (c : Dev nD)  {Q : _ → sProp 𝕄} :
    iprop(records G K ∗ Tst G c 45)
      ⊢ iprop((Tst G c 49 -∗ Q (⟨⟩))
          -∗ wp frame (wpE (defs₀ (F := F)) 𝒱₀ (c : Thread nD τ) none) Set.univ (k0_part81 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c ) Q) := by
  rw [k0_part81_eq_skeleton]
  unfold k0_part81_skel
  simp only [Prog.lift, Prog.bind_op, Prog.bind_ret, Prog.pure_eq_ret]
  iintro ⟨#HR, HS⟩
  iintro Hk
  iapply (wp_done_step G K c 45 (by decide) (by rfl) (by rfl)) $$ [HS]
  · isplitr; · iexact HR
    iexact HS
  iintro HS
  iapply (wp_done_step G K c 46 (by decide) (by rfl) (by rfl)) $$ [HS]
  · isplitr; · iexact HR
    iexact HS
  iintro HS
  iapply (wp_done_step G K c 47 (by decide) (by rfl) (by rfl)) $$ [HS]
  · isplitr; · iexact HR
    iexact HS
  iintro HS
  iapply (wp_done_step G K c 48 (by decide) (by rfl) (by rfl)) $$ [HS]
  · isplitr; · iexact HR
    iexact HS
  iintro HS
  rw [wp_ret]; imodintro
  iapply Hk
  iexact HS

/-- Part 82: send completions. -/
theorem part82 (c : Dev nD)  {Q : _ → sProp 𝕄} :
    iprop(records G K ∗ Tst G c 49)
      ⊢ iprop((Tst G c 53 -∗ Q (⟨⟩))
          -∗ wp frame (wpE (defs₀ (F := F)) 𝒱₀ (c : Thread nD τ) none) Set.univ (k0_part82 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c ) Q) := by
  rw [k0_part82_eq_skeleton]
  unfold k0_part82_skel
  simp only [Prog.lift, Prog.bind_op, Prog.bind_ret, Prog.pure_eq_ret]
  iintro ⟨#HR, HS⟩
  iintro Hk
  iapply (wp_done_step G K c 49 (by decide) (by rfl) (by rfl)) $$ [HS]
  · isplitr; · iexact HR
    iexact HS
  iintro HS
  iapply (wp_done_step G K c 50 (by decide) (by rfl) (by rfl)) $$ [HS]
  · isplitr; · iexact HR
    iexact HS
  iintro HS
  iapply (wp_done_step G K c 51 (by decide) (by rfl) (by rfl)) $$ [HS]
  · isplitr; · iexact HR
    iexact HS
  iintro HS
  iapply (wp_done_step G K c 52 (by decide) (by rfl) (by rfl)) $$ [HS]
  · isplitr; · iexact HR
    iexact HS
  iintro HS
  rw [wp_ret]; imodintro
  iapply Hk
  iexact HS

/-- Part 83: send completions. -/
theorem part83 (c : Dev nD)  {Q : _ → sProp 𝕄} :
    iprop(records G K ∗ Tst G c 53)
      ⊢ iprop((Tst G c 57 -∗ Q (⟨⟩))
          -∗ wp frame (wpE (defs₀ (F := F)) 𝒱₀ (c : Thread nD τ) none) Set.univ (k0_part83 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c ) Q) := by
  rw [k0_part83_eq_skeleton]
  unfold k0_part83_skel
  simp only [Prog.lift, Prog.bind_op, Prog.bind_ret, Prog.pure_eq_ret]
  iintro ⟨#HR, HS⟩
  iintro Hk
  iapply (wp_done_step G K c 53 (by decide) (by rfl) (by rfl)) $$ [HS]
  · isplitr; · iexact HR
    iexact HS
  iintro HS
  iapply (wp_done_step G K c 54 (by decide) (by rfl) (by rfl)) $$ [HS]
  · isplitr; · iexact HR
    iexact HS
  iintro HS
  iapply (wp_done_step G K c 55 (by decide) (by rfl) (by rfl)) $$ [HS]
  · isplitr; · iexact HR
    iexact HS
  iintro HS
  iapply (wp_done_step G K c 56 (by decide) (by rfl) (by rfl)) $$ [HS]
  · isplitr; · iexact HR
    iexact HS
  iintro HS
  rw [wp_ret]; imodintro
  iapply Hk
  iexact HS

end Cert.KernelIdeal.Ring
-- ==== Proof.KernelIdeal.Contents.lean ====
/-
# `Contents`: what the buffers hold before the ring starts, and the stores that fill them
-/
module

public import proofs.«01_k».proof.Proof.KernelIdeal.Parts1

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The device's number as the kernel computes it. -/
abbrev myW (c : Dev nD) : BitVec 32 := Scalar.remsi (Scalar.divsi (Dev.word c) 1#32) 16#32

theorem sl128 (b : Fin 16) : S2048x64.Slices ![128 * b.val, 0] S128x64 := by revert b; decide
theorem sl32 (k : Fin 4) : S128x512.Slices ![32 * k.val, 0] S32x512 := by revert k; decide
theorem inb4 (k : Fin 4) : ∀ a, (![k.val, 0, 0] : Fin 3 → ℕ) a + S1x512x1024.size a ≤ S4x512x1024.size a := by revert k; decide

section One
variable (X : (cc0_stg0_0 : Ref sig .tc).ty.Contents (Elt F)) (E : (cc0_stg1_0 : Ref sig .tc).ty.Contents (Elt F))
  (Wt : (cc0_stg2_0 : Ref sig .tc).ty.Contents (Elt F))

/-- The running counts within block `b` of 128 rows: the triangle of ones times the block's one-hot rows. -/
def blockP (b : Fin 16) : FVec F S128x64 .f32 :=
  matmul dot_S128x128_S128x64_S128x64_1_0_0_1_n_n none (k0_pay1 (F := F)) (extractStridedSlice S128x64 ![128 * b.val, 0] (k0_pay3 (F := F) E) (sl128 b))
    (constant S128x64 .f32 0x00000000#32)

/-- All the running counts; -/
def inT : (cc0_scratch3 : Ref sig .tc).ty.Contents (Elt F) := fun (i : S2048x64.Idx) =>
  blockP E ⟨(i 0).val / 128, by have : (i 0).val < 2048 := (i 0).isLt; omega⟩
    (fun a => match a with | ⟨0, _⟩ => (⟨(i 0).val % 128, Nat.mod_lt _ (by decide)⟩ : Fin 128) | ⟨1, _⟩ => (⟨(i 1).val, (i 1).isLt⟩ : Fin 64))
/-- the blocks' totals. -/
def bsT : (cc0_scratch2 : Ref sig .tc).ty.Contents (Elt F) := fun (i : S16x64.Idx) =>
  blockP E ⟨(i 0).val, (i 0).isLt⟩ (fun a => match a with | ⟨0, _⟩ => (⟨127, by decide⟩ : Fin 128) | ⟨1, _⟩ => (⟨(i 1).val, (i 1).isLt⟩ : Fin 64))

/-- Each row's place among the rows of its expert, counted from 0. -/
def rkT : (cc0_scratch1 : Ref sig .tc).ty.Contents (Elt F) :=
  k0_pay55 (k0_pay53 (k0_pay2 (F := F)) (bsT E)) (k0_pay54 (k0_pay3 (F := F) E)) (inT E)

/-- The rows gathered for the experts of device `c`. -/
def xgV (c : Dev nD) : FVec F S128x512 .bf16 :=
  k0_pay61 (F := F) (k0_pay56 (F := F) E) (k0_pay57 (rkT E)) (k0_pay58 (rkT E)) (k0_pay59 (F := F) E) (k0_pay60 (myW c)) X

/-- Expert `k`'s weights among the device's four. -/
def wK (k : Fin 4) : Vec F S1x512x1024 .bf16 :=
  wM.view.readAt (Elt F) (Rect.unit (s := S4x512x1024) ![k.val, 0, 0] S1x512x1024.size (inb4 k)).toLoadRect Wt

/-- Sub-block `k` of device `c`: its gathered rows times expert `k`'s weights. -/
def subV (c : Dev nD) (k : Fin 4) : FVec F S32x1024 .bf16 :=
  truncf .bf16 (matmul dot_S32x512_S512x1024_S32x1024_1_0_0_1_n_n none (extractStridedSlice S32x512 ![32 * k.val, 0] (xgV X E c) (sl32 k))
    (shapeCast S512x1024 (wK Wt k) shapeCasts_S1x512x1024_S512x1024) (constant S32x1024 .f32 0x00000000#32)) bitsLt_bf16_f32

/-- The row selectors of device `c`. -/
def selT (c : Dev nD) : (cc0_scratch4 : Ref sig .tc).ty.Contents (Elt F) :=
  k0_pay69 (F := F) (k0_pay67 (rkM.view.readAt (Elt F) (Rect.unit (s := S2048x1) (k0_off5 c) S128x1.size (k0_off5_inb c)).toLoadRect (rkT E)))
    (k0_pay68 (k0_pay66 (F := F) (eM.view.readAt (Elt F) (Rect.unit (s := S2048x1) (k0_off5 c) S128x1.size (k0_off5_inb c)).toLoadRect E)))

end One

/-- All devices' blocks, slot by slot. -/
def GT (X : Dev nD → (cc0_stg0_0 : Ref sig .tc).ty.Contents (Elt F)) (E : Dev nD → (cc0_stg1_0 : Ref sig .tc).ty.Contents (Elt F))
    (Wt : Dev nD → (cc0_stg2_0 : Ref sig .tc).ty.Contents (Elt F)) : (cc0_scratch0 : Ref sig .tc).ty.Contents (Elt F) := fun (i : S16x128x1024.Idx) =>
  subV (X ⟨(i 0).val, (i 0).isLt⟩) (E ⟨(i 0).val, (i 0).isLt⟩) (Wt ⟨(i 0).val, (i 0).isLt⟩) ⟨(i 0).val, (i 0).isLt⟩
    ⟨(i 1).val / 32, by have : (i 1).val < 128 := (i 1).isLt; omega⟩
    (fun a => match a with | ⟨0, _⟩ => (⟨(i 1).val % 32, Nat.mod_lt _ (by decide)⟩ : Fin 32) | ⟨1, _⟩ => (⟨(i 2).val, (i 2).isLt⟩ : Fin 1024))

/-! ## Stores of a block of rows -/

theorem write_hit (b : Ref sig .tc) (off size : Fin b.ty.shape.rank → Nat) (inb : ∀ a, off a + size a ≤ b.ty.shape.size a)
    (f : b.ty.Contents (Elt F)) (w : (Rect.unit off size inb).shape.Idx → Elt F b.ty.elt) (i : b.ty.Idx)
    (h : ∀ a, off a ≤ (i a).val ∧ (i a).val < off a + size a) :
    ((Memref.whole b : Memref sig .tc _ _ _).access (Rect.unit off size inb)).write (Elt F) f w Finset.univ i
      = w (fun a => ⟨(i a).val - off a, by have := h a; show (i a).val - off a < size a; omega⟩) := by
  show ((View.whole b).slice (Rect.unit off size inb)).write (Elt F) f w Finset.univ i = _
  rw [View.write_whole_slice_unit]
  unfold updateSlice
  exact dif_pos h
theorem write_miss (b : Ref sig .tc) (off size : Fin b.ty.shape.rank → Nat) (inb : ∀ a, off a + size a ≤ b.ty.shape.size a)
    (f : b.ty.Contents (Elt F)) (w : (Rect.unit off size inb).shape.Idx → Elt F b.ty.elt) (i : b.ty.Idx)
    (h : ¬ ∀ a, off a ≤ (i a).val ∧ (i a).val < off a + size a) :
    ((Memref.whole b : Memref sig .tc _ _ _).access (Rect.unit off size inb)).write (Elt F) f w Finset.univ i = f i := by
  show ((View.whole b).slice (Rect.unit off size inb)).write (Elt F) f w Finset.univ i = _
  rw [View.write_whole_slice_unit]
  unfold updateSlice
  exact dif_neg h

/-- The counts' buffer, right in its first `b` blocks; -/
def inPts (c : Dev nD) (E : (cc0_stg1_0 : Ref sig .tc).ty.Contents (Elt F)) (b : ℕ) : sProp 𝕄 :=
  iprop(∃ f : (cc0_scratch3 : Ref sig .tc).ty.Contents (Elt F), ⌜∀ i : S2048x64.Idx, (i 0).val < 128 * b → f i = inT E i⌝
    ∗ (((c : Thread nD τ).loc cc0_scratch3) ↦{fullShare} f))
/-- the totals' buffer, right in its first `b` rows; -/
def bsPts (c : Dev nD) (E : (cc0_stg1_0 : Ref sig .tc).ty.Contents (Elt F)) (b : ℕ) : sProp 𝕄 :=
  iprop(∃ f : (cc0_scratch2 : Ref sig .tc).ty.Contents (Elt F), ⌜∀ i : S16x64.Idx, (i 0).val < b → f i = bsT E i⌝
    ∗ (((c : Thread nD τ).loc cc0_scratch2) ↦{fullShare} f))
/-- the device's own slot, right in its first `k` sub-blocks. -/
def ownPts (G : (cc0_scratch0 : Ref sig .tc).ty.Contents (Elt F)) (c : Dev nD) (k : ℕ) : sProp 𝕄 :=
  iprop(∃ f : (cc0_scratch0 : Ref sig .tc).ty.Contents (Elt F), ⌜∀ i : S16x128x1024.Idx, (i 0).val = c.val → (i 1).val < 32 * k → f i = G i⌝
    ∗ (((c : Thread nD τ).loc cc0_scratch0) ↦[slot c.val]{fullShare} f))

section Rules
variable (c : Dev nD) (E : (cc0_stg1_0 : Ref sig .tc).ty.Contents (Elt F))

theorem wp_in_load (b : ℕ) {α : Type} {r : LoadRect S2048x64} {hl : inM.view.LoadsAt r} {k : (r.shape.Idx → Elt F .f32) → Prog (TpuEff nD τ sig (Elt F) Λ₀ .tc) α} {Q : α → sProp 𝕄} :
    inPts c E b ⊢ iprop((∀ v, inPts c E b -∗ wp frame (wpE (defs₀ (F := F)) 𝒱₀ (c : Thread nD τ) none) Set.univ (k v) Q)
        -∗ wp frame (wpE (defs₀ (F := F)) 𝒱₀ (c : Thread nD τ) none) Set.univ (.op (.load inM r hl) k) Q) := by
  unfold inPts
  iintro ⟨%f, %hf, H⟩
  iintro Hk
  iapply (wp_load 𝒱₀ (c : Thread nD τ) none Set.univ (m := inM) (Finset.subset_univ _)) $$ H; iintro H
  iapply Hk
  iexists f
  isplitr; · ipureintro; exact hf
  iexact H

theorem wp_bs_load (b : ℕ) {α : Type} {r : LoadRect S16x64} {hl : bsM.view.LoadsAt r} {k : (r.shape.Idx → Elt F .f32) → Prog (TpuEff nD τ sig (Elt F) Λ₀ .tc) α} {Q : α → sProp 𝕄} :
    bsPts c E b ⊢ iprop((∀ v, bsPts c E b -∗ wp frame (wpE (defs₀ (F := F)) 𝒱₀ (c : Thread nD τ) none) Set.univ (k v) Q)
        -∗ wp frame (wpE (defs₀ (F := F)) 𝒱₀ (c : Thread nD τ) none) Set.univ (.op (.load bsM r hl) k) Q) := by
  unfold bsPts
  iintro ⟨%f, %hf, H⟩
  iintro Hk
  iapply (wp_load 𝒱₀ (c : Thread nD τ) none Set.univ (m := bsM) (Finset.subset_univ _)) $$ H; iintro H
  iapply Hk
  iexists f
  isplitr; · ipureintro; exact hf
  iexact H

/-- Store block `b` of the counts. -/
theorem wp_in_store (b : Fin 16) {α : Type} {off : Fin 2 → ℕ} {h} (e : off = ![128 * b.val, 0]) {w : S128x64.Idx → Elt F .f32}
    (hw : w = shapeCast S128x64 (blockP E b) shapeCasts_S128x64_S128x64)
    {hs : (inM.access (Rect.unit (s := S2048x64) off S128x64.size h)).Stores Finset.univ} {hx}
    {k : PUnit → Prog (TpuEff nD τ sig (Elt F) Λ₀ .tc) α} {Q : α → sProp 𝕄} :
    inPts c E b.val ⊢ iprop((inPts c E (b.val + 1) -∗ wp frame (wpE (defs₀ (F := F)) 𝒱₀ (c : Thread nD τ) none) Set.univ (k ⟨⟩) Q)
        -∗ wp frame (wpE (defs₀ (F := F)) 𝒱₀ (c : Thread nD τ) none) Set.univ
            (.op (.store inM (Rect.unit (s := S2048x64) off S128x64.size h) w Finset.univ hs hx) k) Q) := by
  subst e hw
  rw [shapeCast_self]
  unfold inPts
  iintro ⟨%f, %hf, H⟩
  iintro Hk
  iapply (wp_store 𝒱₀ (c : Thread nD τ) none Set.univ (m := inM) (r := Rect.unit (s := S2048x64) ![128 * b.val, 0] S128x64.size h) (Mk := Finset.univ)
    (Finset.subset_univ _)) $$ H; iintro H
  iapply Hk
  iexists ((inM.access (Rect.unit (s := S2048x64) ![128 * b.val, 0] S128x64.size h)).write (Elt F) f (blockP E b) Finset.univ)
  isplitr
  · ipureintro
    intro i hi
    have hb := b.isLt
    have h1 : (i 1).val < 64 := (i 1).isLt
    by_cases hlt : (i 0).val < 128 * b.val
    · rw [write_miss cc0_scratch3]
      · exact hf i hlt
      · intro hh; have := (hh 0).1; have : 128 * b.val ≤ (i 0).val := this; omega
    · rw [write_hit cc0_scratch3 _ _ _ _ _ _ (by
        intro a; fin_cases a
        · show 128 * b.val ≤ (i 0).val ∧ (i 0).val < 128 * b.val + 128; omega
        · show 0 ≤ (i 1).val ∧ (i 1).val < 0 + 64; omega)]
      unfold inT
      have hq : (i 0).val / 128 = b.val := by omega
      have hbq : (⟨(i 0).val / 128, by omega⟩ : Fin 16) = b := Fin.ext hq
      rw [hbq]
      congr 1
      funext a
      apply Fin.ext
      fin_cases a
      · show (i 0).val - 128 * b.val = (i 0).val % 128; omega
      · show (i 1).val - 0 = (i 1).val; omega
  iexact H

/-- Store row `b` of the totals. -/
theorem wp_bs_store (b : Fin 16) {α : Type} {off : Fin 2 → ℕ} {h} (e : off = ![b.val, 0]) {w : S1x64.Idx → Elt F .f32}
    (hw : w = shapeCast S1x64 (extractStridedSlice S1x64 ![127, 0] (blockP E b) slices_S128x64_o127_0_S1x64) shapeCasts_S1x64_S1x64)
    {hs : (bsM.access (Rect.unit (s := S16x64) off S1x64.size h)).Stores Finset.univ} {hx}
    {k : PUnit → Prog (TpuEff nD τ sig (Elt F) Λ₀ .tc) α} {Q : α → sProp 𝕄} :
    bsPts c E b.val ⊢ iprop((bsPts c E (b.val + 1) -∗ wp frame (wpE (defs₀ (F := F)) 𝒱₀ (c : Thread nD τ) none) Set.univ (k ⟨⟩) Q)
        -∗ wp frame (wpE (defs₀ (F := F)) 𝒱₀ (c : Thread nD τ) none) Set.univ
            (.op (.store bsM (Rect.unit (s := S16x64) off S1x64.size h) w Finset.univ hs hx) k) Q) := by
  subst e hw
  rw [shapeCast_self]
  unfold bsPts
  iintro ⟨%f, %hf, H⟩
  iintro Hk
  iapply (wp_store 𝒱₀ (c : Thread nD τ) none Set.univ (m := bsM) (r := Rect.unit (s := S16x64) ![b.val, 0] S1x64.size h) (Mk := Finset.univ)
    (Finset.subset_univ _)) $$ H; iintro H
  iapply Hk
  iexists ((bsM.access (Rect.unit (s := S16x64) ![b.val, 0] S1x64.size h)).write (Elt F) f
    (extractStridedSlice S1x64 ![127, 0] (blockP E b) slices_S128x64_o127_0_S1x64) Finset.univ)
  isplitr
  · ipureintro
    intro i hi
    have hb := b.isLt
    have h1 : (i 1).val < 64 := (i 1).isLt
    by_cases hlt : (i 0).val < b.val
    · rw [write_miss cc0_scratch2]
      · exact hf i hlt
      · intro hh; have := (hh 0).1; have : b.val ≤ (i 0).val := this; omega
    · rw [write_hit cc0_scratch2 _ _ _ _ _ _ (by
        intro a; fin_cases a
        · show b.val ≤ (i 0).val ∧ (i 0).val < b.val + 1; omega
        · show 0 ≤ (i 1).val ∧ (i 1).val < 0 + 64; omega)]
      unfold bsT
      have hbq : (⟨(i 0).val, (i 0).isLt⟩ : Fin 16) = b := Fin.ext (show (i 0).val = b.val by omega)
      rw [hbq]
      unfold extractStridedSlice
      congr 1
      funext a
      apply Fin.ext
      fin_cases a
      · show 127 + ((i 0).val - b.val) = 127; omega
      · show 0 + ((i 1).val - 0) = (i 1).val; omega
  iexact H

variable (G : (cc0_scratch0 : Ref sig .tc).ty.Contents (Elt F))

theorem own_sub (off : Fin 3 → ℕ) (h : ∀ a, off a + S1x32x1024.size a ≤ S16x128x1024.size a) (s : ℕ) (e : off = ![c.val, s, 0]) :
    cM.view.setOn (Rect.unit (s := S16x128x1024) off S1x32x1024.size h).toLoadRect.set ⊆ slot c.val := by
  subst e
  intro i hi
  obtain ⟨x, hx, rfl⟩ := Finset.mem_map.mp hi
  have hx' : x ∈ (Rect.unit (s := S16x128x1024) ![c.val, s, 0] S1x32x1024.size h).set := hx
  rw [Rect.mem_set_unit] at hx'
  have a0 : c.val ≤ (x 0).val ∧ (x 0).val < c.val + 1 := hx' 0
  rw [mem_slot]
  show (x 0).val = c.val
  omega
theorem own_sub' (off : Fin 3 → ℕ) (h : ∀ a, off a + S1x32x1024.size a ≤ S16x128x1024.size a) (s : ℕ) (e : off = ![c.val, s, 0]) :
    (cM.access (Rect.unit (s := S16x128x1024) off S1x32x1024.size h)).setOn Finset.univ ⊆ slot c.val := by
  subst e
  intro i hi
  have hi' : i ∈ ((View.whole (cc0_scratch0 : Ref sig .tc)).slice (Rect.unit (s := S16x128x1024) ![c.val, s, 0] S1x32x1024.size h)).set := hi
  rw [View.set_slice_whole, Rect.mem_set_unit] at hi'
  have a0 : c.val ≤ (i 0).val ∧ (i 0).val < c.val + 1 := hi' 0
  rw [mem_slot]
  omega

theorem wp_own_load (b s : ℕ) {α : Type} {off : Fin 3 → ℕ} {h} (e : off = ![c.val, s, 0])
    {hl : cM.view.LoadsAt (Rect.unit (s := S16x128x1024) off S1x32x1024.size h).toLoadRect}
    {k : (S1x32x1024.Idx → Elt F .bf16) → Prog (TpuEff nD τ sig (Elt F) Λ₀ .tc) α} {Q : α → sProp 𝕄} :
    ownPts G c b ⊢ iprop((∀ v, ownPts G c b -∗ wp frame (wpE (defs₀ (F := F)) 𝒱₀ (c : Thread nD τ) none) Set.univ (k v) Q)
        -∗ wp frame (wpE (defs₀ (F := F)) 𝒱₀ (c : Thread nD τ) none) Set.univ
            (.op (.load cM (Rect.unit (s := S16x128x1024) off S1x32x1024.size h).toLoadRect hl) k) Q) := by
  unfold ownPts
  iintro ⟨%f, %hf, H⟩
  iintro Hk
  iapply (wp_load 𝒱₀ (c : Thread nD τ) none Set.univ (m := cM) (own_sub c off h s e)) $$ H; iintro H
  iapply Hk
  iexists f
  isplitr; · ipureintro; exact hf
  iexact H

/-- Store sub-block `b` of the device's slot. -/
theorem wp_own_store (b : Fin 4) {α : Type} {off : Fin 3 → ℕ} {h} (e : off = ![c.val, 32 * b.val, 0]) {w : S1x32x1024.Idx → Elt F .bf16}
    (u : FVec F S32x1024 .bf16) (hw : w = shapeCast S1x32x1024 u shapeCasts_S32x1024_S1x32x1024)
    (hG : ∀ i : S16x128x1024.Idx, (i 0).val = c.val → (i 1).val / 32 = b.val → G i
      = u (fun a => match a with | ⟨0, _⟩ => (⟨(i 1).val % 32, Nat.mod_lt _ (by decide)⟩ : Fin 32) | ⟨1, _⟩ => (⟨(i 2).val, (i 2).isLt⟩ : Fin 1024)))
    {hs : (cM.access (Rect.unit (s := S16x128x1024) off S1x32x1024.size h)).Stores Finset.univ} {hx}
    {k : PUnit → Prog (TpuEff nD τ sig (Elt F) Λ₀ .tc) α} {Q : α → sProp 𝕄} :
    ownPts G c b.val ⊢ iprop((ownPts G c (b.val + 1) -∗ wp frame (wpE (defs₀ (F := F)) 𝒱₀ (c : Thread nD τ) none) Set.univ (k ⟨⟩) Q)
        -∗ wp frame (wpE (defs₀ (F := F)) 𝒱₀ (c : Thread nD τ) none) Set.univ
            (.op (.store cM (Rect.unit (s := S16x128x1024) off S1x32x1024.size h) w Finset.univ hs hx) k) Q) := by
  subst hw
  unfold ownPts
  iintro ⟨%f, %hf, H⟩
  iintro Hk
  iapply (wp_store 𝒱₀ (c : Thread nD τ) none Set.univ (m := cM) (r := Rect.unit (s := S16x128x1024) off S1x32x1024.size h) (Mk := Finset.univ)
    (own_sub' c off h _ e)) $$ H; iintro H
  subst e
  iapply Hk
  iexists ((cM.access (Rect.unit (s := S16x128x1024) ![c.val, 32 * b.val, 0] S1x32x1024.size h)).write (Elt F) f
    (shapeCast S1x32x1024 u shapeCasts_S32x1024_S1x32x1024) Finset.univ)
  isplitr
  · ipureintro
    intro i hi0 hi
    have hb := b.isLt
    have h2 : (i 2).val < 1024 := (i 2).isLt
    by_cases hlt : (i 1).val < 32 * b.val
    · rw [write_miss cc0_scratch0]
      · exact hf i hi0 hlt
      · intro hh; have := (hh 1).1; have : 32 * b.val ≤ (i 1).val := this; omega
    · rw [write_hit cc0_scratch0 _ _ _ _ _ _ (by
        intro a; fin_cases a
        · show c.val ≤ (i 0).val ∧ (i 0).val < c.val + 1; omega
        · show 32 * b.val ≤ (i 1).val ∧ (i 1).val < 32 * b.val + 32; omega
        · show 0 ≤ (i 2).val ∧ (i 2).val < 0 + 1024; omega)]
      rw [hG i hi0 (by omega)]
      refine (shapeCast_addUnit_apply ![32, 1024] u shapeCasts_S32x1024_S1x32x1024 _).trans ?_
      congr 1
      funext a
      apply Fin.ext
      fin_cases a
      · show (i 1).val - 32 * b.val = (i 1).val % 32; omega
      · show (i 2).val - 0 = (i 2).val; omega
  iexact H

end Rules

end Cert.KernelIdeal.Ring
-- ==== Proof.KernelIdeal.Prefix.lean ====
/-
# `Prefix`: the kernel's parts 1 to 11: the barrier, the ranks, the device's own blocks, the selectors
-/
module

public import proofs.«01_k».proof.Proof.KernelIdeal.Contents

@[expose] public section

noncomputable section

namespace Cert.KernelIdeal.Ring

open Cert.KernelIdeal Cert.KernelIdeal.Gen

open Idealize.ShloMosaic
open Memref (isWhole_whole)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The staged inputs and the ranks' buffer, whole. -/
def xPts (c : Dev nD) (X : (cc0_stg0_0 : Ref sig .tc).ty.Contents (Elt F)) : sProp 𝕄 := ((c : Thread nD τ).loc cc0_stg0_0) ↦{fullShare} X
def ePts (c : Dev nD) (E : (cc0_stg1_0 : Ref sig .tc).ty.Contents (Elt F)) : sProp 𝕄 := ((c : Thread nD τ).loc cc0_stg1_0) ↦{fullShare} E
def wPts (c : Dev nD) (Wt : (cc0_stg2_0 : Ref sig .tc).ty.Contents (Elt F)) : sProp 𝕄 := ((c : Thread nD τ).loc cc0_stg2_0) ↦{fullShare} Wt
def rkPts (c : Dev nD) (f : (cc0_scratch1 : Ref sig .tc).ty.Contents (Elt F)) : sProp 𝕄 := ((c : Thread nD τ).loc cc0_scratch1) ↦{fullShare} f

theorem hz3 : (![0, 0, 0] : Fin 3 → Nat) = fun _ => 0 := funext fun a => by fin_cases a <;> rfl
omit [FloatOps F] in
theorem eM_read (f : (cc0_stg1_0 : Ref sig .tc).ty.Contents (Elt F)) (h) :
    eM.view.readAt (Elt F) (Rect.unit (s := S2048x1) ![0, 0] S2048x1.size h).toLoadRect f = f := Memref.readAt_unit_zero (Elt F) cc0_stg1_0 hz h f
omit [FloatOps F] in
theorem xM_read (f : (cc0_stg0_0 : Ref sig .tc).ty.Contents (Elt F)) (h) :
    xM.view.readAt (Elt F) (Rect.unit (s := S2048x512) ![0, 0] S2048x512.size h).toLoadRect f = f := Memref.readAt_unit_zero (Elt F) cc0_stg0_0 hz h f
omit [FloatOps F] in
theorem rkM_read (f : (cc0_scratch1 : Ref sig .tc).ty.Contents (Elt F)) (h) :
    rkM.view.readAt (Elt F) (Rect.unit (s := S2048x1) ![0, 0] S2048x1.size h).toLoadRect f = f := Memref.readAt_unit_zero (Elt F) cc0_scratch1 hz h f
omit [FloatOps F] in
theorem bsM_read (f : (cc0_scratch2 : Ref sig .tc).ty.Contents (Elt F)) (h) :
    bsM.view.readAt (Elt F) (Rect.unit (s := S16x64) ![0, 0] S16x64.size h).toLoadRect f = f := Memref.readAt_unit_zero (Elt F) cc0_scratch2 hz h f
omit [FloatOps F] in
theorem inM_read (f : (cc0_scratch3 : Ref sig .tc).ty.Contents (Elt F)) (h) :
    inM.view.readAt (Elt F) (Rect.unit (s := S2048x64) ![0, 0] S2048x64.size h).toLoadRect f = f := Memref.readAt_unit_zero (Elt F) cc0_scratch3 hz h f
omit [FloatOps F] in
theorem rkM_write (f w : (cc0_scratch1 : Ref sig .tc).ty.Contents (Elt F)) (h) :
    (rkM.access (Rect.unit (s := S2048x1) ![0, 0] S2048x1.size h) : View sig .tc _ _ _).write (Elt F) f w Finset.univ = w :=
  Memref.write_access_unit_zero_univ (Elt F) cc0_scratch1 hz h f w
omit [FloatOps F] in
theorem slM_write (f w : (cc0_scratch4 : Ref sig .tc).ty.Contents (Elt F)) (h) :
    (slM.access (Rect.unit (s := S128x2048) ![0, 0] S128x2048.size h) : View sig .tc _ _ _).write (Elt F) f w Finset.univ = w :=
  Memref.write_access_unit_zero_univ (Elt F) cc0_scratch4 hz h f w

theorem inPts_full (c : Dev nD) (E : (cc0_stg1_0 : Ref sig .tc).ty.Contents (Elt F)) :
    (inPts c E 16 : sProp 𝕄) ⊢ (((c : Thread nD τ).loc cc0_scratch3) ↦{fullShare} (inT E)) := by
  unfold inPts
  iintro ⟨%f, %hf, H⟩
  have : f = inT E := funext fun (i : S2048x64.Idx) => hf i (by have : (i 0).val < 2048 := (i 0).isLt; omega)
  subst this
  iexact H
theorem bsPts_full (c : Dev nD) (E : (cc0_stg1_0 : Ref sig .tc).ty.Contents (Elt F)) :
    (bsPts c E 16 : sProp 𝕄) ⊢ (((c : Thread nD τ).loc cc0_scratch2) ↦{fullShare} (bsT E)) := by
  unfold bsPts
  iintro ⟨%f, %hf, H⟩
  have : f = bsT E := funext fun (i : S16x64.Idx) => hf i (i 0).isLt
  subst this
  iexact H
theorem ownPts_full (G : (cc0_scratch0 : Ref sig .tc).ty.Contents (Elt F)) (c : Dev nD) :
    (ownPts G c 4 : sProp 𝕄) ⊢ (((c : Thread nD τ).loc cc0_scratch0) ↦[slot c.val]{fullShare} G) := by
  unfold ownPts
  iintro ⟨%f, %hf, H⟩
  rw [pointsTo_congr (g := G) fun (i : S16x128x1024.Idx) hi => hf i (mem_slot.mp hi) (by have : (i 1).val < 128 := (i 1).isLt; omega)]
  exact .rfl

variable (G : (cc0_scratch0 : Ref sig .tc).ty.Contents (Elt F)) (K : Dev nD × Fin 121 → ℕ)

/-- Part 1: the barrier with both neighbours. -/
theorem part1 (c : Dev nD) (E : (cc0_stg1_0 : Ref sig .tc).ty.Contents (Elt F)) {Q : _ → sProp 𝕄} :
    iprop(records G K ∗ (∃ W, owes (c : Thread nD τ) (O₀ c) W) ∗ dutyTok ER (barCell (prv c)) 0 false ∗ dutyTok ER (barCell (nxt c)) 0 true ∗ cred (tallyAt (barCell c) () 2) ∗ atPos ER (barCell c) 0 ∅ 0 ∗ barPay (F := F) (prv c) false ∗ barPay (F := F) (nxt c) true ∗ ePts c E)
      ⊢ iprop((((∃ W, owes (c : Thread nD τ) (Otail c 0) W) ∗ atPos ER (barCell c) 1 ∅ 0 ∗ bigSep (Finset.range 60) (fun j => iprop(∃ f, bPts (F := F) (tg c j) (so c j) (sub j) fullShare f)) ∗ ePts c E) -∗ Q (⟨c, myW c, Scalar.remsi (Scalar.addi (Scalar.subi (myW c) 1#32) 16#32) 16#32, Scalar.remsi (Scalar.addi (myW c) 1#32) 16#32, k0_pay1 (F := F), k0_pay2 (F := F), k0_pay3 E, k0_pay4 E⟩))
          -∗ wp frame (wpE (defs₀ (F := F)) 𝒱₀ (c : Thread nD τ) none) Set.univ (k0_part1 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8) Q) := by
  rw [k0_part1_eq_skeleton]
  unfold k0_part1_skel
  simp only [Prog.lift, Prog.bind_op, Prog.bind_ret, Prog.pure_eq_ret]
  simp only [semSignalWord, semWaitWord, Prog.lift, Prog.bind_op, Prog.bind_ret, Prog.pure_eq_ret, wp_deviceId]
  have hd1 : (⟨k0_dev1 c, k0_dev1_lt c⟩ : Dev nD) = prv c := Fin.ext (k0_dev1_eq c)
  have hd2 : (⟨k0_dev2 c, k0_dev2_lt c⟩ : Dev nD) = nxt c := Fin.ext (k0_dev2_eq c)
  rw [hd1, hd2]
  iintro ⟨#HR, ⟨%W, HO⟩, Ht1, Ht2, Hc, Hat, Hp1, Hp2, HE⟩
  iintro Hk
  iapply (Rounds.wp_signal 𝒱₀ ER (ringRd G) (c : Thread nD τ) none (dst := ((prv c : Dev nD) : Thread nD τ)) (κ := K (prv c, 0)) (d := false)
    (by rw [duties_bar]; exact Finset.mem_univ _) ((amount_bar G (prv c) false).trans (by decide)) () (O₁ c) rfl) $$ [HO Ht1 Hp1]
  · isplitr; · iapply (inv_at G K (prv c, 0)); iexact HR
    isplitl [HO]; · iexact HO
    isplitl [Ht1]; · iexact Ht1
    isplitl [Hp1]; · rw [payload_bar]; iexact Hp1
    iapply (reached_at G K (prv c, 0)); iexact HR
  iintro HO
  iapply (Rounds.wp_signal 𝒱₀ ER (ringRd G) (c : Thread nD τ) none (dst := ((nxt c : Dev nD) : Thread nD τ)) (κ := K (nxt c, 0)) (d := true)
    (by rw [duties_bar]; exact Finset.mem_univ _) ((amount_bar G (nxt c) true).trans (by decide)) () (Otail c 0) rfl) $$ [HO Ht2 Hp2]
  · isplitr; · iapply (inv_at G K (nxt c, 0)); iexact HR
    isplitl [HO]; · iexact HO
    isplitl [Ht2]; · iexact Ht2
    isplitl [Hp2]; · rw [payload_bar]; iexact Hp2
    iapply (reached_at G K (nxt c, 0)); iexact HR
  iintro HO
  have hmw : (levAts L lv : sProp 𝕄) ⊢ MayWait (c : Thread nD τ) (.reg barS) () (Otail c 0) :=
    mayWait_tail c (.reg barS) 0 (by rw [cls_bar]; decide)
  iapply (Rounds.wp_wait_rest_token 𝒱₀ ER (ringRd G) (c : Thread nD τ) none (κ := K (c, 0)) (sm := .reg barS)
    (wpE_semWait_eq 𝒱₀ (c : Thread nD τ) none Set.univ) (Set.mem_univ _) () (O := Otail c 0) (W := W) (R := 0) (m := 0) (T := ∅)
    (by rw [expect_bar]; decide)) $$ [Hc HO Hat]
  · isplitr; · iapply (inv_at G K (c, 0)); iexact HR
    isplitl [Hc]; · iexact Hc
    isplitl [HO]; · iexact HO
    isplitr
    · unfold records
      icases HR with ⟨-, -, #Hl⟩
      iapply hmw; iexact Hl
    iexact Hat
  iintro ⟨HO, Hat, -, Hpay⟩
  ihave Hp := (Entails.of_eq (rest_bar G c)) $$ Hpay
  unfold ePts
  iapply (wp_load 𝒱₀ (c : Thread nD τ) none Set.univ (m := eM) (Finset.subset_univ _)) $$ HE; iintro HE
  rw [eM_read]
  rw [wp_ret]; imodintro
  iapply Hk
  isplitl [HO]; · iexists _; iexact HO
  isplitl [Hat]; · iexact Hat
  isplitl [Hp]; · iexact Hp
  iexact HE

/-- Part 2: blocks 0 to 4 of the running counts. -/
theorem part2 (c : Dev nD) (E : (cc0_stg1_0 : Ref sig .tc).ty.Contents (Elt F)) {Q : _ → sProp 𝕄} :
    iprop(inPts c E 0 ∗ bsPts c E 0)
      ⊢ iprop(((inPts c E 4 ∗ bsPts c E 3) -∗ Q (k0_pay15 (k0_pay1 (F := F)) (k0_pay3 E)))
          -∗ wp frame (wpE (defs₀ (F := F)) 𝒱₀ (c : Thread nD τ) none) Set.univ (k0_part2 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 (k0_pay1 (F := F)) (k0_pay3 E) (k0_pay4 E)) Q) := by
  rw [k0_part2_eq_skeleton]
  unfold k0_part2_skel
  simp only [Prog.lift, Prog.bind_op, Prog.bind_ret, Prog.pure_eq_ret]
  iintro ⟨HI, HB⟩
  iintro Hk
  iapply (wp_in_load c E 0) $$ HI; iintro %_ HI
  iapply (wp_in_store c E (⟨0, by decide⟩ : Fin 16) (by rfl) (by rfl)) $$ HI; iintro HI
  iapply (wp_bs_load c E 0) $$ HB; iintro %_ HB
  iapply (wp_bs_store c E (⟨0, by decide⟩ : Fin 16) (by rfl) (by rfl)) $$ HB; iintro HB
  iapply (wp_in_load c E 1) $$ HI; iintro %_ HI
  iapply (wp_in_store c E (⟨1, by decide⟩ : Fin 16) (by rfl) (by rfl)) $$ HI; iintro HI
  iapply (wp_bs_load c E 1) $$ HB; iintro %_ HB
  iapply (wp_bs_store c E (⟨1, by decide⟩ : Fin 16) (by rfl) (by rfl)) $$ HB; iintro HB
  iapply (wp_in_load c E 2) $$ HI; iintro %_ HI
  iapply (wp_in_store c E (⟨2, by decide⟩ : Fin 16) (by rfl) (by rfl)) $$ HI; iintro HI
  iapply (wp_bs_load c E 2) $$ HB; iintro %_ HB
  iapply (wp_bs_store c E (⟨2, by decide⟩ : Fin 16) (by rfl) (by rfl)) $$ HB; iintro HB
  iapply (wp_in_load c E 3) $$ HI; iintro %_ HI
  iapply (wp_in_store c E (⟨3, by decide⟩ : Fin 16) (by rfl) (by rfl)) $$ HI; iintro HI
  iapply (wp_bs_load c E 3) $$ HB; iintro %_ HB
  rw [wp_ret]; imodintro
  iapply Hk
  isplitl [HI]; · iexact HI
  iexact HB

/-- Part 3: blocks 4 to 8 of the running counts. -/
theorem part3 (c : Dev nD) (E : (cc0_stg1_0 : Ref sig .tc).ty.Contents (Elt F)) {Q : _ → sProp 𝕄} :
    iprop(inPts c E 4 ∗ bsPts c E 3)
      ⊢ iprop(((inPts c E 8 ∗ bsPts c E 7) -∗ Q (k0_pay27 (k0_pay1 (F := F)) (k0_pay3 E)))
          -∗ wp frame (wpE (defs₀ (F := F)) 𝒱₀ (c : Thread nD τ) none) Set.univ (k0_part3 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 (k0_pay1 (F := F)) (k0_pay3 E) (k0_pay15 (k0_pay1 (F := F)) (k0_pay3 E))) Q) := by
  rw [k0_part3_eq_skeleton]
  unfold k0_part3_skel
  simp only [Prog.lift, Prog.bind_op, Prog.bind_ret, Prog.pure_eq_ret]
  iintro ⟨HI, HB⟩
  iintro Hk
  iapply (wp_bs_store c E (⟨3, by decide⟩ : Fin 16) (by rfl) (by rfl)) $$ HB; iintro HB
  iapply (wp_in_load c E 4) $$ HI; iintro %_ HI
  iapply (wp_in_store c E (⟨4, by decide⟩ : Fin 16) (by rfl) (by rfl)) $$ HI; iintro HI
  iapply (wp_bs_load c E 4) $$ HB; iintro %_ HB
  iapply (wp_bs_store c E (⟨4, by decide⟩ : Fin 16) (by rfl) (by rfl)) $$ HB; iintro HB
  iapply (wp_in_load c E 5) $$ HI; iintro %_ HI
  iapply (wp_in_store c E (⟨5, by decide⟩ : Fin 16) (by rfl) (by rfl)) $$ HI; iintro HI
  iapply (wp_bs_load c E 5) $$ HB; iintro %_ HB
  iapply (wp_bs_store c E (⟨5, by decide⟩ : Fin 16) (by rfl) (by rfl)) $$ HB; iintro HB
  iapply (wp_in_load c E 6) $$ HI; iintro %_ HI
  iapply (wp_in_store c E (⟨6, by decide⟩ : Fin 16) (by rfl) (by rfl)) $$ HI; iintro HI
  iapply (wp_bs_load c E 6) $$ HB; iintro %_ HB
  iapply (wp_bs_store c E (⟨6, by decide⟩ : Fin 16) (by rfl) (by rfl)) $$ HB; iintro HB
  iapply (wp_in_load c E 7) $$ HI; iintro %_ HI
  iapply (wp_in_store c E (⟨7, by decide⟩ : Fin 16) (by rfl) (by rfl)) $$ HI; iintro HI
  rw [wp_ret]; imodintro
  iapply Hk
  isplitl [HI]; · iexact HI
  iexact HB

/-- Part 4: blocks 8 to 11 of the running counts. -/
theorem part4 (c : Dev nD) (E : (cc0_stg1_0 : Ref sig .tc).ty.Contents (Elt F)) {Q : _ → sProp 𝕄} :
    iprop(inPts c E 8 ∗ bsPts c E 7)
      ⊢ iprop(((inPts c E 11 ∗ bsPts c E 11) -∗ Q (k0_pay38 (k0_pay1 (F := F)) (k0_pay3 E)))
          -∗ wp frame (wpE (defs₀ (F := F)) 𝒱₀ (c : Thread nD τ) none) Set.univ (k0_part4 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 (k0_pay1 (F := F)) (k0_pay3 E) (k0_pay27 (k0_pay1 (F := F)) (k0_pay3 E))) Q) := by
  rw [k0_part4_eq_skeleton]
  unfold k0_part4_skel
  simp only [Prog.lift, Prog.bind_op, Prog.bind_ret, Prog.pure_eq_ret]
  iintro ⟨HI, HB⟩
  iintro Hk
  iapply (wp_bs_load c E 7) $$ HB; iintro %_ HB
  iapply (wp_bs_store c E (⟨7, by decide⟩ : Fin 16) (by rfl) (by rfl)) $$ HB; iintro HB
  iapply (wp_in_load c E 8) $$ HI; iintro %_ HI
  iapply (wp_in_store c E (⟨8, by decide⟩ : Fin 16) (by rfl) (by rfl)) $$ HI; iintro HI
  iapply (wp_bs_load c E 8) $$ HB; iintro %_ HB
  iapply (wp_bs_store c E (⟨8, by decide⟩ : Fin 16) (by rfl) (by rfl)) $$ HB; iintro HB
  iapply (wp_in_load c E 9) $$ HI; iintro %_ HI
  iapply (wp_in_store c E (⟨9, by decide⟩ : Fin 16) (by rfl) (by rfl)) $$ HI; iintro HI
  iapply (wp_bs_load c E 9) $$ HB; iintro %_ HB
  iapply (wp_bs_store c E (⟨9, by decide⟩ : Fin 16) (by rfl) (by rfl)) $$ HB; iintro HB
  iapply (wp_in_load c E 10) $$ HI; iintro %_ HI
  iapply (wp_in_store c E (⟨10, by decide⟩ : Fin 16) (by rfl) (by rfl)) $$ HI; iintro HI
  iapply (wp_bs_load c E 10) $$ HB; iintro %_ HB
  iapply (wp_bs_store c E (⟨10, by decide⟩ : Fin 16) (by rfl) (by rfl)) $$ HB; iintro HB
  iapply (wp_in_load c E 11) $$ HI; iintro %_ HI
  rw [wp_ret]; imodintro
  iapply Hk
  isplitl [HI]; · iexact HI
  iexact HB

/-- Part 5: blocks 11 to 15 of the running counts. -/
theorem part5 (c : Dev nD) (E : (cc0_stg1_0 : Ref sig .tc).ty.Contents (Elt F)) {Q : _ → sProp 𝕄} :
    iprop(inPts c E 11 ∗ bsPts c E 11)
      ⊢ iprop(((inPts c E 15 ∗ bsPts c E 15) -∗ Q (k0_pay50 (k0_pay1 (F := F)) (k0_pay3 E)))
          -∗ wp frame (wpE (defs₀ (F := F)) 𝒱₀ (c : Thread nD τ) none) Set.univ (k0_part5 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 (k0_pay1 (F := F)) (k0_pay3 E) (k0_pay38 (k0_pay1 (F := F)) (k0_pay3 E))) Q) := by
  rw [k0_part5_eq_skeleton]
  unfold k0_part5_skel
  simp only [Prog.lift, Prog.bind_op, Prog.bind_ret, Prog.pure_eq_ret]
  iintro ⟨HI, HB⟩
  iintro Hk
  iapply (wp_in_store c E (⟨11, by decide⟩ : Fin 16) (by rfl) (by rfl)) $$ HI; iintro HI
  iapply (wp_bs_load c E 11) $$ HB; iintro %_ HB
  iapply (wp_bs_store c E (⟨11, by decide⟩ : Fin 16) (by rfl) (by rfl)) $$ HB; iintro HB
  iapply (wp_in_load c E 12) $$ HI; iintro %_ HI
  iapply (wp_in_store c E (⟨12, by decide⟩ : Fin 16) (by rfl) (by rfl)) $$ HI; iintro HI
  iapply (wp_bs_load c E 12) $$ HB; iintro %_ HB
  iapply (wp_bs_store c E (⟨12, by decide⟩ : Fin 16) (by rfl) (by rfl)) $$ HB; iintro HB
  iapply (wp_in_load c E 13) $$ HI; iintro %_ HI
  iapply (wp_in_store c E (⟨13, by decide⟩ : Fin 16) (by rfl) (by rfl)) $$ HI; iintro HI
  iapply (wp_bs_load c E 13) $$ HB; iintro %_ HB
  iapply (wp_bs_store c E (⟨13, by decide⟩ : Fin 16) (by rfl) (by rfl)) $$ HB; iintro HB
  iapply (wp_in_load c E 14) $$ HI; iintro %_ HI
  iapply (wp_in_store c E (⟨14, by decide⟩ : Fin 16) (by rfl) (by rfl)) $$ HI; iintro HI
  iapply (wp_bs_load c E 14) $$ HB; iintro %_ HB
  iapply (wp_bs_store c E (⟨14, by decide⟩ : Fin 16) (by rfl) (by rfl)) $$ HB; iintro HB
  rw [wp_ret]; imodintro
  iapply Hk
  isplitl [HI]; · iexact HI
  iexact HB

/-- Part 6: blocks 15 to 16 of the running counts. -/
theorem part6 (c : Dev nD) (E : (cc0_stg1_0 : Ref sig .tc).ty.Contents (Elt F)) {Q : _ → sProp 𝕄} :
    iprop(inPts c E 15 ∗ bsPts c E 15)
      ⊢ iprop(((inPts c E 16 ∗ (((c : Thread nD τ).loc cc0_scratch2) ↦{fullShare} (bsT E))) -∗ Q (⟨k0_pay53 (k0_pay2 (F := F)) (bsT E), k0_pay54 (k0_pay3 E)⟩))
          -∗ wp frame (wpE (defs₀ (F := F)) 𝒱₀ (c : Thread nD τ) none) Set.univ (k0_part6 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 (k0_pay2 (F := F)) (k0_pay3 E) (k0_pay50 (k0_pay1 (F := F)) (k0_pay3 E))) Q) := by
  rw [k0_part6_eq_skeleton]
  unfold k0_part6_skel
  simp only [Prog.lift, Prog.bind_op, Prog.bind_ret, Prog.pure_eq_ret]
  iintro ⟨HI, HB⟩
  iintro Hk
  iapply (wp_in_load c E 15) $$ HI; iintro %_ HI
  iapply (wp_in_store c E (⟨15, by decide⟩ : Fin 16) (by rfl) (by rfl)) $$ HI; iintro HI
  iapply (wp_bs_load c E 15) $$ HB; iintro %_ HB
  iapply (wp_bs_store c E (⟨15, by decide⟩ : Fin 16) (by rfl) (by rfl)) $$ HB; iintro HB
  ihave HB := (bsPts_full c E) $$ HB
  iapply (wp_load 𝒱₀ (c : Thread nD τ) none Set.univ (m := bsM) (Finset.subset_univ _)) $$ HB; iintro HB
  rw [bsM_read]
  rw [wp_ret]; imodintro
  iapply Hk
  isplitl [HI]; · iexact HI
  iexact HB

/-- Part 7: the ranks. -/
theorem part7 (c : Dev nD) (v2 : BitVec 32) (E : (cc0_stg1_0 : Ref sig .tc).ty.Contents (Elt F)) {Q : _ → sProp 𝕄} :
    iprop(inPts c E 16 ∗ (∃ f, rkPts (F := F) c f) ∗ ePts c E)
      ⊢ iprop((((((c : Thread nD τ).loc cc0_scratch3) ↦{fullShare} (inT E)) ∗ rkPts c (rkT E) ∗ ePts c E) -∗ Q (⟨k0_pay56 (F := F) E, k0_pay57 (rkT E), k0_pay58 (rkT E), k0_pay59 (F := F) E, k0_pay60 v2⟩))
          -∗ wp frame (wpE (defs₀ (F := F)) 𝒱₀ (c : Thread nD τ) none) Set.univ (k0_part7 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 v2 (k0_pay53 (k0_pay2 (F := F)) (bsT E)) (k0_pay54 (k0_pay3 E))) Q) := by
  rw [k0_part7_eq_skeleton]
  unfold k0_part7_skel
  simp only [Prog.lift, Prog.bind_op, Prog.bind_ret, Prog.pure_eq_ret]
  iintro ⟨HI, ⟨%f, HK⟩, HE⟩
  iintro Hk
  ihave HI := (inPts_full c E) $$ HI
  unfold ePts rkPts
  iapply (wp_load 𝒱₀ (c : Thread nD τ) none Set.univ (m := inM) (Finset.subset_univ _)) $$ HI; iintro HI
  rw [inM_read]
  iapply (wp_load 𝒱₀ (c : Thread nD τ) none Set.univ (m := rkM) (Finset.subset_univ _)) $$ HK; iintro HK
  iapply (wp_store 𝒱₀ (c : Thread nD τ) none Set.univ (m := rkM) (r := Rect.unit (s := S2048x1) ![0, 0] S2048x1.size inb_S2048x1_S2048x1_0_0) (Mk := Finset.univ) (Finset.subset_univ _)) $$ HK; iintro HK
  rw [rkM_write, show k0_pay55 (k0_pay53 (k0_pay2 (F := F)) (bsT E)) (k0_pay54 (k0_pay3 (F := F) E)) (inT E) = rkT E from rfl]
  iapply (wp_load 𝒱₀ (c : Thread nD τ) none Set.univ (m := eM) (Finset.subset_univ _)) $$ HE; iintro HE
  rw [eM_read]
  iapply (wp_load 𝒱₀ (c : Thread nD τ) none Set.univ (m := rkM) (Finset.subset_univ _)) $$ HK; iintro HK
  rw [rkM_read]
  rw [wp_ret]; imodintro
  iapply Hk
  isplitl [HI]; · iexact HI
  isplitl [HK]; · iexact HK
  iexact HE

/-- Part 8: the gathered rows; the first sub-block. -/
theorem part8 (c : Dev nD) (X : (cc0_stg0_0 : Ref sig .tc).ty.Contents (Elt F)) (E : (cc0_stg1_0 : Ref sig .tc).ty.Contents (Elt F)) (Wt : (cc0_stg2_0 : Ref sig .tc).ty.Contents (Elt F))
    (hG : ∀ (b : Fin 4) (i : S16x128x1024.Idx), (i 0).val = c.val → (i 1).val / 32 = b.val → G i
      = subV X E Wt c b (fun a => match a with | ⟨0, _⟩ => (⟨(i 1).val % 32, Nat.mod_lt _ (by decide)⟩ : Fin 32) | ⟨1, _⟩ => (⟨(i 2).val, (i 2).isLt⟩ : Fin 1024))) {Q : _ → sProp 𝕄} :
    iprop(xPts c X ∗ wPts c Wt ∗ ownPts G c 0)
      ⊢ iprop(((xPts c X ∗ wPts c Wt ∗ ownPts G c 1) -∗ Q (xgV X E c))
          -∗ wp frame (wpE (defs₀ (F := F)) 𝒱₀ (c : Thread nD τ) none) Set.univ (k0_part8 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c (myW c) (k0_pay56 (F := F) E) (k0_pay57 (rkT E)) (k0_pay58 (rkT E)) (k0_pay59 (F := F) E) (k0_pay60 (myW c))) Q) := by
  rw [k0_part8_eq_skeleton]
  unfold k0_part8_skel
  simp only [Prog.lift, Prog.bind_op, Prog.bind_ret, Prog.pure_eq_ret]
  unfold xPts wPts
  iintro ⟨HX, HW, HC⟩
  iintro Hk
  iapply (wp_load 𝒱₀ (c : Thread nD τ) none Set.univ (m := xM) (Finset.subset_univ _)) $$ HX; iintro HX
  rw [xM_read]
  iapply (wp_load 𝒱₀ (c : Thread nD τ) none Set.univ (m := wM) (Finset.subset_univ _)) $$ HW; iintro HW
  iapply (wp_own_load c G 0 0 (off := k0_off1 c) (by exact k0_off1_eq c)) $$ HC; iintro %_ HC
  iapply (wp_own_store c G (⟨0, by decide⟩ : Fin 4) (off := k0_off1 c) (by exact k0_off1_eq c) (subV X E Wt c ⟨0, by decide⟩) (by rfl) (hG ⟨0, by decide⟩)) $$ HC; iintro HC
  rw [wp_ret]; imodintro
  rw [show k0_pay61 (F := F) (k0_pay56 (F := F) E) (k0_pay57 (rkT E)) (k0_pay58 (rkT E)) (k0_pay59 (F := F) E) (k0_pay60 (myW c)) X = xgV X E c from rfl]
  iapply Hk
  isplitl [HX]; · iexact HX
  isplitl [HW]; · iexact HW
  iexact HC

/-- Part 9: the other sub-blocks; this device's rows of the ids and ranks. -/
theorem part9 (c : Dev nD) (X : (cc0_stg0_0 : Ref sig .tc).ty.Contents (Elt F)) (E : (cc0_stg1_0 : Ref sig .tc).ty.Contents (Elt F)) (Wt : (cc0_stg2_0 : Ref sig .tc).ty.Contents (Elt F))
    (hG : ∀ (b : Fin 4) (i : S16x128x1024.Idx), (i 0).val = c.val → (i 1).val / 32 = b.val → G i
      = subV X E Wt c b (fun a => match a with | ⟨0, _⟩ => (⟨(i 1).val % 32, Nat.mod_lt _ (by decide)⟩ : Fin 32) | ⟨1, _⟩ => (⟨(i 2).val, (i 2).isLt⟩ : Fin 1024))) {Q : _ → sProp 𝕄} :
    iprop(wPts c Wt ∗ ownPts G c 1 ∗ ePts c E ∗ rkPts c (rkT E))
      ⊢ iprop(((wPts c Wt ∗ ownPts G c 4 ∗ ePts c E ∗ rkPts c (rkT E)) -∗ Q (⟨k0_pay66 (F := F) (eM.view.readAt (Elt F) (Rect.unit (s := S2048x1) (k0_off5 c) S128x1.size (k0_off5_inb c)).toLoadRect E),
          k0_pay67 (rkM.view.readAt (Elt F) (Rect.unit (s := S2048x1) (k0_off5 c) S128x1.size (k0_off5_inb c)).toLoadRect (rkT E))⟩))
          -∗ wp frame (wpE (defs₀ (F := F)) 𝒱₀ (c : Thread nD τ) none) Set.univ (k0_part9 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c (myW c) (xgV X E c)) Q) := by
  rw [k0_part9_eq_skeleton]
  unfold k0_part9_skel
  simp only [Prog.lift, Prog.bind_op, Prog.bind_ret, Prog.pure_eq_ret]
  unfold wPts ePts rkPts
  iintro ⟨HW, HC, HE, HK⟩
  iintro Hk
  iapply (wp_load 𝒱₀ (c : Thread nD τ) none Set.univ (m := wM) (Finset.subset_univ _)) $$ HW; iintro HW
  iapply (wp_own_load c G 1 32 (off := k0_off2 c) (by exact k0_off2_eq c)) $$ HC; iintro %_ HC
  iapply (wp_own_store c G (⟨1, by decide⟩ : Fin 4) (off := k0_off2 c) (by exact k0_off2_eq c) (subV X E Wt c ⟨1, by decide⟩) (by rfl) (hG ⟨1, by decide⟩)) $$ HC; iintro HC
  iapply (wp_load 𝒱₀ (c : Thread nD τ) none Set.univ (m := wM) (Finset.subset_univ _)) $$ HW; iintro HW
  iapply (wp_own_load c G 2 64 (off := k0_off3 c) (by exact k0_off3_eq c)) $$ HC; iintro %_ HC
  iapply (wp_own_store c G (⟨2, by decide⟩ : Fin 4) (off := k0_off3 c) (by exact k0_off3_eq c) (subV X E Wt c ⟨2, by decide⟩) (by rfl) (hG ⟨2, by decide⟩)) $$ HC; iintro HC
  iapply (wp_load 𝒱₀ (c : Thread nD τ) none Set.univ (m := wM) (Finset.subset_univ _)) $$ HW; iintro HW
  iapply (wp_own_load c G 3 96 (off := k0_off4 c) (by exact k0_off4_eq c)) $$ HC; iintro %_ HC
  iapply (wp_own_store c G (⟨3, by decide⟩ : Fin 4) (off := k0_off4 c) (by exact k0_off4_eq c) (subV X E Wt c ⟨3, by decide⟩) (by rfl) (hG ⟨3, by decide⟩)) $$ HC; iintro HC
  iapply (wp_load 𝒱₀ (c : Thread nD τ) none Set.univ (m := eM) (Finset.subset_univ _)) $$ HE; iintro HE
  iapply (wp_load 𝒱₀ (c : Thread nD τ) none Set.univ (m := rkM) (Finset.subset_univ _)) $$ HK; iintro HK
  rw [wp_ret]; imodintro
  iapply Hk
  isplitl [HW]; · iexact HW
  isplitl [HC]; · iexact HC
  isplitl [HE]; · iexact HE
  iexact HK

/-- Part 10. -/
theorem part10 (c : Dev nD) (v329 : IVec S128x1 32) {Q : _ → sProp 𝕄} :
    iprop(emp)
      ⊢ iprop(((emp) -∗ Q (k0_pay68 v329))
          -∗ wp frame (wpE (defs₀ (F := F)) 𝒱₀ (c : Thread nD τ) none) Set.univ (k0_part10 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 v329) Q) := by
  rw [k0_part10_eq_skeleton]
  unfold k0_part10_skel
  simp only [Prog.lift, Prog.bind_op, Prog.bind_ret, Prog.pure_eq_ret]
  iintro -
  iintro Hk
  rw [wp_ret]; imodintro
  iapply Hk
  iempintro

/-- Part 11: the selectors; the first term of the sum. -/
theorem part11 (c : Dev nD) (v2 v7 : BitVec 32) (v333 v378 : IVec S128x1 32) {Q : _ → sProp 𝕄} :
    iprop((∃ f, selPts (F := F) c f) ∗ (((c : Thread nD τ).loc cc0_scratch0) ↦[slot c.val]{fullShare} G))
      ⊢ iprop(((selPts c (k0_pay69 (F := F) v333 v378) ∗ (((c : Thread nD τ).loc cc0_scratch0) ↦[slot c.val]{fullShare} G)) -∗ Q (k0_pay70 (selV (k0_off6 c) (k0_off6_inb c) (k0_pay69 (F := F) v333 v378)) (slotV (k0_off7 c) (k0_off7_inb c) G)))
          -∗ wp frame (wpE (defs₀ (F := F)) 𝒱₀ (c : Thread nD τ) none) Set.univ (k0_part11 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v7 v333 v378) Q) := by
  rw [k0_part11_eq_skeleton]
  unfold k0_part11_skel
  simp only [Prog.lift, Prog.bind_op, Prog.bind_ret, Prog.pure_eq_ret]
  unfold selPts
  iintro ⟨⟨%f, HS⟩, HC⟩
  iintro Hk
  iapply (wp_load 𝒱₀ (c : Thread nD τ) none Set.univ (m := slM) (Finset.subset_univ _)) $$ HS; iintro HS
  iapply (wp_store 𝒱₀ (c : Thread nD τ) none Set.univ (m := slM) (r := Rect.unit (s := S128x2048) ![0, 0] S128x2048.size inb_S128x2048_S128x2048_0_0) (Mk := Finset.univ) (Finset.subset_univ _)) $$ HS; iintro HS
  rw [slM_write]
  iapply (wp_load 𝒱₀ (c : Thread nD τ) none Set.univ (m := slM) (Finset.subset_univ _)) $$ HS; iintro HS
  iapply (wp_load 𝒱₀ (c : Thread nD τ) none Set.univ (m := cM) (slotR_sub (k0_off7 c) (k0_off7_inb c) c.val (k0_off7_eq c))) $$ HC; iintro HC
  rw [wp_ret]; imodintro
  iapply Hk
  isplitl [HS]; · iexact HS
  iexact HC

end Cert.KernelIdeal.Ring
-- ==== Proof.KernelIdeal.Buffer.lean ====
/-
# `Buffer`: the landing buffer cut into sub-blocks and put together again; the cells closed
-/
module

public import proofs.«01_k».proof.Proof.KernelIdeal.Prefix

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (G : (cc0_scratch0 : Ref sig .tc).ty.Contents (Elt F)) (K : Dev nD × Fin 121 → ℕ)

/-- The sub-blocks that land on a device are pairwise apart, -/
theorem land_inj (c : Dev nD) {j k : ℕ} (hj : j < 60) (hk : k < 60) (h : ro c j = ro c k ∧ sub j = sub k) : j = k := by
  obtain ⟨h1, h2⟩ := h
  have hc := dev_lt c
  unfold ro hop cw at h1
  unfold sub at h2
  simp only [decide_eq_true_eq] at h1
  (repeat' split at h1) <;> (repeat' split at h2) <;> omega

/-- none is in the device's own slot, -/
theorem land_ne (c : Dev nD) {j : ℕ} (hj : j < 60) : ro c j ≠ c.val := by
  have hc := dev_lt c
  unfold ro hop cw
  simp only [decide_eq_true_eq]
  (repeat' split) <;> omega

/-- and they fill the rest of the buffer. -/
theorem land_cover (c : Dev nD) (o s : ℕ) (ho : o < 16) (hs : s < 4) (hne : o ≠ c.val) : ∃ j, j < 60 ∧ ro c j = o ∧ sub j = s := by
  have hc := dev_lt c
  have hro : ∀ j, ro c j = if 56 ≤ j ∨ j % 2 = 0 then (c.val + 15 - hop j) % 16 else (c.val + hop j + 1) % 16 := fun j => by
    unfold ro cw; simp only [decide_eq_true_eq]
  by_cases h : (o + 16 - c.val) % 16 ≤ 7
  · refine ⟨8 * ((o + 16 - c.val) % 16 - 1) + 2 * s + 1, by omega, ?_, ?_⟩
    · rw [hro, if_neg (by omega)]; unfold hop; rw [if_pos (by omega)]; omega
    · unfold sub; rw [if_pos (by omega)]; omega
  · by_cases h7 : (o + 16 - c.val) % 16 = 8
    · refine ⟨56 + s, by omega, ?_, ?_⟩
      · rw [hro, if_pos (by omega)]; unfold hop; rw [if_neg (by omega)]; omega
      · unfold sub; rw [if_neg (by omega)]; omega
    · refine ⟨8 * (15 - (o + 16 - c.val) % 16) + 2 * s, by omega, ?_, ?_⟩
      · rw [hro, if_pos (by omega)]; unfold hop; rw [if_pos (by omega)]; omega
      · unfold sub; rw [if_pos (by omega)]; omega

theorem comm_univ (c : Dev nD) : (Finset.univ : Finset S16x128x1024.Idx) = (Finset.range 60).biUnion (fun j => blk (ro c j) (sub j)) ∪ slot c.val := by
  ext i
  have h0 : (i 0).val < 16 := (i 0).isLt
  have h1 : (i 1).val < 128 := (i 1).isLt
  simp only [Finset.mem_univ, Finset.mem_union, Finset.mem_biUnion, Finset.mem_range, true_iff]
  by_cases h : (i 0).val = c.val
  · exact Or.inr (mem_slot.mpr h)
  · obtain ⟨j, hj, e1, e2⟩ := land_cover c (i 0).val ((i 1).val / 32) h0 (by omega) h
    exact Or.inl ⟨j, hj, mem_blk.mpr ⟨e1.symm, e2.symm⟩⟩

omit [FloatOps F] in
theorem range_split (s : Finset ℕ) (p : ℕ → Prop) [DecidablePred p] {Φ : ℕ → sProp 𝕄} :
    bigSep s Φ = iprop(bigSep (s.filter p) Φ ∗ bigSep (s.filter fun i => ¬ p i) Φ) := bigSep_filter_split s p

omit [FloatOps F] in
/-- The whole buffer: the sub-blocks that land, the device's own slot. -/
theorem comm_pts (c : Dev nD) (f : (cc0_scratch0 : Ref sig .tc).ty.Contents (Elt F)) :
    (((c : Thread nD τ).loc cc0_scratch0) ↦{fullShare} f : sProp 𝕄)
      = iprop(bigSep (Finset.range 60) (fun j => bPts c (ro c j) (sub j) fullShare f) ∗ (((c : Thread nD τ).loc cc0_scratch0) ↦[slot c.val]{fullShare} f)) := by
  have hd : Disjoint ((Finset.range 60).biUnion fun j => blk (ro c j) (sub j)) (slot c.val) := by
    rw [Finset.disjoint_biUnion_left]
    intro j hj
    exact Finset.disjoint_left.mpr fun i h1 h2 => land_ne c (Finset.mem_range.mp hj) ((mem_blk.mp h1).1.symm.trans (mem_slot.mp h2))
  show (((c : Thread nD τ).loc cc0_scratch0) ↦[(Finset.univ : Finset S16x128x1024.Idx)]{fullShare} f : sProp 𝕄) = _
  rw [comm_univ c, Idealize.SL.BI.equiv_iff.mp ⟨(pointsTo_union hd).1, (pointsTo_union hd).2⟩, pointsTo_biUnion _ _ fun j hj k hk hne => blk_disj fun h =>
    hne (land_inj c (Finset.mem_range.mp hj) (Finset.mem_range.mp hk) h)]
  rfl

/-- The buffer before the kernel: what the device hands its neighbours at the barrier, its own slot. -/
theorem comm_split (c : Dev nD) :
    iprop(∃ f, ((c : Thread nD τ).loc cc0_scratch0) ↦{fullShare} f : sProp 𝕄)
      ⊢ iprop(barPay (F := F) (prv c) false ∗ barPay (F := F) (nxt c) true ∗ ownPts G c 0) := by
  have e1 : ∀ j ∈ (Finset.range 60).filter (fun j => cw j = !false), ∀ f : (cc0_scratch0 : Ref sig .tc).ty.Contents (Elt F),
      bPts (F := F) c (ro c j) (sub j) fullShare f ⊢ iprop(∃ f, bPts (F := F) (tg (prv c) j) (so (prv c) j) (sub j) fullShare f) := fun j hj f => by
    have hcw : cw j = true := (Finset.mem_filter.mp hj).2
    have ht : tg (prv c) j = c := by unfold tg; rw [hcw]; exact nxt_prv c
    have hs : so (prv c) j = ro c j := by rw [← ro_tg (prv c) j, ht]
    rw [ht, hs]; iintro H; iexists f; iexact H
  have e2 : ∀ j ∈ (Finset.range 60).filter (fun j => ¬ cw j = !false), ∀ f : (cc0_scratch0 : Ref sig .tc).ty.Contents (Elt F),
      bPts (F := F) c (ro c j) (sub j) fullShare f ⊢ iprop(∃ f, bPts (F := F) (tg (nxt c) j) (so (nxt c) j) (sub j) fullShare f) := fun j hj f => by
    have hcw : cw j = false := by have := (Finset.mem_filter.mp hj).2; cases h : cw j <;> simp_all
    have ht : tg (nxt c) j = c := by unfold tg; rw [hcw]; exact prv_nxt c
    have hs : so (nxt c) j = ro c j := by rw [← ro_tg (nxt c) j, ht]
    rw [ht, hs]; iintro H; iexists f; iexact H
  have hset : ((Finset.range 60).filter fun j => ¬ cw j = !false) = (Finset.range 60).filter fun j => cw j = !true := by
    refine Finset.filter_congr fun j _ => ?_
    cases cw j <;> simp
  iintro ⟨%f, H⟩
  ihave H := (Entails.of_eq (comm_pts c f)) $$ H
  icases H with ⟨Hl, Hs⟩
  ihave Hl := (Entails.of_eq (range_split (Finset.range 60) (fun j => cw j = !false) (Φ := fun j => bPts (F := F) c (ro c j) (sub j) fullShare f))) $$ Hl
  icases Hl with ⟨H1, H2⟩
  isplitl [H1]
  · unfold barPay
    iapply (show (bigSep ((Finset.range 60).filter fun j => cw j = !false) fun j => bPts (F := F) c (ro c j) (sub j) fullShare f) ⊢ _ from
      bigSep_mono fun j hj => e1 j hj f)
    iexact H1
  isplitl [H2]
  · unfold barPay
    rw [← hset]
    iapply (show (bigSep ((Finset.range 60).filter fun j => ¬ cw j = !false) fun j => bPts (F := F) c (ro c j) (sub j) fullShare f) ⊢ _ from
      bigSep_mono fun j hj => e2 j hj f)
    iexact H2
  unfold ownPts
  iexists f
  isplitr; · ipureintro; intro i _ h; exact absurd h (by omega)
  iexact Hs

omit [FloatOps F] in
theorem bigSep4 (Φ : ℕ → sProp 𝕄) : bigSep (Finset.range 4) Φ = iprop(Φ 3 ∗ Φ 2 ∗ Φ 1 ∗ Φ 0) := by
  rw [bigSep_range_succ 3, bigSep_range_succ 2, bigSep_range_succ 1, bigSep_range_succ 0, Finset.range_zero, bigSep_empty]
  exact congrArg _ (congrArg _ (congrArg _ (Idealize.SL.BI.equiv_iff.mp BI.sep_emp)))

theorem so_own (c : Dev nD) (j : ℕ) (hj : j < 8) : so c j = c.val := by
  have hc := dev_lt c
  have hh : hop j = 0 := by unfold hop; rw [if_pos (by omega)]; omega
  unfold so; rw [hh]; split <;> omega

/-- The device's own slot in shares: what its first eight transfers send. -/
theorem own_split (c : Dev nD) :
    (((c : Thread nD τ).loc cc0_scratch0) ↦[slot c.val]{fullShare} G : sProp 𝕄)
      ⊢ iprop(bPts c (so c 0) (sub 0) (lq 0) G ∗ bPts c (so c 1) (sub 1) (lq 1) G ∗ bPts c (so c 2) (sub 2) (lq 2) G ∗ bPts c (so c 3) (sub 3) (lq 3) G
        ∗ bPts c (so c 4) (sub 4) (lq 4) G ∗ bPts c (so c 5) (sub 5) (lq 5) G ∗ bPts c (so c 6) (sub 6) (lq 6) G ∗ bPts c (so c 7) (sub 7) (lq 7) G) := by
  rw [so_own c 0 (by decide), so_own c 1 (by decide), so_own c 2 (by decide), so_own c 3 (by decide),
    so_own c 4 (by decide), so_own c 5 (by decide), so_own c 6 (by decide), so_own c 7 (by decide)]
  iintro H
  ihave H := (show (((c : Thread nD τ).loc cc0_scratch0) ↦[slot c.val]{fullShare} G : sProp 𝕄) ⊢ _ from (pointsTo_share (PosShare.mem_left_op_right _)).1) $$ H
  icases H with ⟨Hl, Hr⟩
  ihave Hl := (Entails.of_eq ((slot_pts c c.val fullShare.left G).trans (bigSep4 _))) $$ Hl
  ihave Hr := (Entails.of_eq ((slot_pts c c.val fullShare.right G).trans (bigSep4 _))) $$ Hr
  icases Hl with ⟨L3, L2, L1, L0⟩
  icases Hr with ⟨R3, R2, R1, R0⟩
  isplitl [L0]; · iexact L0
  isplitl [R0]; · iexact R0
  isplitl [L1]; · iexact L1
  isplitl [R1]; · iexact R1
  isplitl [L2]; · iexact L2
  isplitl [R2]; · iexact R2
  isplitl [L3]; · iexact L3
  iexact R3

theorem range_fwd : ((Finset.range 60).filter fun r => fwd r = true).image nx = Finset.Ico 8 60 := by decide
theorem nx_inj : ∀ x ∈ (Finset.range 60).filter (fun r => fwd r = true), ∀ y ∈ (Finset.range 60).filter (fun r => fwd r = true), nx x = nx y → x = y := by decide

/-- After the ring: the kept shares and the shares sent from make up the buffer. -/
theorem comm_join (c : Dev nD) :
    iprop(bigSep (Finset.range 60) (fun j => bPts c (ro c j) (sub j) (kq j) G) ∗ bigSep (Finset.range 60) (fun j => bPts c (so c j) (sub j) (lq j) G))
      ⊢ (((c : Thread nD τ).loc cc0_scratch0) ↦{fullShare} G : sProp 𝕄) := by
  have hset : Finset.range 60 = Finset.range 8 ∪ Finset.Ico 8 60 := by decide
  have hdis : Disjoint (Finset.range 8) (Finset.Ico 8 60) := by decide
  have hI : bigSep (Finset.Ico 8 60) (fun j => bPts c (so c j) (sub j) (lq j) G)
      = bigSep ((Finset.range 60).filter fun r => fwd r = true) fun r => bPts c (ro c r) (sub r) fullShare.right G := by
    rw [← range_fwd]
    have h1 : bigSep (((Finset.range 60).filter fun r => fwd r = true).image nx) (fun j => bPts c (so c j) (sub j) (lq j) G)
        = bigSep ((Finset.range 60).filter fun r => fwd r = true) fun r => bPts c (so c (nx r)) (sub (nx r)) (lq (nx r)) G := by
      unfold bigSep; rw [Finset.fold_image nx_inj]; rfl
    rw [h1]
    refine bigSep_congr fun r hr => ?_
    have hf := (Finset.mem_filter.mp hr).2
    rw [nx_so c hf, nx_sub hf, nx_lq hf]
  have hjoin : iprop(bigSep ((Finset.range 60).filter fun r => fwd r = true) (fun r => bPts c (ro c r) (sub r) (kq r) G)
        ∗ bigSep ((Finset.range 60).filter fun r => fwd r = true) (fun r => bPts c (ro c r) (sub r) fullShare.right G))
      ⊢ bigSep ((Finset.range 60).filter fun r => fwd r = true) fun r => bPts c (ro c r) (sub r) fullShare G := by
    rw [← bigSep_sep']
    refine bigSep_mono fun r hr => ?_
    have hk : kq r = fullShare.left := by unfold kq; rw [if_pos (Finset.mem_filter.mp hr).2]
    rw [hk]
    exact (pointsTo_share (PosShare.mem_left_op_right _)).2
  have hrest : bigSep ((Finset.range 60).filter fun r => ¬ fwd r = true) (fun r => bPts c (ro c r) (sub r) (kq r) G)
      = bigSep ((Finset.range 60).filter fun r => ¬ fwd r = true) fun r => bPts c (ro c r) (sub r) fullShare G := by
    refine bigSep_congr fun r hr => ?_
    have hk : kq r = fullShare := by unfold kq; rw [if_neg (Finset.mem_filter.mp hr).2]
    rw [hk]
  rw [comm_pts c G, range_split (Finset.range 60) (fun r => fwd r = true) (Φ := fun j => bPts c (ro c j) (sub j) (kq j) G),
    range_split (Finset.range 60) (fun r => fwd r = true) (Φ := fun j => bPts c (ro c j) (sub j) fullShare G), hrest]
  have h8 : bigSep (Finset.range 60) (fun j => bPts c (so c j) (sub j) (lq j) G)
      = iprop(bigSep (Finset.range 8) (fun j => bPts c (so c j) (sub j) (lq j) G)
        ∗ bigSep ((Finset.range 60).filter fun r => fwd r = true) fun r => bPts c (ro c r) (sub r) fullShare.right G) := by
    refine (congrArg (fun S => bigSep S fun j => bPts c (so c j) (sub j) (lq j) G) hset).trans ?_
    rw [bigSep_union hdis, hI]
    rfl
  rw [h8]
  have hown : bigSep (Finset.range 8) (fun j => bPts c (so c j) (sub j) (lq j) G) ⊢ (((c : Thread nD τ).loc cc0_scratch0) ↦[slot c.val]{fullShare} G : sProp 𝕄) := by
    rw [bigSep_range_succ 7, bigSep_range_succ 6, bigSep_range_succ 5, bigSep_range_succ 4, bigSep_range_succ 3, bigSep_range_succ 2, bigSep_range_succ 1, bigSep_range_succ 0]
    rw [so_own c 0 (by decide), so_own c 1 (by decide), so_own c 2 (by decide), so_own c 3 (by decide),
      so_own c 4 (by decide), so_own c 5 (by decide), so_own c 6 (by decide), so_own c 7 (by decide)]
    iintro ⟨R3, L3, R2, L2, R1, L1, R0, L0, -⟩
    iapply (show _ ⊢ (((c : Thread nD τ).loc cc0_scratch0) ↦[slot c.val]{fullShare} G : sProp 𝕄) from (pointsTo_share (PosShare.mem_left_op_right _)).2)
    rw [slot_pts, slot_pts, bigSep4, bigSep4]
    isplitl [L3 L2 L1 L0]
    · isplitl [L3]; · iexact L3
      isplitl [L2]; · iexact L2
      isplitl [L1]; · iexact L1
      iexact L0
    · isplitl [R3]; · iexact R3
      isplitl [R2]; · iexact R2
      isplitl [R1]; · iexact R1
      iexact R0
  iintro ⟨⟨Hk, Hn⟩, H8, Hr⟩
  isplitl [Hk Hn Hr]
  · isplitl [Hk Hr]
    · iapply hjoin; isplitl [Hk]; · iexact Hk
      iexact Hr
    iexact Hn
  iapply hown; iexact H8

/-- All the device's cells at their last round close: their counters at zero are the core's again. -/
theorem cells_close (c : Dev nD) :
    iprop(records G K ∗ bigSep Finset.univ (fun k : Fin 121 => (atPos ER (kcell (c, k)) 1 ∅ 0 : sProp 𝕄)))
      ⊢ |={Set.univ}=> bigSep Finset.univ fun k : Fin 121 => (semVal (kcell (c, k)) 0 : sProp 𝕄) := by
  have h1 : ∀ k ∈ (Finset.univ : Finset (Fin 121)), iprop(records G K ∗ (atPos ER (kcell (c, k)) 1 ∅ 0 : sProp 𝕄)) ⊢ |={Set.univ}=> (semVal (kcell (c, k)) 0 : sProp 𝕄) := fun k _ => by
    iintro ⟨#HR, Hat⟩
    imod (Rounds.cell_close ER (ringRd G) (Set.mem_univ (K (c, k))) (fun h => h) (R := 0 + 1) (duties_later G (kcell (c, k)))) $$ [Hat] with Hz
    · isplitr; · iapply (inv_at G K (c, k)); iexact HR
      iexact Hat
    imodintro
    iexact Hz
  exact ((sep_mono_left (BI.bigSep_of_persistent Finset.univ (records G K))).trans (by rw [← bigSep_sep']; exact bigSep_mono h1)).trans (bigSep_fupd _ _)

end Cert.KernelIdeal.Ring
-- ==== Proof.KernelIdeal.Body.lean ====
/-
# `Body`: the body on one device, its parts one after another
-/
module

public import proofs.«01_k».proof.Proof.KernelIdeal.Parts2
public import proofs.«01_k».proof.Proof.KernelIdeal.Parts3
public import proofs.«01_k».proof.Proof.KernelIdeal.Buffer

@[expose] public section

noncomputable section

namespace Cert.KernelIdeal.Ring

open Cert.KernelIdeal Cert.KernelIdeal.Gen

open Idealize.ShloMosaic
open Memref (isWhole_whole)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- 128 columns of the selectors times a slot's blocks. -/
def mm (A : Vec F S128x128 .bf16) (B : Vec F S1x128x1024 .bf16) : FVec F S128x1024 .f32 :=
  matmul dot_S128x128_S128x1024_S128x1024_1_0_0_1_n_n none A (shapeCast S128x1024 B shapeCasts_S1x128x1024_S128x1024) (constant S128x1024 .f32 0x00000000#32)

section Acc
variable (c : Dev nD) (S : (cc0_scratch4 : Ref sig .tc).ty.Contents (Elt F)) (G : (cc0_scratch0 : Ref sig .tc).ty.Contents (Elt F))

/-- The terms of the sum, in the order the kernel adds them: the device's own slot's, -/
def term0 : FVec F S128x1024 .f32 := mm (selV (k0_off6 c) (k0_off6_inb c) S) (slotV (k0_off7 c) (k0_off7_inb c) G)
/-- hop `h`'s from the left, -/
def termL (h : Fin 8) : FVec F S128x1024 .f32 :=
  mm (selV (k0_off24 c (BitVec.ofNat 32 h.val)) (k0_off24_inb c h) S) (slotV (k0_off25 c (BitVec.ofNat 32 h.val)) (k0_off25_inb c h) G)
/-- and from the right. -/
def termR (h : Fin 7) : FVec F S128x1024 .f32 :=
  mm (selV (k0_off26 c (BitVec.ofNat 32 h.val)) (k0_off26_inb c h) S) (slotV (k0_off27 c (BitVec.ofNat 32 h.val)) (k0_off27_inb c h) G)

/-- The sum after the first `h` hops; -/
def acc : ℕ → FVec F S128x1024 .f32
  | 0 => addf (broadcast S128x1024 (Scalar.ofBits .f32 0x00000000#32)) (term0 c S G)
  | h + 1 => addf (addf (acc h) (termL c S G ⟨h % 7, by omega⟩)) (termR c S G ⟨h % 7, by omega⟩)
/-- the kernel's result on device `c`. -/
def outT : (cc0_stg3_0 : Ref sig .tc).ty.Contents (Elt F) := addf (acc c S G 7) (termL c S G 7)
theorem acc6_eq : acc c S G 6 = (k0_pay79 (k0_pay78 (k0_pay76 (k0_pay75 (k0_pay74 (k0_pay73 (k0_pay72 (k0_pay71 (k0_pay70 (selV (k0_off6 c) (k0_off6_inb c) S) (slotV (k0_off7 c) (k0_off7_inb c) G)) (selV (k0_off24 c 0#32) (k0_off24_inb c 0) S) (slotV (k0_off25 c 0#32) (k0_off25_inb c 0) G) (selV (k0_off26 c 0#32) (k0_off26_inb c 0) S) (slotV (k0_off27 c 0#32) (k0_off27_inb c 0) G)) (selV (k0_off24 c 1#32) (k0_off24_inb c 1) S) (slotV (k0_off25 c 1#32) (k0_off25_inb c 1) G)) (selV (k0_off26 c 1#32) (k0_off26_inb c 1) S) (slotV (k0_off27 c 1#32) (k0_off27_inb c 1) G)) (selV (k0_off24 c 2#32) (k0_off24_inb c 2) S) (slotV (k0_off25 c 2#32) (k0_off25_inb c 2) G) (selV (k0_off26 c 2#32) (k0_off26_inb c 2) S) (slotV (k0_off27 c 2#32) (k0_off27_inb c 2) G)) (selV (k0_off24 c 3#32) (k0_off24_inb c 3) S) (slotV (k0_off25 c 3#32) (k0_off25_inb c 3) G) (selV (k0_off26 c 3#32) (k0_off26_inb c 3) S) (slotV (k0_off27 c 3#32) (k0_off27_inb c 3) G)) (selV (k0_off24 c 4#32) (k0_off24_inb c 4) S) (slotV (k0_off25 c 4#32) (k0_off25_inb c 4) G)) (selV (k0_off26 c 4#32) (k0_off26_inb c 4) S) (k0_pay77 (slotV (k0_off27 c 4#32) (k0_off27_inb c 4) G)) (constant S128x1024 .f32 0x00000000#32)) (selV (k0_off24 c 5#32) (k0_off24_inb c 5) S) (slotV (k0_off25 c 5#32) (k0_off25_inb c 5) G) (selV (k0_off26 c 5#32) (k0_off26_inb c 5) S) (slotV (k0_off27 c 5#32) (k0_off27_inb c 5) G)) := rfl
theorem outT_eq : outT c S G = (k0_pay81 (k0_pay80 (acc c S G 6) (selV (k0_off24 c 6#32) (k0_off24_inb c 6) S) (slotV (k0_off25 c 6#32) (k0_off25_inb c 6) G) (selV (k0_off26 c 6#32) (k0_off26_inb c 6) S) (slotV (k0_off27 c 6#32) (k0_off27_inb c 6) G)) (selV (k0_off24 c 7#32) (k0_off24_inb c 7) S) (slotV (k0_off25 c 7#32) (k0_off25_inb c 7) G)) := rfl
end Acc

variable (G : (cc0_scratch0 : Ref sig .tc).ty.Contents (Elt F)) (K : Dev nD × Fin 121 → ℕ)

/-- What the ring deals device `c` at launch. -/
def gh (c : Dev nD) : sProp 𝕄 :=
  iprop((∃ W, owes (c : Thread nD τ) (O₀ c) W) ∗ dutyTok ER (barCell (prv c)) 0 false ∗ dutyTok ER (barCell (nxt c)) 0 true
    ∗ cred (tallyAt (barCell c) () 2) ∗ atPos ER (barCell c) 0 ∅ 0
    ∗ bigSep (Finset.range 60) (fun j => iprop(dutyTok ER (scell c j) 0 false ∗ dutyTok ER (rcell (tg c j) j) 0 false))
    ∗ bigSep (Finset.range 60) (rpend (F := F) c) ∗ bigSep (Finset.range 60) (fun j => (atPos ER (scell c j) 0 ∅ 0 : sProp 𝕄)))

/-- The ring's state before its first step. -/
theorem Rst_intro (c : Dev nD) :
    iprop((∃ W, owes (c : Thread nD τ) (Otail c 0) W) ∗ bigSep (Finset.range 60) (fun j => iprop(∃ f, bPts (F := F) (tg c j) (so c j) (sub j) fullShare f))
        ∗ bigSep (Finset.range 60) (fun j => iprop(dutyTok ER (scell c j) 0 false ∗ dutyTok ER (rcell (tg c j) j) 0 false)) ∗ bigSep (Finset.range 60) (rpend (F := F) c))
      ⊢ Rst G c 0 0 := by
  unfold Rst
  rw [show Finset.Ico 0 60 = Finset.range 60 from by decide, Finset.range_zero, bigSep_empty, bigSep_empty]
  iintro ⟨HO, Hb, Ht, Hr⟩
  isplitl [HO]; · iexact HO
  isplitl [Hb Ht]
  · iapply (show iprop(bigSep (Finset.range 60) (fun j => iprop(∃ f, bPts (F := F) (tg c j) (so c j) (sub j) fullShare f))
        ∗ bigSep (Finset.range 60) (fun j => iprop(dutyTok ER (scell c j) 0 false ∗ dutyTok ER (rcell (tg c j) j) 0 false))) ⊢ bigSep (Finset.range 60) (pend (F := F) c) from by
      rw [← bigSep_sep']; exact .rfl)
    isplitl [Hb]; · iexact Hb
    iexact Ht
  isplitr; · iempintro
  isplitl [Hr]; · iexact Hr
  iempintro

/-- After the ring: what is left for the sends' completions, and what the arrivals left. -/
theorem Tst_intro (c : Dev nD) :
    iprop(Rst G c 60 60 ∗ bigSep (Finset.range 60) (fun j => (atPos ER (scell c j) 0 ∅ 0 : sProp 𝕄)))
      ⊢ iprop(Tst G c 0 ∗ bigSep (Finset.range 60) (rdone G c)) := by
  unfold Rst Tst
  rw [show Finset.Ico 0 60 = Finset.range 60 from by decide, show Finset.Ico 60 60 = ∅ from by decide, Finset.range_zero, bigSep_empty, bigSep_empty, bigSep_empty, Otail_end]
  iintro ⟨⟨HO, -, Hs, -, Hr⟩, Ha⟩
  isplitr [Hr]
  · isplitl [HO]; · iexact HO
    isplitl [Hs Ha]
    · iapply (show iprop(bigSep (Finset.range 60) (scred (F := F) c) ∗ bigSep (Finset.range 60) (fun j => (atPos ER (scell c j) 0 ∅ 0 : sProp 𝕄)))
          ⊢ bigSep (Finset.range 60) (spend (F := F) c) from by rw [← bigSep_sep']; exact .rfl)
      isplitl [Hs]; · iexact Hs
      iexact Ha
    iempintro
  iexact Hr

set_option maxHeartbeats 4000000 in
/-- The first half: parts 1 to 60. -/
theorem part84 (c : Dev nD) (X : (cc0_stg0_0 : Ref sig .tc).ty.Contents (Elt F)) (E : (cc0_stg1_0 : Ref sig .tc).ty.Contents (Elt F)) (Wt : (cc0_stg2_0 : Ref sig .tc).ty.Contents (Elt F))
    (hG : ∀ (b : Fin 4) (i : S16x128x1024.Idx), (i 0).val = c.val → (i 1).val / 32 = b.val → G i
      = subV X E Wt c b (fun a => match a with | ⟨0, _⟩ => (⟨(i 1).val % 32, Nat.mod_lt _ (by decide)⟩ : Fin 32) | ⟨1, _⟩ => (⟨(i 2).val, (i 2).isLt⟩ : Fin 1024))) {Q : _ → sProp 𝕄} :
    iprop(records G K ∗ gh (F := F) c ∗ (∃ f, ((c : Thread nD τ).loc cc0_scratch0) ↦{fullShare} f) ∗ xPts c X ∗ ePts c E ∗ wPts c Wt ∗ (∃ f, rkPts (F := F) c f) ∗ (∃ f, ((c : Thread nD τ).loc cc0_scratch2) ↦{fullShare} f) ∗ (∃ f, ((c : Thread nD τ).loc cc0_scratch3) ↦{fullShare} f) ∗ (∃ f, selPts (F := F) c f))
      ⊢ iprop(((Rst G c 56 48 ∗ atPos ER (barCell c) 1 ∅ 0 ∗ bigSep (Finset.range 60) (fun j => (atPos ER (scell c j) 0 ∅ 0 : sProp 𝕄)) ∗ xPts c X ∗ ePts c E ∗ wPts c Wt ∗ rkPts c (rkT E) ∗ (((c : Thread nD τ).loc cc0_scratch2) ↦{fullShare} (bsT E)) ∗ (((c : Thread nD τ).loc cc0_scratch3) ↦{fullShare} (inT E)) ∗ selPts c (selT (F := F) E c)) -∗ Q ⟨c, myW c, (Scalar.remsi (Scalar.addi (Scalar.subi (myW c) 1#32) 16#32) 16#32), (Scalar.remsi (Scalar.addi (myW c) 1#32) 16#32), acc c (selT (F := F) E c) G 6⟩)
          -∗ wp frame (wpE (defs₀ (F := F)) 𝒱₀ (c : Thread nD τ) none) Set.univ (k0_part84 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8) Q) := by
  rw [acc6_eq, k0_part84_eq_skeleton]
  unfold selT
  unfold k0_part84_skel
  unfold gh
  iintro ⟨#HR, ⟨HO, Ht1, Ht2, Hc, Hat, Htk, Hrp, Hsa⟩, HC, HX, HE, HW, HK, ⟨%fb, HB⟩, ⟨%fi, HI⟩, Hsel⟩
  iintro Hk
  ihave HC := (comm_split G c) $$ HC
  icases HC with ⟨Hp1, Hp2, HC⟩
  rw [wp_bind]
  iapply (part1 G K c E) $$ [HO Ht1 Ht2 Hc Hat Hp1 Hp2 HE]
  · isplitr; · iexact HR
    isplitl [HO]; · iexact HO
    isplitl [Ht1]; · iexact Ht1
    isplitl [Ht2]; · iexact Ht2
    isplitl [Hc]; · iexact Hc
    isplitl [Hat]; · iexact Hat
    isplitl [Hp1]; · iexact Hp1
    isplitl [Hp2]; · iexact Hp2
    iexact HE
  iintro ⟨HO, Hat, Hp, HE⟩
  try dsimp only
  ihave HI := (show (((c : Thread nD τ).loc cc0_scratch3) ↦{fullShare} fi : sProp 𝕄) ⊢ inPts c E 0 from by
    unfold inPts; iintro H; iexists fi
    isplitr; · ipureintro; intro i h; exact absurd h (by omega)
    iexact H) $$ HI
  ihave HB := (show (((c : Thread nD τ).loc cc0_scratch2) ↦{fullShare} fb : sProp 𝕄) ⊢ bsPts c E 0 from by
    unfold bsPts; iintro H; iexists fb
    isplitr; · ipureintro; intro i h; exact absurd h (by omega)
    iexact H) $$ HB
  rw [wp_bind]
  iapply (part2 c E) $$ [HI HB]
  · isplitl [HI]; · iexact HI
    iexact HB
  iintro ⟨HI, HB⟩
  try dsimp only
  rw [wp_bind]
  iapply (part3 c E) $$ [HI HB]
  · isplitl [HI]; · iexact HI
    iexact HB
  iintro ⟨HI, HB⟩
  try dsimp only
  rw [wp_bind]
  iapply (part4 c E) $$ [HI HB]
  · isplitl [HI]; · iexact HI
    iexact HB
  iintro ⟨HI, HB⟩
  try dsimp only
  rw [wp_bind]
  iapply (part5 c E) $$ [HI HB]
  · isplitl [HI]; · iexact HI
    iexact HB
  iintro ⟨HI, HB⟩
  try dsimp only
  rw [wp_bind]
  iapply (part6 c E) $$ [HI HB]
  · isplitl [HI]; · iexact HI
    iexact HB
  iintro ⟨HI, HB⟩
  try dsimp only
  rw [wp_bind]
  iapply (part7 c _ E) $$ [HI HK HE]
  · isplitl [HI]; · iexact HI
    isplitl [HK]; · iexact HK
    iexact HE
  iintro ⟨HI, HK, HE⟩
  try dsimp only
  rw [wp_bind]
  iapply (part8 G c X E Wt hG) $$ [HX HW HC]
  · isplitl [HX]; · iexact HX
    isplitl [HW]; · iexact HW
    iexact HC
  iintro ⟨HX, HW, HC⟩
  try dsimp only
  rw [wp_bind]
  iapply (part9 G c X E Wt hG) $$ [HW HC HE HK]
  · isplitl [HW]; · iexact HW
    isplitl [HC]; · iexact HC
    isplitl [HE]; · iexact HE
    iexact HK
  iintro ⟨HW, HC, HE, HK⟩
  try dsimp only
  rw [wp_bind]
  iapply (part10 c _) $$ []
  · iempintro
  iintro -
  try dsimp only
  ihave HC := (ownPts_full G c) $$ HC
  rw [wp_bind]
  iapply (part11 G c _ _ _ _) $$ [Hsel HC]
  · isplitl [Hsel]; · iexact Hsel
    iexact HC
  iintro ⟨Hsel, HC⟩
  try dsimp only
  ihave HC := (own_split G c) $$ HC
  icases HC with ⟨H0, H1, H2, H3, H4, H5, H6, H7⟩
  ihave HS := (Rst_intro G c) $$ [HO Hp Htk Hrp]
  · isplitl [HO]; · iexact HO
    isplitl [Hp]; · iexact Hp
    isplitl [Htk]; · iexact Htk
    iexact Hrp
  rw [wp_bind]
  iapply (part12 G K c _ _ _) $$ [HS H0 H1 H2]
  · isplitr; · iexact HR
    isplitl [HS]; · iexact HS
    isplitl [H0]; · iexact H0
    isplitl [H1]; · iexact H1
    iexact H2
  iintro HS
  try dsimp only
  rw [wp_bind]
  iapply (part13 G K c _ _ _) $$ [HS H3 H4]
  · isplitr; · iexact HR
    isplitl [HS]; · iexact HS
    isplitl [H3]; · iexact H3
    iexact H4
  iintro HS
  try dsimp only
  rw [wp_bind]
  iapply (part14 G K c _ _ _) $$ [HS H5 H6]
  · isplitr; · iexact HR
    isplitl [HS]; · iexact HS
    isplitl [H5]; · iexact H5
    iexact H6
  iintro HS
  try dsimp only
  rw [wp_bind]
  iapply (part15 G K c _ _ _) $$ [HS H7]
  · isplitr; · iexact HR
    isplitl [HS]; · iexact HS
    iexact H7
  iintro HS
  try dsimp only
  rw [wp_bind]
  iapply (part16 G K c _ _ _ _) $$ [HS]
  · isplitr; · iexact HR
    iexact HS
  iintro HS
  try dsimp only
  rw [wp_bind]
  iapply (part17 G K c _ _ _) $$ [HS]
  · isplitr; · iexact HR
    iexact HS
  iintro HS
  try dsimp only
  rw [wp_bind]
  iapply (part18 G K c _ _) $$ [HS]
  · isplitr; · iexact HR
    iexact HS
  iintro ⟨HS, H12⟩
  try dsimp only
  rw [wp_bind]
  iapply (part19 G K c _ _ _ _ _) $$ [HS H12]
  · isplitr; · iexact HR
    isplitl [HS]; · iexact HS
    iexact H12
  iintro ⟨HS, H13⟩
  try dsimp only
  rw [wp_bind]
  iapply (part20 G K c _ _ _ _ _) $$ [HS H13]
  · isplitr; · iexact HR
    isplitl [HS]; · iexact HS
    iexact H13
  iintro ⟨HS, H14⟩
  try dsimp only
  rw [wp_bind]
  iapply (part21 G K c _ _ _) $$ [HS H14]
  · isplitr; · iexact HR
    isplitl [HS]; · iexact HS
    iexact H14
  iintro HS
  try dsimp only
  rw [wp_bind]
  iapply (part22 G K c _ _ _ _ _) $$ [HS Hsel]
  · isplitr; · iexact HR
    isplitl [HS]; · iexact HS
    iexact Hsel
  iintro ⟨HS, Hsel⟩
  try dsimp only
  rw [wp_bind]
  iapply (part23 G K c _ _) $$ [HS]
  · isplitr; · iexact HR
    iexact HS
  iintro ⟨HS, H17⟩
  try dsimp only
  rw [wp_bind]
  iapply (part24 G K c _ _ _ _) $$ [HS H17]
  · isplitr; · iexact HR
    isplitl [HS]; · iexact HS
    iexact H17
  iintro ⟨HS, H18⟩
  try dsimp only
  rw [wp_bind]
  iapply (part25 G K c _ _ _ _) $$ [HS H18]
  · isplitr; · iexact HR
    isplitl [HS]; · iexact HS
    iexact H18
  iintro ⟨HS, H19⟩
  try dsimp only
  rw [wp_bind]
  iapply (part26 G K c _ _ _) $$ [HS H19]
  · isplitr; · iexact HR
    isplitl [HS]; · iexact HS
    iexact H19
  iintro HS
  try dsimp only
  rw [wp_bind]
  iapply (part27 G K c _ _ _) $$ [HS]
  · isplitr; · iexact HR
    iexact HS
  iintro HS
  try dsimp only
  rw [wp_bind]
  iapply (part28 G K c _ _ _) $$ [HS]
  · isplitr; · iexact HR
    iexact HS
  iintro HS
  try dsimp only
  rw [wp_bind]
  iapply (part29 G K c _ _ _ _) $$ [HS Hsel]
  · isplitr; · iexact HR
    isplitl [HS]; · iexact HS
    iexact Hsel
  iintro ⟨HS, Hsel⟩
  try dsimp only
  rw [wp_bind]
  iapply (part30 G K c _ _ _ _ _ _ _) $$ [HS Hsel]
  · isplitr; · iexact HR
    isplitl [HS]; · iexact HS
    iexact Hsel
  iintro ⟨HS, H24, Hsel⟩
  try dsimp only
  rw [wp_bind]
  iapply (part31 G K c _ _ _) $$ [HS H24]
  · isplitr; · iexact HR
    isplitl [HS]; · iexact HS
    iexact H24
  iintro HS
  try dsimp only
  rw [wp_bind]
  iapply (part32 G K c _ _ _ _) $$ [HS]
  · isplitr; · iexact HR
    iexact HS
  iintro HS
  try dsimp only
  rw [wp_bind]
  iapply (part33 G K c _ _ _) $$ [HS]
  · isplitr; · iexact HR
    iexact HS
  iintro HS
  try dsimp only
  rw [wp_bind]
  iapply (part34 G K c _ _) $$ [HS]
  · isplitr; · iexact HR
    iexact HS
  iintro HS
  try dsimp only
  rw [wp_bind]
  iapply (part35 G K c _ _) $$ [HS]
  · isplitr; · iexact HR
    iexact HS
  iintro ⟨HS, H30⟩
  try dsimp only
  rw [wp_bind]
  iapply (part36 G K c _ _ _) $$ [HS H30]
  · isplitr; · iexact HR
    isplitl [HS]; · iexact HS
    iexact H30
  iintro ⟨HS, H31⟩
  try dsimp only
  rw [wp_bind]
  iapply (part37 G K c _ _ _) $$ [HS H31 Hsel]
  · isplitr; · iexact HR
    isplitl [HS]; · iexact HS
    isplitl [H31]; · iexact H31
    iexact Hsel
  iintro ⟨HS, Hsel⟩
  try dsimp only
  rw [wp_bind]
  iapply (part38 G K c _ _ _) $$ [HS]
  · isplitr; · iexact HR
    iexact HS
  iintro HS
  try dsimp only
  rw [wp_bind]
  iapply (part39 G K c _ _) $$ [HS]
  · isplitr; · iexact HR
    iexact HS
  iintro HS
  try dsimp only
  rw [wp_bind]
  iapply (part40 G K c _ _) $$ [HS]
  · isplitr; · iexact HR
    iexact HS
  iintro ⟨HS, H35⟩
  try dsimp only
  rw [wp_bind]
  iapply (part41 G K c _ _ _) $$ [HS H35]
  · isplitr; · iexact HR
    isplitl [HS]; · iexact HS
    iexact H35
  iintro ⟨HS, H36⟩
  try dsimp only
  rw [wp_bind]
  iapply (part42 G K c _ _ _) $$ [HS H36]
  · isplitr; · iexact HR
    isplitl [HS]; · iexact HS
    iexact H36
  iintro ⟨HS, H37⟩
  try dsimp only
  rw [wp_bind]
  iapply (part43 G K c _ _ _) $$ [HS H37]
  · isplitr; · iexact HR
    isplitl [HS]; · iexact HS
    iexact H37
  iintro HS
  try dsimp only
  rw [wp_bind]
  iapply (part44 G K c _ _ _ _ _) $$ [HS Hsel]
  · isplitr; · iexact HR
    isplitl [HS]; · iexact HS
    iexact Hsel
  iintro ⟨HS, Hsel⟩
  try dsimp only
  rw [wp_bind]
  iapply (part45 G K c _ _ _ _ _) $$ [HS Hsel]
  · isplitr; · iexact HR
    isplitl [HS]; · iexact HS
    iexact Hsel
  iintro ⟨HS, H40, Hsel⟩
  try dsimp only
  rw [wp_bind]
  iapply (part46 G K c _ _ _) $$ [HS H40]
  · isplitr; · iexact HR
    isplitl [HS]; · iexact HS
    iexact H40
  iintro ⟨HS, H41⟩
  try dsimp only
  rw [wp_bind]
  iapply (part47 G K c _ _ _) $$ [HS H41]
  · isplitr; · iexact HR
    isplitl [HS]; · iexact HS
    iexact H41
  iintro ⟨HS, H42⟩
  try dsimp only
  rw [wp_bind]
  iapply (part48 G K c _ _ _) $$ [HS H42]
  · isplitr; · iexact HR
    isplitl [HS]; · iexact HS
    iexact H42
  iintro HS
  try dsimp only
  rw [wp_bind]
  iapply (part49 G K c _ _ _ _) $$ [HS]
  · isplitr; · iexact HR
    iexact HS
  iintro HS
  try dsimp only
  rw [wp_bind]
  iapply (part50 G K c _ _ _) $$ [HS]
  · isplitr; · iexact HR
    iexact HS
  iintro HS
  try dsimp only
  rw [wp_bind]
  iapply (part51 G K c _ _) $$ [HS]
  · isplitr; · iexact HR
    iexact HS
  iintro ⟨HS, H47⟩
  try dsimp only
  rw [wp_bind]
  iapply (part52 G K c _ _ _ _ _ _) $$ [HS H47 Hsel]
  · isplitr; · iexact HR
    isplitl [HS]; · iexact HS
    isplitl [H47]; · iexact H47
    iexact Hsel
  iintro ⟨HS, Hsel⟩
  try dsimp only
  rw [wp_bind]
  iapply (part53 G K c _ _ _ _ _ _ _) $$ [HS]
  · isplitr; · iexact HR
    iexact HS
  iintro HS
  try dsimp only
  rw [wp_bind]
  iapply (part54 G K c _ _ _ _) $$ [HS]
  · isplitr; · iexact HR
    iexact HS
  iintro HS
  try dsimp only
  rw [wp_bind]
  iapply (part55 G K c _ _ _) $$ [HS]
  · isplitr; · iexact HR
    iexact HS
  iintro HS
  try dsimp only
  rw [wp_bind]
  iapply (part56 G K c _ _) $$ [HS]
  · isplitr; · iexact HR
    iexact HS
  iintro ⟨HS, H52⟩
  try dsimp only
  rw [wp_bind]
  iapply (part57 G K c _ _ _ _ _) $$ [HS H52]
  · isplitr; · iexact HR
    isplitl [HS]; · iexact HS
    iexact H52
  iintro ⟨HS, H53⟩
  try dsimp only
  rw [wp_bind]
  iapply (part58 G K c _ _ _ _ _) $$ [HS H53]
  · isplitr; · iexact HR
    isplitl [HS]; · iexact HS
    iexact H53
  iintro ⟨HS, H54⟩
  try dsimp only
  rw [wp_bind]
  iapply (part59 G K c _ _ _) $$ [HS H54]
  · isplitr; · iexact HR
    isplitl [HS]; · iexact HS
    iexact H54
  iintro HS
  try dsimp only
  rw [wp_bind]
  iapply (part60 G K c _ _ _ _ _) $$ [HS Hsel]
  · isplitr; · iexact HR
    isplitl [HS]; · iexact HS
    iexact Hsel
  iintro ⟨HS, Hsel⟩
  try dsimp only
  rw [Prog.pure_eq_ret, wp_ret]; imodintro
  iapply Hk
  isplitl [HS]; · iexact HS
  isplitl [Hat]; · iexact Hat
  isplitl [Hsa]; · iexact Hsa
  isplitl [HX]; · iexact HX
  isplitl [HE]; · iexact HE
  isplitl [HW]; · iexact HW
  isplitl [HK]; · iexact HK
  isplitl [HB]; · iexact HB
  isplitl [HI]; · iexact HI
  iexact Hsel

/-- The second half: the last arrivals, the store of the result, the sends' completions. -/
theorem part85 (c : Dev nD) (v2 v5 v7 : BitVec 32) (S : (cc0_scratch4 : Ref sig .tc).ty.Contents (Elt F)) (fo : (cc0_stg3_0 : Ref sig .tc).ty.Contents (Elt F)) {Q : _ → sProp 𝕄} :
    iprop(records G K ∗ Rst G c 56 48 ∗ selPts c S ∗ outPts c fo ∗ bigSep (Finset.range 60) (fun j => (atPos ER (scell c j) 0 ∅ 0 : sProp 𝕄)))
      ⊢ iprop((Tst G c 59 ∗ bigSep (Finset.range 60) (rdone G c) ∗ selPts c S ∗ outPts c (outT c S G) -∗ Q ⟨⟩)
          -∗ wp frame (wpE (defs₀ (F := F)) 𝒱₀ (c : Thread nD τ) none) Set.univ (k0_part85 (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8 c v2 v5 v7 (acc c S G 6)) Q) := by
  rw [outT_eq, k0_part85_eq_skeleton]
  unfold k0_part85_skel
  iintro ⟨#HR, HS, Hsel, Hout, Hsa⟩
  iintro Hk
  rw [wp_bind]
  iapply (part61 G K c _ _) $$ [HS]
  · isplitr; · iexact HR
    iexact HS
  iintro HS
  try dsimp only
  rw [wp_bind]
  iapply (part62 G K c _ _ _ _ _) $$ [HS]
  · isplitr; · iexact HR
    iexact HS
  iintro HS
  try dsimp only
  rw [wp_bind]
  iapply (part63 G K c _ _ _) $$ [HS]
  · isplitr; · iexact HR
    iexact HS
  iintro ⟨HS, H58⟩
  try dsimp only
  rw [wp_bind]
  iapply (part64 G K c _ _ _) $$ [HS H58]
  · isplitr; · iexact HR
    isplitl [HS]; · iexact HS
    iexact H58
  iintro HS
  try dsimp only
  rw [wp_bind]
  iapply (part65 G K c _ _) $$ [HS]
  · isplitr; · iexact HR
    iexact HS
  iintro HS
  try dsimp only
  rw [wp_bind]
  iapply (part66 G K c _ _ _ _ _) $$ [HS Hsel]
  · isplitr; · iexact HR
    isplitl [HS]; · iexact HS
    iexact Hsel
  iintro ⟨HS, Hsel⟩
  try dsimp only
  rw [wp_bind]
  iapply (part67 G K c _ _) $$ [HS]
  · isplitr; · iexact HR
    iexact HS
  iintro HS
  try dsimp only
  rw [wp_bind]
  iapply (part68 G K c _ _ _ _ _ _ _) $$ [HS Hsel Hout]
  · isplitr; · iexact HR
    isplitl [HS]; · iexact HS
    isplitl [Hsel]; · iexact Hsel
    iexact Hout
  iintro ⟨HS, Hsel, Hout⟩
  try dsimp only
  ihave HT := (Tst_intro G c) $$ [HS Hsa]
  · isplitl [HS]; · iexact HS
    iexact Hsa
  icases HT with ⟨HS, Hrd⟩
  rw [wp_bind]
  iapply (part69 G K c) $$ [HS]
  · isplitr; · iexact HR
    iexact HS
  iintro HS
  try dsimp only
  rw [wp_bind]
  iapply (part70 G K c) $$ [HS]
  · isplitr; · iexact HR
    iexact HS
  iintro HS
  try dsimp only
  rw [wp_bind]
  iapply (part71 G K c) $$ [HS]
  · isplitr; · iexact HR
    iexact HS
  iintro HS
  try dsimp only
  rw [wp_bind]
  iapply (part72 G K c) $$ [HS]
  · isplitr; · iexact HR
    iexact HS
  iintro HS
  try dsimp only
  rw [wp_bind]
  iapply (part73 G K c) $$ [HS]
  · isplitr; · iexact HR
    iexact HS
  iintro HS
  try dsimp only
  rw [wp_bind]
  iapply (part74 G K c) $$ [HS]
  · isplitr; · iexact HR
    iexact HS
  iintro HS
  try dsimp only
  rw [wp_bind]
  iapply (part75 G K c) $$ [HS]
  · isplitr; · iexact HR
    iexact HS
  iintro HS
  try dsimp only
  rw [wp_bind]
  iapply (part76 G K c) $$ [HS]
  · isplitr; · iexact HR
    iexact HS
  iintro HS
  try dsimp only
  rw [wp_bind]
  iapply (part77 G K c) $$ [HS]
  · isplitr; · iexact HR
    iexact HS
  iintro HS
  try dsimp only
  rw [wp_bind]
  iapply (part78 G K c) $$ [HS]
  · isplitr; · iexact HR
    iexact HS
  iintro HS
  try dsimp only
  rw [wp_bind]
  iapply (part79 G K c) $$ [HS]
  · isplitr; · iexact HR
    iexact HS
  iintro HS
  try dsimp only
  rw [wp_bind]
  iapply (part80 G K c) $$ [HS]
  · isplitr; · iexact HR
    iexact HS
  iintro HS
  try dsimp only
  rw [wp_bind]
  iapply (part81 G K c) $$ [HS]
  · isplitr; · iexact HR
    iexact HS
  iintro HS
  try dsimp only
  rw [wp_bind]
  iapply (part82 G K c) $$ [HS]
  · isplitr; · iexact HR
    iexact HS
  iintro HS
  try dsimp only
  rw [wp_bind]
  iapply (part83 G K c) $$ [HS]
  · isplitr; · iexact HR
    iexact HS
  iintro HS
  try dsimp only
  simp only [Prog.lift, Prog.bind_op, Prog.bind_ret, Prog.pure_eq_ret]
  iapply (wp_done_step G K c 57 (by decide) (by rfl) (by rfl)) $$ [HS]
  · isplitr; · iexact HR
    iexact HS
  iintro HS
  iapply (wp_done_step G K c 58 (by decide) (by rfl) (by rfl)) $$ [HS]
  · isplitr; · iexact HR
    iexact HS
  iintro HS
  rw [wp_ret]; imodintro
  iapply Hk
  isplitl [HS]; · iexact HS
  isplitl [Hrd]; · iexact Hrd
  isplitl [Hsel]; · iexact Hsel
  iexact Hout

/-- The whole body on device `c`. -/
theorem body_wp (c : Dev nD) (X : (cc0_stg0_0 : Ref sig .tc).ty.Contents (Elt F)) (E : (cc0_stg1_0 : Ref sig .tc).ty.Contents (Elt F)) (Wt : (cc0_stg2_0 : Ref sig .tc).ty.Contents (Elt F)) (fo : (cc0_stg3_0 : Ref sig .tc).ty.Contents (Elt F))
    (hG : ∀ (b : Fin 4) (i : S16x128x1024.Idx), (i 0).val = c.val → (i 1).val / 32 = b.val → G i
      = subV X E Wt c b (fun a => match a with | ⟨0, _⟩ => (⟨(i 1).val % 32, Nat.mod_lt _ (by decide)⟩ : Fin 32) | ⟨1, _⟩ => (⟨(i 2).val, (i 2).isLt⟩ : Fin 1024))) {Q : _ → sProp 𝕄} :
    iprop(records G K ∗ gh (F := F) c ∗ (∃ f, ((c : Thread nD τ).loc cc0_scratch0) ↦{fullShare} f) ∗ xPts c X ∗ ePts c E ∗ wPts c Wt ∗ (∃ f, rkPts (F := F) c f) ∗ (∃ f, ((c : Thread nD τ).loc cc0_scratch2) ↦{fullShare} f) ∗ (∃ f, ((c : Thread nD τ).loc cc0_scratch3) ↦{fullShare} f) ∗ (∃ f, selPts (F := F) c f) ∗ outPts c fo)
      ⊢ iprop((((∃ W, owes (c : Thread nD τ) 0 W) ∗ (∃ f, ((c : Thread nD τ).loc cc0_scratch0) ↦{fullShare} f) ∗ (xPts c X) ∗ (ePts c E) ∗ (wPts c Wt) ∗ (∃ f, rkPts (F := F) c f) ∗ (∃ f, ((c : Thread nD τ).loc cc0_scratch2) ↦{fullShare} f) ∗ (∃ f, ((c : Thread nD τ).loc cc0_scratch3) ↦{fullShare} f) ∗ (∃ f, selPts (F := F) c f) ∗ (outPts c (outT c (selT (F := F) E c) G)) ∗ (bigSep Finset.univ (fun k : Fin 121 => (semVal (kcell (c, k)) 0 : sProp 𝕄)))) -∗ Q ⟨⟩)
          -∗ wp frame (wpE (defs₀ (F := F)) 𝒱₀ (c : Thread nD τ) none) Set.univ (cc0_body (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8) Q) := by
  simp only [cc0_body_eq_skeleton]; unfold cc0_body_skel
  iintro ⟨#HR, Hgh, HC, HX, HE, HW, HK, HB, HI, Hsel, Hout⟩
  iintro Hk
  rw [wp_bind]
  iapply (part84 G K c X E Wt hG) $$ [Hgh HC HX HE HW HK HB HI Hsel]
  · isplitr; · iexact HR
    isplitl [Hgh]; · iexact Hgh
    isplitl [HC]; · iexact HC
    isplitl [HX]; · iexact HX
    isplitl [HE]; · iexact HE
    isplitl [HW]; · iexact HW
    isplitl [HK]; · iexact HK
    isplitl [HB]; · iexact HB
    isplitl [HI]; · iexact HI
    iexact Hsel
  iintro ⟨HS, Hat, Hsa, HX, HE, HW, HK, HB, HI, Hsel⟩
  try dsimp only
  rw [wp_bind]
  iapply (part85 G K c _ _ _ (selT (F := F) E c) fo) $$ [HS Hsel Hout Hsa]
  · isplitr; · iexact HR
    isplitl [HS]; · iexact HS
    isplitl [Hsel]; · iexact Hsel
    isplitl [Hout]; · iexact Hout
    iexact Hsa
  iintro ⟨HS, Hrd, Hsel, Hout⟩
  try dsimp only
  simp only [Prog.lift, Prog.bind_op, Prog.bind_ret, Prog.pure_eq_ret]
  iapply (wp_done_step G K c 59 (by decide) (by rfl) (by rfl)) $$ [HS]
  · isplitr; · iexact HR
    iexact HS
  iintro HS
  unfold Tst
  icases HS with ⟨HO, -, Hsd⟩
  ihave Hrd := (show bigSep (Finset.range 60) (rdone G c) ⊢ iprop(bigSep (Finset.range 60) (fun j => (atPos ER (rcell c j) 1 ∅ 0 : sProp 𝕄))
      ∗ bigSep (Finset.range 60) (fun j => bPts c (ro c j) (sub j) (kq j) G)) from by rw [← bigSep_sep']; exact .rfl) $$ Hrd
  ihave Hsd := (show bigSep (Finset.range 60) (sdone G c) ⊢ iprop(bigSep (Finset.range 60) (fun j => (atPos ER (scell c j) 1 ∅ 0 : sProp 𝕄))
      ∗ bigSep (Finset.range 60) (fun j => bPts c (so c j) (sub j) (lq j) G)) from by rw [← bigSep_sep']; exact .rfl) $$ Hsd
  icases Hrd with ⟨Har, Hbr⟩
  icases Hsd with ⟨Has, Hbs⟩
  ihave HC := (comm_join G c) $$ [Hbr Hbs]
  · isplitl [Hbr]; · iexact Hbr
    iexact Hbs
  ihave Hcl := (show iprop((atPos ER (barCell c) 1 ∅ 0 : sProp 𝕄) ∗ bigSep (Finset.range 60) (fun j => (atPos ER (scell c j) 1 ∅ 0 : sProp 𝕄))
      ∗ bigSep (Finset.range 60) (fun j => (atPos ER (rcell c j) 1 ∅ 0 : sProp 𝕄))) ⊢ bigSep Finset.univ (fun k : Fin 121 => (atPos ER (kcell (c, k)) 1 ∅ 0 : sProp 𝕄)) from by
    rw [bigSep_cells]; exact .rfl) $$ [Hat Has Har]
  · isplitl [Hat]; · iexact Hat
    isplitl [Has]; · iexact Has
    iexact Har
  imod (cells_close G K c) $$ [Hcl] with Hz
  · isplitr; · iexact HR
    iexact Hcl
  rw [wp_ret]; imodintro
  iapply Hk
  isplitl [HO]; · iexact HO
  isplitl [HC]; · iexists G; iexact HC
  isplitl [HX]; · iexact HX
  isplitl [HE]; · iexact HE
  isplitl [HW]; · iexact HW
  isplitl [HK]; · iexists _; iexact HK
  isplitl [HB]; · iexists _; iexact HB
  isplitl [HI]; · iexists _; iexact HI
  isplitl [Hsel]; · iexists _; iexact Hsel
  isplitl [Hout]; · iexact Hout
  iexact Hz

end Cert.KernelIdeal.Ring
-- ==== Proof.KernelIdeal.Launch.lean ====
/-
# `Launch`: the launch and the run
-/
module

public import proofs.«01_k».proof.Proof.KernelIdeal.Body
public import Idealize.ShloMosaic.Lib.Quiescent
public import Idealize.ShloMosaic.Lib.Pipeline.CollectiveSegs

@[expose] public section

noncomputable section

namespace Cert.KernelIdeal.Ring

open Cert.KernelIdeal Cert.KernelIdeal.Gen

open Idealize.ShloMosaic
open Memref (isWhole_whole)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore counter zero. -/
def s₀ : MemSt nD τ sig (Elt F) := ⟨m, fun _ => 0, ρ⟩

def ring : Dev nD ≃ Dev nD := ⟨nxt, prv, prv_nxt, nxt_prv⟩
/-- Whom transfer `j` goes to, as a permutation of the devices. -/
def tgE (j : ℕ) : Dev nD ≃ Dev nD := ⟨fun c => tg c j, fun c => fr c j, fun c => fr_tg c j, fun c => tg_fr c j⟩

/-! ## Contents -/

/-- The arguments device `c` stages: `x`, -/
def Xc (c : Dev nD) : (cc0_stg0_0 : Ref sig .tc).ty.Contents (Elt F) := m ((c : Thread nD τ).loc main_arg0)
/-- the tokens' experts, -/
def Ec (c : Dev nD) : (cc0_stg1_0 : Ref sig .tc).ty.Contents (Elt F) := m ((c : Thread nD τ).loc main_arg2)
/-- its experts' weights. -/
def Wc (c : Dev nD) : (cc0_stg2_0 : Ref sig .tc).ty.Contents (Elt F) := m ((c : Thread nD τ).loc main_arg3)
/-- What the slots come to hold, on every device; -/
def Gm : (cc0_scratch0 : Ref sig .tc).ty.Contents (Elt F) := GT (Xc m) (Ec m) (Wc m)
/-- device `c`'s result. -/
def outAt (c : Dev nD) : (cc0_stg3_0 : Ref sig .tc).ty.Contents (Elt F) := outT c (selT (Ec m c) c) (Gm m)

theorem Gm_own (c : Dev nD) (b : Fin 4) (i : S16x128x1024.Idx) (h0 : (i 0).val = c.val) (h1 : (i 1).val / 32 = b.val) :
    Gm m i = subV (Xc m c) (Ec m c) (Wc m c) c b
      (fun a => match a with | ⟨0, _⟩ => (⟨(i 1).val % 32, Nat.mod_lt _ (by decide)⟩ : Fin 32) | ⟨1, _⟩ => (⟨(i 2).val, (i 2).isLt⟩ : Fin 1024)) := by
  obtain ⟨c, hc⟩ := c
  obtain ⟨b, hb⟩ := b
  simp only at h0 h1
  subst h0 h1
  rfl

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The ring's ghost state device `c` starts from, but the credits. -/
def linear (c : Dev nD) : sProp 𝕄 :=
  iprop((bigSep Finset.univ fun k : Fin 121 => (atPos ER (kcell (c, k)) 0 ∅ 0 : sProp 𝕄))
    ∗ dutyTok ER (barCell (prv c)) 0 false ∗ dutyTok ER (barCell (nxt c)) 0 true
    ∗ bigSep (Finset.range 60) (fun j => iprop(dutyTok ER (scell c j) 0 false ∗ dutyTok ER (rcell (tg c j) j) 0 false)))
/-- The invariants and the reached-marks, of every cell. -/
def recs (K : Dev nD × Fin 121 → ℕ) : sProp 𝕄 :=
  iprop((bigSep Finset.univ fun ck : Dev nD × Fin 121 => cellInv ER (ringRd (Gm m)) (K ck) (kcell ck))
    ∗ bigSep Finset.univ fun ck : Dev nD × Fin 121 => reached ER (kcell ck) 0)
instance recs_persistent (K : Dev nD × Fin 121 → ℕ) : BI.Persistent (recs m K) := by unfold recs; infer_instance
def G' (c : Dev nD) : sProp 𝕄 := iprop(∃ K, recs m K ∗ linear (F := F) c)

/-- The credits of device `c`'s waits. -/
def creds (c : Dev nD) : sProp 𝕄 :=
  iprop(cred (tallyAt (barCell c) () 2) ∗ bigSep (Finset.range 60) (fun j => (cred (tallyAt (rcell c j) () N) : sProp 𝕄)))
def start (c : Dev nD) : sProp 𝕄 := iprop(G' m c ∗ creds (F := F) c ∗ levAts L lv)

/-- The scratch buffers, at any contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))
def Φ₀ (c : Dev nD) : sProp 𝕄 := iprop(start m c ∗ scr (F := F) c)
def Φ₁ (c : Dev nD) : sProp 𝕄 := iprop(scr (F := F) c ∗ bigSep Finset.univ fun k : Fin 121 => (semVal (kcell (c, k)) 0 : sProp 𝕄))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xc m c
    | ⟨1, _⟩ => Ec m c
    | ⟨2, _⟩ => Wc m c
    | ⟨3, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost (c : Dev nD) : sProp 𝕄 :=
  iprop(Φ₁ (F := F) c ∗ (dats m ρ 0 c).owesAt () t₀.succ ∗ stg c cc0_stg0_0 (Xc m c) ∗ stg c cc0_stg1_0 (Ec m c)
    ∗ stg c cc0_stg2_0 (Wc m c) ∗ stg c cc0_stg3_0 (outAt m c))

/-- A window's one block is its whole array: what is staged is the array's contents, -/
theorem before_0 (c : Dev nD) (d) : (dats m ρ 0 c).before (0 : Fin 4) t₀ d = Xc m c := by
  unfold Dat.before; rw [if_pos (show (cfg0.win (0 : Fin 4)).fetch t₀ = true from by decide)]
  exact Memref.read_access_unit_zero (Elt F) main_arg0 (show (fun a => (win0_0.index (0 : Fin 1)) a * main_arg0.ty.shape.size a) = fun _ => 0 from
    funext fun a => by fin_cases a <;> decide) (fun a => by fin_cases a <;> decide) _
theorem before_1 (c : Dev nD) (d) : (dats m ρ 0 c).before (1 : Fin 4) t₀ d = Ec m c := by
  unfold Dat.before; rw [if_pos (show (cfg0.win (1 : Fin 4)).fetch t₀ = true from by decide)]
  exact Memref.read_access_unit_zero (Elt F) main_arg2 (show (fun a => (win0_1.index (0 : Fin 1)) a * main_arg2.ty.shape.size a) = fun _ => 0 from
    funext fun a => by fin_cases a <;> decide) (fun a => by fin_cases a <;> decide) _
theorem before_2 (c : Dev nD) (d) : (dats m ρ 0 c).before (2 : Fin 4) t₀ d = Wc m c := by
  unfold Dat.before; rw [if_pos (show (cfg0.win (2 : Fin 4)).fetch t₀ = true from by decide)]
  exact Memref.read_access_unit_zero (Elt F) main_arg3 (show (fun a => (win0_2.index (0 : Fin 1)) a * main_arg3.ty.shape.size a) = fun _ => 0 from
    funext fun a => by fin_cases a <;> decide) (fun a => by fin_cases a <;> decide) _

theorem gh_intro (c : Dev nD) : iprop((∃ W, owes (c : Thread nD τ) (O₀ c) W) ∗ linear (F := F) c ∗ creds (F := F) c) ⊢ gh (F := F) c := by
  unfold linear creds gh
  rw [bigSep_cells]
  iintro ⟨HO, ⟨⟨Hb, Hs, Hr⟩, Ht1, Ht2, Htk⟩, Hc, Hcr⟩
  isplitl [HO]; · iexact HO
  isplitl [Ht1]; · iexact Ht1
  isplitl [Ht2]; · iexact Ht2
  isplitl [Hc]; · iexact Hc
  isplitl [Hb]; · iexact Hb
  isplitl [Htk]; · iexact Htk
  isplitl [Hr Hcr]
  · iapply (show iprop(bigSep (Finset.range 60) (fun j => (cred (tallyAt (rcell c j) () N) : sProp 𝕄))
        ∗ bigSep (Finset.range 60) (fun j => (atPos ER (kcell (c, rk j)) 0 ∅ 0 : sProp 𝕄))) ⊢ bigSep (Finset.range 60) (rpend (F := F) c) from by
      rw [← bigSep_sep']; exact .rfl)
    isplitl [Hcr]; · iexact Hcr
    iexact Hr
  iexact Hs

theorem sound_body (c : Dev nD) :
    bodyPre m ρ c ⊢ wp frame (wpE (defs₀ (F := F)) 𝒱₀ c none) Set.univ (cc0_body (F := F) xM (isWhole_whole _) eM (isWhole_whole _) wM (isWhole_whole _) oM (isWhole_whole _) cM (isWhole_whole _) rkM (isWhole_whole _) bsM (isWhole_whole _) inM (isWhole_whole _) slM (isWhole_whole _) cc0_scratch5 cc0_scratch6 cc0_scratch7 cc0_scratch8) (fun _ => bodyPost m ρ c) := by
  unfold bodyPre Φ₀ start G' scr
  iintro ⟨⟨⟨⟨%K, #HR, HL⟩, Hc, #Hlev⟩, Hs0, Hs1, Hs2, Hs3, Hs4⟩, Ho, ⟨%d0, %g0, %hg0, HX⟩, ⟨%d1, %g1, %hg1, HE⟩, ⟨%d2, %g2, %hg2, HW⟩, ⟨%d3, %g3, %hg3, Hout⟩⟩
  rw [before_0] at hg0
  rw [before_1] at hg1
  rw [before_2] at hg2
  subst hg0 hg1 hg2
  unfold Dat.owesAt Pipeline.owesWithin
  icases Ho with ⟨%W, %hW, HO⟩
  rw [show (dats m ρ 0 c).owed t₀.castSucc = O₀ c from rfl]
  have hb := body_wp (F := F) (Gm m) K c (Xc m c) (Ec m c) (Wc m c) g3 (Gm_own m c) (Q := fun _ => bodyPost m ρ c)
  unfold xPts ePts wPts rkPts selPts outPts at hb
  iapply hb $$ [HL Hc HO Hs0 Hs1 Hs2 Hs3 Hs4 HX HE HW Hout]
  · isplitr
    · unfold records recs
      icases HR with ⟨#H1, #H2⟩
      isplitr; · iexact H1
      isplitr; · iexact H2
      iexact Hlev
    isplitl [HL Hc HO]
    · iapply (gh_intro (F := F) c)
      isplitl [HO]; · iexists W; iexact HO
      isplitl [HL]; · iexact HL
      iexact Hc
    isplitl [Hs0]; · iexact Hs0
    isplitl [HX]; · iexact HX
    isplitl [HE]; · iexact HE
    isplitl [HW]; · iexact HW
    isplitl [Hs1]; · iexact Hs1
    isplitl [Hs2]; · iexact Hs2
    isplitl [Hs3]; · iexact Hs3
    isplitl [Hs4]; · iexact Hs4
    iexact Hout
  iintro ⟨⟨%W', HO⟩, H0, HX, HE, HW, H1, H2, H3, H4, Hout, Hz⟩
  unfold bodyPost Φ₁ scr Dat.owesAt Pipeline.owesWithin outAt
  rw [show (dats m ρ 0 c).owed t₀.succ = 0 from rfl]
  isplitl [H0 H1 H2 H3 H4 Hz]
  · isplitr [Hz]
    · isplitl [H0]; · iexact H0
      isplitl [H1]; · iexact H1
      isplitl [H2]; · iexact H2
      isplitl [H3]; · iexact H3
      iexact H4
    iexact Hz
  isplitl [HO]
  · iexists W'
    isplitr; · ipureintro; exact fun _ _ => Or.inl trivial
    iexact HO
  isplitl [HX]
  · iexists _; isplitr; · (ipureintro; rfl)
    iexact HX
  isplitl [HE]
  · iexists _; isplitr; · (ipureintro; rfl)
    iexact HE
  isplitl [HW]
  · iexists _; isplitr; · (ipureintro; rfl)
    iexact HW
  iexists _; isplitr; · (ipureintro; rfl)
  iexact Hout

set_option maxRecDepth 65536 in
/-- The body, at the pipeline's one point. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

/-! ## The launch -/

theorem osem_inj : Function.Injective osem := fun a b h => by
  unfold osem at h
  have h1 := Fin.mk.inj (SemLoc.dma.inj h)
  exact Fin.ext (by omega)
theorem ownSemFacts : Pipeline.OwnSemFacts cfg0.spec osem where
  isScoped := fun k => by revert k; decide
  inj := osem_inj
  disj := fun k w s h => by
    unfold osem at h
    have h1 := congrArg Fin.val (SemLoc.dma.inj h)
    fin_cases w <;> fin_cases s <;> exact absurd h1 (by show ¬ (4 + k.val = _); simp <;> omega)

theorem share_eq (c : Dev nD) (w : Fin cfg0.W) : (dats m ρ 0 c).share w = fullShare := by unfold Dat.share; split <;> rfl

theorem csem_inj : Function.Injective csem := fun a b h => by
  unfold csem at h
  by_cases ha : a.val = 0 <;> by_cases hb : b.val = 0
  · exact Fin.ext (by omega)
  · rw [dif_pos ha, dif_neg hb] at h; cases h
  · rw [dif_neg ha, dif_pos hb] at h; cases h
  · rw [dif_neg ha, dif_neg hb] at h
    have := congrArg Fin.val (osem_inj h)
    exact Fin.ext (by simp only at this; omega)
theorem kcell_injective : Function.Injective (kcell : Dev nD × Fin 121 → GSem nD τ sig) := by
  rintro ⟨c, k⟩ ⟨c', k'⟩ h
  have h1 : c = c' := congrArg (fun g : GSem nD τ sig => g.1.1) h
  have h2 : k = k' := csem_inj (congrArg Prod.snd h)
  rw [h1, h2]
def ringCells : Finset (GSem nD τ sig) := Finset.univ.map ⟨kcell, kcell_injective⟩

/-- The duty tokens as minted: one of each cell, -/
def tokA : Dev nD × Fin 121 ↪ GSem nD τ sig × ℕ × Bool := ⟨fun ck => (kcell ck, 0, false), fun _ _ h => kcell_injective (congrArg Prod.fst h)⟩
/-- and the barriers' second. -/
def tokB : Dev nD ↪ GSem nD τ sig × ℕ × Bool := ⟨fun c => (barCell c, 0, true), fun _ _ h => congrArg (fun x : GSem nD τ sig × ℕ × Bool => x.1.1.1) h⟩
def ringToks : Finset (GSem nD τ sig × ℕ × Bool) := Finset.univ.map tokA ∪ Finset.univ.map tokB
theorem toks_disj : Disjoint (Finset.univ.map tokA) (Finset.univ.map tokB) := by
  rw [Finset.disjoint_left]
  intro x h1 h2
  obtain ⟨a, _, rfl⟩ := Finset.mem_map.mp h1
  obtain ⟨b, _, h⟩ := Finset.mem_map.mp h2
  exact Bool.false_ne_true (congrArg (fun x : GSem nD τ sig × ℕ × Bool => x.2.2) h).symm

def u₀ : UU :=
  (initOf (Pipeline.cells cfgs cellOf_inj) (Pipeline.launchToks cfgs cellOf_inj), initOf ringCells ringToks)

def toks (c : Dev nD) : sProp 𝕄 :=
  iprop((bigSep Finset.univ fun k : Fin 121 => (dutyTok ER (kcell (c, k)) 0 false : sProp 𝕄)) ∗ dutyTok ER (barCell c) 0 true)

/-- What the launch deals device `c`. -/
def Gd (c : Dev nD) : sProp 𝕄 :=
  iprop((bigSep Finset.univ fun k : Fin 121 => roundState ER (ringRd (Gm m)) (kcell (c, k)) 0)
    ∗ (bigSep Finset.univ fun k : Fin 121 => iprop(atPos ER (kcell (c, k)) 0 ∅ 0 ∗ reached ER (kcell (c, k)) 0)) ∗ toks (F := F) c)

theorem fund_ring : BI.own (ER (initOf ringCells ringToks)) ⊢ (|==> bigSep Finset.univ (Gd m) : sProp 𝕄) := by
  have hX (Φ : GSem nD τ sig → sProp 𝕄) : bigSep ringCells Φ = bigSep Finset.univ fun c : Dev nD => bigSep Finset.univ fun k : Fin 121 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks toks
    rw [bigSep_union toks_disj, bigSep_map, bigSep_map, bigSep_univ_prod, bigSep_sep']
    rfl
  iintro HX
  imod (Rounds.fund ER (ringRd (Gm m)) ringCells ringToks) $$ HX with ⟨Hst, Hr, Hat, Htok⟩
  imodintro
  ihave Hst' := (Entails.of_eq (hX fun g => roundState ER (ringRd (Gm m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold Gd; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A family over the cells: the barrier's member, then the kernel's own. -/
theorem bigSep_own (Φ : Fin 121 → sProp 𝕄) : bigSep Finset.univ Φ = iprop(Φ 0 ∗ bigSep Finset.univ fun k : Fin 120 => Φ k.succ) := by
  rw [Fin.univ_succ, Finset.cons_eq_insert, bigSep_insert (by simp [Finset.mem_map, Fin.succ_ne_zero]), bigSep_map]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      = (bigSep Finset.univ fun k : Fin 121 => semVal (kcell (c, k)) 0 : sProp 𝕄) := by
  have hc (A B : sProp 𝕄) : iprop(A ∗ B) = iprop(B ∗ A) := by
    have h1 (A B : sProp 𝕄) : iprop(A ∗ B) ⊢ iprop(B ∗ A) := by
      iintro ⟨H1, H2⟩
      isplitl [H2]; · iexact H2
      iexact H1
    exact Idealize.SL.BI.equiv_iff.mp ⟨h1 A B, h1 B A⟩
  rw [unscopedSems0_eq, bigSep_own, hc]
  rfl

theorem core_alloc (c : Dev nD) :
    iprop(Pipeline.ownSems0 (Ix := Unit) (Name := ℕ) (U := UU) (Lvl := ℕ) (Val := Elt F) (τ := τ) osem c ∗ unscopedSems0 c ∗ Gd m c)
      ⊢ |={Set.univ}=> iprop((bigSep Finset.univ fun k => iprop(∃ κ : ℕ, cellInv ER (ringRd (Gm m)) κ (kcell (c, k))))
          ∗ (bigSep Finset.univ fun k => iprop(atPos ER (kcell (c, k)) 0 ∅ 0 ∗ reached ER (kcell (c, k)) 0)) ∗ toks (F := F) c) := by
  unfold Gd
  iintro ⟨Hos, Hus, Hst, Hat, Htok⟩
  ihave Hv := (Entails.of_eq (sems0_eq (F := F) c)) $$ [Hos Hus]
  · isplitl [Hos] <;> iassumption
  imod (show iprop((bigSep Finset.univ fun k : Fin 121 => semVal (kcell (c, k)) 0) ∗ bigSep Finset.univ fun k : Fin 121 => roundState ER (ringRd (Gm m)) (kcell (c, k)) 0)
      ⊢ (|={Set.univ}=> bigSep Finset.univ fun k => iprop(∃ κ : ℕ, cellInv ER (ringRd (Gm m)) κ (kcell (c, k))) : sProp 𝕄) from by
        rw [← bigSep_sep']
        exact (bigSep_mono fun k _ => (Rounds.body_intro ER (ringRd (Gm m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def payToks (c : Dev nD) : sProp 𝕄 :=
  iprop(dutyTok ER (barCell (prv c)) 0 false ∗ dutyTok ER (barCell (nxt c)) 0 true
    ∗ bigSep (Finset.range 60) (fun j => iprop(dutyTok ER (scell c j) 0 false ∗ dutyTok ER (rcell (tg c j) j) 0 false)))

omit [FloatOps F] in
/-- Each member of a family moved to the device its transfer comes from. -/
theorem deal_fam (s : Finset ℕ) (Φ : Dev nD → ℕ → sProp 𝕄) :
    (bigSep Finset.univ fun c : Dev nD => bigSep s fun j => Φ (tg c j) j) = bigSep Finset.univ fun c : Dev nD => bigSep s fun j => Φ c j := by
  induction s using Finset.induction_on with
  | empty => simp only [bigSep_empty]
  | insert j s hj ih =>
    have h (Ψ : ℕ → sProp 𝕄) : bigSep (insert j s) Ψ = iprop(Ψ j ∗ bigSep s Ψ) := bigSep_insert hj
    simp only [h]
    rw [bigSep_sep', bigSep_sep', ih, bigSep_univ_equiv (tgE j) (fun c : Dev nD => Φ c j)]
    rfl

omit [FloatOps F] in
/-- The tokens dealt round the ring: each to the device that pays the duty. -/
theorem toks_around : (bigSep Finset.univ fun c : Dev nD => (toks (F := F) c : sProp 𝕄)) ⊢ bigSep Finset.univ fun c : Dev nD => payToks (F := F) c := by
  have hr : (bigSep Finset.univ fun c : Dev nD => bigSep (Finset.range 60) fun j => (dutyTok ER (rcell c j) 0 false : sProp 𝕄))
      = bigSep Finset.univ fun c : Dev nD => bigSep (Finset.range 60) fun j => (dutyTok ER (rcell (tg c j) j) 0 false : sProp 𝕄) := by
    exact (deal_fam (Finset.range 60) (fun c j => (dutyTok ER (rcell c j) 0 false : sProp 𝕄))).symm
  have hs (c : Dev nD) : (bigSep (Finset.range 60) fun j => iprop(dutyTok ER (scell c j) 0 false ∗ (dutyTok ER (rcell (tg c j) j) 0 false : sProp 𝕄)))
      = iprop((bigSep (Finset.range 60) fun j => dutyTok ER (scell c j) 0 false) ∗ bigSep (Finset.range 60) fun j => (dutyTok ER (rcell (tg c j) j) 0 false : sProp 𝕄)) := bigSep_sep' _ _ _
  unfold toks payToks
  simp only [hs, bigSep_cells]
  rw [bigSep_sep', bigSep_sep', bigSep_sep', bigSep_sep', bigSep_sep', bigSep_sep', hr,
    bigSep_univ_equiv ring.symm (fun c : Dev nD => (dutyTok ER (kcell (c, 0)) 0 false : sProp 𝕄)),
    bigSep_univ_equiv ring (fun c : Dev nD => (dutyTok ER (barCell c) 0 true : sProp 𝕄))]
  iintro ⟨⟨H1, H2, H3⟩, H4⟩
  isplitl [H1]; · iexact H1
  isplitl [H4]; · iexact H4
  isplitl [H2]; · iexact H2
  iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd (Gm m)) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × Fin 121 => iprop(∃ κ : ℕ, cellInv ER (ringRd (Gm m)) κ (kcell ck))),
    bigSep_congr (s := Finset.univ) (fun (c : Dev nD) _ => bigSep_sep' Finset.univ (fun k : Fin 121 => (atPos ER (kcell (c, k)) 0 ∅ 0 : sProp 𝕄)) (fun k => reached ER (kcell (c, k)) 0)),
    bigSep_sep', ← bigSep_univ_prod (fun ck : Dev nD × Fin 121 => (reached ER (kcell ck) 0 : sProp 𝕄))]
  iintro ⟨HI, ⟨Hat, #HR⟩, Htok⟩
  ihave HK := (BI.bigSep_exists_pi Finset.univ (fun (ck : Dev nD × Fin 121) (κ : ℕ) => (cellInv ER (ringRd (Gm m)) κ (kcell ck) : sProp 𝕄))) $$ HI
  icases HK with ⟨%K, #HI⟩
  ihave Htk := (toks_around (F := F)) $$ Htok
  iapply (bigSep_with_persistent (R := recs m K) (Φ := linear (F := F)) fun c _ => show iprop(recs m K ∗ linear (F := F) c) ⊢ G' m c from by
    unfold G'; iintro ⟨H1, H2⟩; iexists K
    isplitl [H1]; · iexact H1
    iexact H2)
  isplitr
  · unfold recs; isplitl; · iexact HI
    iexact HR
  · iapply (Entails.of_eq (show iprop((bigSep Finset.univ fun c : Dev nD => bigSep Finset.univ fun k : Fin 121 => (atPos ER (kcell (c, k)) 0 ∅ 0 : sProp 𝕄))
        ∗ bigSep Finset.univ fun c : Dev nD => payToks (F := F) c) = bigSep Finset.univ (linear (F := F)) from (bigSep_sep' _ _ _).symm))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ Gd m c) : sProp 𝕄)
    ⊢ |={Set.univ}=> bigSep Finset.univ (G' m) :=
  ((bigSep_mono fun c _ => core_alloc m c).trans (bigSep_fupd _ _)).trans (BI.fupd_mono (regroup m))

omit [FloatOps F] in
/-- The launch credit is the credit of the device's waits. -/
theorem creds_intro (c : Dev nD) : (Pipeline.launchCred O₀ c : sProp 𝕄) ⊢ creds (F := F) c := by
  have h1 : (Pipeline.launchCred O₀ c : sProp 𝕄)
      = iprop((bigSep (Finset.range 60) (fun j => Pipeline.launchCred (fun d => due d j) c)
          ∗ Pipeline.launchCred (fun d => tallyAt (barCell (nxt d)) () 1) c) ∗ Pipeline.launchCred (fun d => tallyAt (barCell (prv d)) () 1) c) := by
    rw [show (O₀ : Dev nD → CellTallies nD τ sig Unit) = fun d => O₁ d + tallyAt (barCell (prv d)) () 1 from rfl, Pipeline.launchCred_add,
      show (O₁ : Dev nD → CellTallies nD τ sig Unit) = fun d => Otail d 0 + tallyAt (barCell (nxt d)) () 1 from rfl, Pipeline.launchCred_add,
      show (fun d => Otail d 0 : Dev nD → CellTallies nD τ sig Unit) = fun d => ∑ j ∈ Finset.range 60, due d j from
        funext fun d => by unfold Otail; rw [show Finset.Ico 0 60 = Finset.range 60 from by decide], Pipeline.launchCred_sum (Finset.range 60) (fun j d => due d j)]
  rw [h1]
  unfold creds
  iintro ⟨⟨Hj, Hn⟩, Hp⟩
  isplitl [Hn Hp]
  · ihave Hn := (Pipeline.launchCred_tallyAt (.reg barS) nxt prv nxt_prv prv_nxt () 1 c) $$ Hn
    ihave Hp := (Pipeline.launchCred_tallyAt (.reg barS) prv nxt prv_nxt nxt_prv () 1 c) $$ Hp
    rw [show (tallyAt (barCell c) () 2 : CellTallies nD τ sig Unit) = tallyAt (barCell c) () 1 + tallyAt (barCell c) () 1 from by
      unfold tallyAt; rw [← tallyOn_add, ← Finsupp.single_add]]
    iapply (cred_add _ _).2
    isplitl [Hn]; · iexact Hn
    iexact Hp
  iapply (show bigSep (Finset.range 60) (fun j => (Pipeline.launchCred (fun d => due d j) c : sProp 𝕄)) ⊢ bigSep (Finset.range 60) (fun j => (cred (tallyAt (rcell c j) () N) : sProp 𝕄)) from
    bigSep_mono fun j _ => Pipeline.launchCred_tallyAt (rsem j) (fun d => tg d j) (fun d => fr d j) (fun d => tg_fr d j) (fun d => fr_tg d j) () N c)
  iexact Hj

/-- What the kernel does not touch. -/
def rest1 (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ rest1 m c) := by
  rw [Pipeline.unscopedRestP_none, unscopedRest0_eq]
  iintro ⟨H1, Hlev, Hcr, -, HG⟩
  ihave Hc := (creds_intro (F := F) c) $$ Hcr
  imodintro
  unfold start rest1
  isplitr [H1]
  · isplitl [HG]; · iexact HG
    isplitl [Hc]; · iexact Hc
    iexact Hlev
  · iexact H1

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  rw [← sems0_eq (F := F) c]
  iintro ⟨Hr, Hos, Hus⟩
  isplitl [Hus]; · iexact Hus
  isplitl [Hos]; · iexact Hos
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 65536 in
/-- On the sixteen devices, for any float values, from any memory with zero counters: every weakly fair execution
    terminates with the windows' arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := Gd m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := rest1 m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c.tc : Thread nD τ).loc main_arg1) = m ((c.tc : Thread nD τ).loc main_arg1))
    (hY := fun c s' => by
      unfold rest1
      iintro ⟨Hu, H1, HSI⟩
      icombine HSI H1 gives %h
      imod (Pipeline.unscopedSems0_read (X := unscopedSems0 c) (c := c) fupd_intro s') $$ [Hu HSI] with ⟨%hs, HSI⟩
      · isplitl [Hu] <;> iassumption
      imodintro
      isplitr
      · ipureintro; exact ⟨hs, Buf.eq_of_forall_mem_univ h⟩
      iexact HSI)
    (hQ := fun _ h hs => ⟨fun c => ⟨(h c).1, (h c).2.2.2⟩, sem_eq_zero hs fun c => (h c).2.2.1⟩)

theorem finalA_0 (c : Dev nD) : finalA m ρ c (0 : Fin 4) = m ((c : Thread nD τ).loc main_arg0) := (dats (F := F) m ρ 0 c).arrAt_in (0 : Fin 4) rfl _
theorem finalA_1 (c : Dev nD) : finalA m ρ c (1 : Fin 4) = m ((c : Thread nD τ).loc main_arg2) := (dats (F := F) m ρ 0 c).arrAt_in (1 : Fin 4) rfl _
theorem finalA_2 (c : Dev nD) : finalA m ρ c (2 : Fin 4) = m ((c : Thread nD τ).loc main_arg3) := (dats (F := F) m ρ 0 c).arrAt_in (2 : Fin 4) rfl _
/-- The result array ends at the kernel's result. -/
theorem finalA_3 (c : Dev nD) : finalA m ρ c (3 : Fin 4) = outAt m c := by
  have hz : (fun a => (win0_3.index (0 : Fin 1)) a * main_v1.ty.shape.size a) = fun _ => 0 := funext fun a => by fin_cases a <;> decide
  have hr := fun f => Memref.read_access_unit_zero (Elt F) main_v1 hz (fun a => by fin_cases a <;> decide) f
  have ho : (win0_3.blk (0 : Fin 1)).view.read (Elt F) (finalA m ρ c (3 : Fin 4)) = outAt m c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  rw [hr] at ho
  exact ho

/-- The run, read at the program's arrays. -/
theorem run : θ_run defs (onTc (τ := τ) (main (F := F))) ⟨m, fun _ => 0, ρ⟩ (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).1 (3 : Fin 4)).trans (finalA_3 m ρ c), ((h.1 c).1 (0 : Fin 4)).trans (finalA_0 m ρ c), (h.1 c).2,
    ((h.1 c).1 (1 : Fin 4)).trans (finalA_1 m ρ c), ((h.1 c).1 (2 : Fin 4)).trans (finalA_2 m ρ c)⟩, h.2⟩) (run_main (F := F) m ρ)

end Cert.KernelIdeal.Ring
-- ==== Proof.Value.Words.lean ====
module

public import Idealize.ShloMosaic.Lib.Pointwise
public import Idealize.ShloMosaic.Lib.Routing.Words

/-! # Words and counts

The kernel and the reference both work on the words of the experts the tokens chose. This file
reads those words: the counts of earlier tokens of the same expert, and the quotient and the
remainder by which a word is sent to a device and to one of its rows. -/

@[expose] public section

noncomputable section

set_option maxRecDepth 16384

namespace Cert.Value

open Idealize.ShloMosaic

/-! ## Quotient and remainder rounded down -/

/-- The quotient of `w` by `k` rounded down, as a chain of truncated operations. -/
def fdiv (k w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt k 0#32)) (Scalar.extui (Scalar.cmpi .slt k 0#32))))
      (IntOp.cmpi .ne (IntOp.remsi .vector w k) 0#32))
    (IntOp.subi (IntOp.divsi .vector w k) 1#32) (IntOp.divsi .vector w k)

/-- The remainder of `w` by `k` with the sign of `k`, as a chain of truncated operations. -/
def fmod (k w : BitVec 32) : BitVec 32 :=
  let d := Scalar.select (Scalar.cmpi .eq k 0#32) 1#32 k
  Scalar.select
    (IntOp.andi
      (IntOp.xori (IntOp.cmpi .slt (IntOp.remsi .vector w d) 0#32) (Scalar.cmpi .slt d 0#32))
      (IntOp.cmpi .ne (IntOp.remsi .vector w d) 0#32))
    (IntOp.addi (IntOp.remsi .vector w d) d) (IntOp.remsi .vector w d)

/-- Truncated quotient and remainder by four or by 128 in terms of those rounded down. -/
theorem trunc_floor (a : ℤ) {k : ℤ} (hk : k = 4 ∨ k = 128) :
    (0 ≤ a → a.tdiv k = a / k ∧ a.tmod k = a % k) ∧ (a < 0 → a.tdiv k = -((-a) / k) ∧ a.tmod k = -((-a) % k)) := by
  constructor
  · intro h
    exact ⟨Int.tdiv_eq_ediv_of_nonneg h, Int.tmod_eq_emod_of_nonneg h⟩
  · intro h
    have e1 : (-a).tdiv k = (-a) / k := Int.tdiv_eq_ediv_of_nonneg (by omega)
    have e2 : (-a).tmod k = (-a) % k := Int.tmod_eq_emod_of_nonneg (by omega)
    rw [Int.neg_tdiv] at e1
    rw [Int.neg_tmod] at e2
    exact ⟨by omega, by omega⟩

/-- The quotient by four or by 128 of a word read with its sign. -/
theorem fdiv_toInt {k : BitVec 32} (hk : k = 4#32 ∨ k = 128#32) (w : BitVec 32) :
    (fdiv k w).toInt = w.toInt / k.toInt := by
  have hc : ¬ IntOp.SDivCorner w k := by
    rcases hk with rfl | rfl <;> rintro (h | ⟨_, h⟩) <;> exact absurd h (by decide)
  have hq : IntOp.divsi .vector w k = w.sdiv k := by unfold IntOp.divsi; rw [if_neg hc]
  have hr : IntOp.remsi .vector w k = w.srem k := by unfold IntOp.remsi; rw [if_neg hc]
  have hlo := BitVec.le_toInt w
  have hhi := BitVec.toInt_lt (x := w)
  have hki : k.toInt = 4 ∨ k.toInt = 128 := by rcases hk with rfl | rfl <;> decide
  obtain ⟨hpos, hneg⟩ := trunc_floor w.toInt hki
  have hb : -2147483648 < w.toInt.tdiv k.toInt ∧ w.toInt.tdiv k.toInt < 2147483648 := by
    rcases lt_or_ge w.toInt 0 with h0 | h0
    · rw [(hneg h0).1]
      rcases hki with h | h <;> rw [h] <;> omega
    · rw [(hpos h0).1]
      rcases hki with h | h <;> rw [h] <;> omega
  have hqi : (w.sdiv k).toInt = w.toInt.tdiv k.toInt := by
    rw [BitVec.toInt_sdiv, Int.bmod_eq_of_le] <;> omega
  have hri : (w.srem k).toInt = w.toInt.tmod k.toInt := BitVec.toInt_srem ..
  have hd : Scalar.subi (Scalar.extui (Scalar.cmpi .sgt k 0#32)) (Scalar.extui (Scalar.cmpi .slt k 0#32)) = 1#32 := by
    rcases hk with rfl | rfl <;> decide
  unfold fdiv
  rw [hd, hq, hr]
  have hz : (IntOp.cmpi .ne (w.srem k) 0#32 : BitVec 1) = if w.toInt.tmod k.toInt = 0 then 0#1 else 1#1 := by
    unfold IntOp.cmpi
    by_cases h : w.srem k = 0#32
    · have : w.toInt.tmod k.toInt = 0 := by rw [← hri, h]; decide
      simp [h, this]
    · have : w.toInt.tmod k.toInt ≠ 0 := fun h' => h (BitVec.eq_of_toInt_eq (by rw [hri, h']; decide))
      simp [h, this, bne_iff_ne.mpr h]
  have hz0 : (0#32 : BitVec 32).toInt = 0 := by decide
  rw [hz]
  have hs1 : (w.sdiv k - 1#32).toInt = (w.toInt.tdiv k.toInt - 1) := by
    rw [BitVec.toInt_sub, hqi, show (1#32 : BitVec 32).toInt = 1 from by decide, Int.bmod_eq_of_le] <;> omega
  have hg : (0#32 : BitVec 32).slt w = decide (0 < w.toInt) := by rw [BitVec.slt_eq_decide, hz0]
  have hl : w.slt (0#32 : BitVec 32) = decide (w.toInt < 0) := by rw [BitVec.slt_eq_decide, hz0]
  simp only [IntOp.cmpi, hg, hl]
  rcases lt_trichotomy w.toInt 0 with h | h | h
  · rw [decide_eq_true h, decide_eq_false (by omega : ¬ 0 < w.toInt)]
    by_cases hm : w.toInt.tmod k.toInt = 0
    · rw [if_pos hm]
      show (if (_ : BitVec 1) = 1 then _ else _ : BitVec 32).toInt = _
      rw [if_neg (by decide), hqi, (hneg h).1]
      rw [(hneg h).2] at hm
      rcases hki with h' | h' <;> rw [h'] at hm ⊢ <;> omega
    · rw [if_neg hm]
      show (if (_ : BitVec 1) = 1 then _ else _ : BitVec 32).toInt = _
      rw [if_pos (by decide)]
      refine hs1.trans ?_
      rw [(hneg h).1]
      rw [(hneg h).2] at hm
      rcases hki with h' | h' <;> rw [h'] at hm ⊢ <;> omega
  · rw [h] at hqi ⊢
    show (if (_ : BitVec 1) = 1 then _ else _ : BitVec 32).toInt = _
    rw [if_neg (by rw [Int.zero_tmod]; decide), hqi]
    simp
  · rw [decide_eq_true h, decide_eq_false (by omega : ¬ w.toInt < 0)]
    show (if (_ : BitVec 1) = 1 then _ else _ : BitVec 32).toInt = _
    rw [if_neg (by split <;> decide), hqi, (hpos h.le).1]

/-- The quotient by 128 of a small number. -/
theorem fdiv_128 {t : ℕ} (ht : t < 2048) : fdiv 128#32 (BitVec.ofNat 32 t) = BitVec.ofNat 32 (t / 128) := by
  apply BitVec.eq_of_toInt_eq
  rw [fdiv_toInt (Or.inr rfl), show (128#32 : BitVec 32).toInt = 128 from by decide]
  rw [BitVec.toInt_ofNat', BitVec.toInt_ofNat', Int.bmod_eq_of_le, Int.bmod_eq_of_le] <;> omega

/-- The quotient by four of an expert's word is the word of its device. -/
theorem fdiv_4 (e : Fin 64) : fdiv 4#32 (BitVec.ofNat 32 e) = BitVec.ofNat 32 (e / 4) := by
  revert e; decide

/-- The remainder by four of an expert's word is the word of its place on the device. -/
theorem fmod_4 (e : Fin 64) : fmod 4#32 (BitVec.ofNat 32 e) = BitVec.ofNat 32 (e % 4) := by
  revert e; decide

/-- A word whose quotient is a device is the word of an expert. -/
theorem expert_of_fdiv {w : BitVec 32} {q : ℕ} (hq : q < 16) (h : fdiv 4#32 w = BitVec.ofNat 32 q) :
    ∃ e : Fin 64, w = BitVec.ofNat 32 e := by
  have h1 := fdiv_toInt (Or.inl rfl) w
  rw [h, show (4#32 : BitVec 32).toInt = 4 from by decide, BitVec.toInt_ofNat', Int.bmod_eq_of_le (by omega) (by omega)] at h1
  refine ⟨⟨w.toInt.toNat, by omega⟩, BitVec.eq_of_toInt_eq ?_⟩
  rw [BitVec.toInt_ofNat', Int.bmod_eq_of_le] <;> simp only [] <;> omega

/-- A row number built of the quotient, the remainder and minus one is 31 modulo 32. -/
theorem row_minus {a b : BitVec 32} {n : ℕ} (hn : n < 2048)
    (h : a * 128#32 + b * 32#32 + 4294967295#32 = BitVec.ofNat 32 n) : n % 32 = 31 := by
  have h := congrArg (BitVec.setWidth 5) h
  rw [BitVec.setWidth_add _ _ (by decide), BitVec.setWidth_add _ _ (by decide), BitVec.setWidth_mul _ _ (by decide),
    BitVec.setWidth_mul _ _ (by decide), show BitVec.setWidth 5 128#32 = 0#5 from by decide,
    show BitVec.setWidth 5 32#32 = 0#5 from by decide, show BitVec.setWidth 5 4294967295#32 = 31#5 from by decide,
    BitVec.mul_zero, BitVec.mul_zero, BitVec.add_zero, BitVec.zero_add] at h
  have h := congrArg BitVec.toNat h
  rw [BitVec.toNat_setWidth, BitVec.toNat_ofNat, BitVec.toNat_ofNat, Nat.mod_eq_of_lt (by omega : n < 2 ^ 32)] at h
  exact h.symm

/-- An equality of words as a number. -/
theorem bit_cast (a b : BitVec 32) :
    (FloatOps.sitofp FTy.f32 (BitVec.setWidth 32 (IntOp.cmpi .eq a b)) : Ideal .f32) = if a = b then (1 : EReal) else 0 := by
  show (((BitVec.setWidth 32 (BitVec.ofBool (a == b))).toInt : ℝ) : EReal) = _
  by_cases h : a = b
  · rw [if_pos h, beq_iff_eq.mpr h, show (BitVec.setWidth 32 (BitVec.ofBool true)).toInt = 1 from by decide]
    simp
  · rw [if_neg h, beq_eq_false_iff_ne.mpr h, show (BitVec.setWidth 32 (BitVec.ofBool false)).toInt = 0 from by decide]
    simp

/-- A comparison of small numbers as a number. -/
theorem lt_cast {a b : ℕ} (ha : a < 2048) (hb : b < 2048) :
    (FloatOps.sitofp FTy.f32 (BitVec.setWidth 32 (IntOp.cmpi .slt (BitVec.ofNat 32 a) (BitVec.ofNat 32 b))) : Ideal .f32) =
      if a < b then (1 : EReal) else 0 := by
  show (((BitVec.setWidth 32 (BitVec.ofBool ((BitVec.ofNat 32 a).slt (BitVec.ofNat 32 b)))).toInt : ℝ) : EReal) = _
  have e : (BitVec.ofNat 32 a).slt (BitVec.ofNat 32 b) = decide (a < b) := by
    rw [BitVec.slt_eq_decide, BitVec.toInt_ofNat', BitVec.toInt_ofNat', Int.bmod_eq_of_le (by omega) (by omega),
      Int.bmod_eq_of_le (by omega) (by omega)]
    exact decide_eq_decide.mpr (by omega)
  rw [e]
  by_cases h : a < b
  · rw [if_pos h, decide_eq_true h, show (BitVec.setWidth 32 (BitVec.ofBool true)).toInt = 1 from by decide]
    simp
  · rw [if_neg h, decide_eq_false h, show (BitVec.setWidth 32 (BitVec.ofBool false)).toInt = 0 from by decide]
    simp

/-- A comparison, or equal, of small numbers as a number. -/
theorem le_cast {a b : ℕ} (ha : a < 2048) (hb : b < 2048) :
    (FloatOps.sitofp FTy.f32 (BitVec.setWidth 32 (IntOp.cmpi .sle (BitVec.ofNat 32 a) (BitVec.ofNat 32 b))) : Ideal .f32) =
      if a ≤ b then (1 : EReal) else 0 := by
  show (((BitVec.setWidth 32 (BitVec.ofBool ((BitVec.ofNat 32 a).sle (BitVec.ofNat 32 b)))).toInt : ℝ) : EReal) = _
  have e : (BitVec.ofNat 32 a).sle (BitVec.ofNat 32 b) = decide (a ≤ b) := by
    rw [BitVec.sle_eq_decide, BitVec.toInt_ofNat', BitVec.toInt_ofNat', Int.bmod_eq_of_le (by omega) (by omega),
      Int.bmod_eq_of_le (by omega) (by omega)]
    exact decide_eq_decide.mpr (by omega)
  rw [e]
  by_cases h : a ≤ b
  · rw [if_pos h, decide_eq_true h, show (BitVec.setWidth 32 (BitVec.ofBool true)).toInt = 1 from by decide]
    simp
  · rw [if_neg h, decide_eq_false h, show (BitVec.setWidth 32 (BitVec.ofBool false)).toInt = 0 from by decide]
    simp

/-- Words of different small numbers differ. -/
theorem word_inj {a b : ℕ} (ha : a < 2 ^ 32) (hb : b < 2 ^ 32) (h : BitVec.ofNat 32 a = BitVec.ofNat 32 b) : a = b := by
  have h := congrArg BitVec.toNat h
  rwa [BitVec.toNat_ofNat, BitVec.toNat_ofNat, Nat.mod_eq_of_lt ha, Nat.mod_eq_of_lt hb] at h

/-! ## Counts of tokens -/

/-- One when token `t` chose expert `e`. -/
def hot (w : ℕ → BitVec 32) (e t : ℕ) : ℕ := if w t = BitVec.ofNat 32 e then 1 else 0

/-- How many of the first `n` tokens chose expert `e`. -/
def cnt (w : ℕ → BitVec 32) (e n : ℕ) : ℕ := ∑ t ∈ Finset.range n, hot w e t

/-- The place of token `t` among those of its expert, from one; zero when it chose none. -/
def rk (w : ℕ → BitVec 32) (t : ℕ) : ℕ := ∑ e ∈ Finset.range 64, hot w e t * cnt w e (t + 1)

/-- The word of the place, from zero. -/
def rw' (w : ℕ → BitVec 32) (t : ℕ) : BitVec 32 := BitVec.ofNat 32 (rk w t) + 4294967295#32

variable {w : ℕ → BitVec 32}

/-- A token that chose the expert counts one; -/
theorem hot_of {e t : ℕ} (h : w t = BitVec.ofNat 32 e) : hot w e t = 1 := if_pos h

/-- any other counts none. -/
theorem hot_of_ne {e t : ℕ} (h : w t ≠ BitVec.ofNat 32 e) : hot w e t = 0 := if_neg h

/-- The count with one more token. -/
theorem cnt_succ (e n : ℕ) : cnt w e (n + 1) = cnt w e n + hot w e n := Finset.sum_range_succ _ _

/-- Counts grow. -/
theorem cnt_mono {e m n : ℕ} (h : m ≤ n) : cnt w e m ≤ cnt w e n :=
  Finset.sum_le_sum_of_subset (Finset.range_subset_range.mpr h)

/-- A count of tokens is at most their number. -/
theorem cnt_le (e n : ℕ) : cnt w e n ≤ n := by
  induction n with
  | zero => exact le_of_eq (Finset.sum_range_zero _)
  | succ n ih =>
    rw [cnt_succ]
    have : hot w e n ≤ 1 := by unfold hot; split <;> omega
    omega

/-- The place of a token that chose an expert is the count of that expert. -/
theorem rk_of {e t : ℕ} (he : e < 64) (h : w t = BitVec.ofNat 32 e) : rk w t = cnt w e (t + 1) := by
  unfold rk
  rw [Finset.sum_eq_single e, hot_of h, one_mul]
  · intro b hb hne
    rw [hot_of_ne, zero_mul]
    intro hb'
    have := Finset.mem_range.mp hb
    exact hne (word_inj (by omega) (by omega) (hb'.symm.trans h))
  · intro hn
    exact absurd (Finset.mem_range.mpr he) hn

/-- A token that chose no expert has place zero. -/
theorem rk_none {t : ℕ} (h : ∀ e < 64, w t ≠ BitVec.ofNat 32 e) : rk w t = 0 :=
  Finset.sum_eq_zero fun e he => by rw [hot_of_ne (h e (Finset.mem_range.mp he)), zero_mul]

/-- Such a place is at least one. -/
theorem rk_pos {e t : ℕ} (he : e < 64) (h : w t = BitVec.ofNat 32 e) : 1 ≤ rk w t := by
  rw [rk_of he h, cnt_succ, hot_of h]
  omega

/-- A place is at most the number of tokens so far. -/
theorem rk_le (t : ℕ) : rk w t ≤ t + 1 := by
  by_cases h : ∃ e < 64, w t = BitVec.ofNat 32 e
  · obtain ⟨e, he, h⟩ := h
    rw [rk_of he h]
    exact cnt_le _ _
  · rw [rk_none fun e he h' => h ⟨e, he, h'⟩]
    omega

/-- Two tokens of the same expert with the same place are the same. -/
theorem rk_inj {e t u : ℕ} (he : e < 64) (ht : w t = BitVec.ofNat 32 e) (hu : w u = BitVec.ofNat 32 e)
    (h : rk w t = rk w u) : t = u := by
  rw [rk_of he ht, rk_of he hu] at h
  have aux : ∀ {a b : ℕ}, w b = BitVec.ofNat 32 e → a < b → cnt w e (a + 1) < cnt w e (b + 1) := by
    intro a b hb hab
    rw [cnt_succ e b, hot_of hb]
    have := cnt_mono (w := w) (e := e) (show a + 1 ≤ b from hab)
    omega
  rcases lt_trichotomy t u with h' | h' | h'
  · have := aux hu h'; omega
  · exact h'
  · have := aux ht h'; omega

/-- The place's word read with its sign. -/
theorem rw_toInt {t : ℕ} (ht : t < 2048) : (rw' w t).toInt = (rk w t : ℤ) - 1 := by
  have := rk_le (w := w) t
  unfold rw'
  rw [BitVec.toInt_add, BitVec.toInt_ofNat', show (4294967295#32 : BitVec 32).toInt = -1 from by decide,
    Int.bmod_eq_of_le (n := (rk w t : ℤ)), Int.bmod_eq_of_le] <;> omega

end Cert.Value
-- ==== Proof.Value.Ranks.lean ====
module

public import proofs.«01_k».proof.Proof.KernelIdeal.Contents
public import proofs.«01_k».proof.Proof.Value.Words

/-! # The places the kernel computes

Each step of the kernel's counting, read at one entry, is a count of tokens. -/

@[expose] public section

noncomputable section

set_option maxRecDepth 16384

namespace Cert.Value

open Cert.KernelIdeal Cert.KernelIdeal.Gen Cert.KernelIdeal.Ring
open Idealize.ShloMosaic

/-- The words of the tokens' experts, by number. -/
def wd (E : S2048x1.Idx → BitVec 32) (t : ℕ) : BitVec 32 := if h : t < 2048 then E (ix2 ⟨t, h⟩ 0) else 0

/-- The word of a token within range. -/
theorem wd_of (E : S2048x1.Idx → BitVec 32) (t : Fin 2048) : wd E t = E (ix2 t 0) := dif_pos t.isLt

variable (E : S2048x1.Idx → BitVec 32)

/-- The one-hot rows. -/
theorem pay3_at (t : Fin 2048) (e : Fin 64) : k0_pay3 (F := Ideal) E (ix2 t e) = ((hot (wd E) e t : ℕ) : EReal) := by
  pointwise [k0_pay3]
  rw [bit_cast]
  unfold hot
  rw [wd_of]
  split <;> simp

/-- The triangle of ones. -/
theorem pay1_at (r k : Fin 128) : k0_pay1 (F := Ideal) (ix2 r k) = if k.val ≤ r.val then (1 : EReal) else 0 := by
  pointwise [k0_pay1]
  exact le_cast (by omega) (by omega)

/-- A sum of numbers picked by a condition, as a sum of naturals. -/
theorem sum_pick {n : ℕ} (p : ℕ → Prop) [DecidablePred p] (f : ℕ → ℕ) :
    ∑ k : Fin n, (if p k then (1 : EReal) else 0) * ((f k : ℕ) : EReal) = ((∑ k ∈ Finset.range n, if p k then f k else 0 : ℕ) : EReal) := by
  rw [Nat.cast_sum, Finset.sum_range]
  refine Finset.sum_congr rfl fun k _ => ?_
  split <;> simp

/-- The running counts within a block. -/
theorem blockP_at (b : Fin 16) (r : Fin 128) (e : Fin 64) :
    blockP (F := Ideal) E b (ix2 r e) = ((∑ k ∈ Finset.range (r + 1), hot (wd E) e (128 * b + k) : ℕ) : EReal) := by
  pointwise [blockP, dot_S128x128_S128x64_S128x64_1_0_0_1_n_n]
  have h : ∀ x : Fin 128, k0_pay1 (F := Ideal) (ix2 r x) * k0_pay3 (F := Ideal) E (ix2 ⟨128 * b.val + x.val, by omega⟩ e)
      = (if x.val ≤ r.val then (1 : EReal) else 0) * ((hot (wd E) e (128 * b + x) : ℕ) : EReal) := fun x => by
    rw [pay1_at, pay3_at]
  refine (Finset.sum_congr rfl fun x _ => h x).trans ?_
  rw [sum_pick (fun k => k ≤ r.val) (fun k => hot (wd E) e (128 * b + k)), ← Finset.sum_filter]
  congr 2
  ext k
  simp only [Finset.mem_filter, Finset.mem_range]
  omega

/-- The running counts' buffer. -/
theorem inT_at (t : Fin 2048) (e : Fin 64) :
    inT (F := Ideal) E (ix2 t e) = ((∑ k ∈ Finset.range (t % 128 + 1), hot (wd E) e (128 * (t / 128) + k) : ℕ) : EReal) := by
  refine Eq.trans ?_ (blockP_at E ⟨t.val / 128, by omega⟩ ⟨t.val % 128, by omega⟩ e)
  unfold inT
  congr 1
  funext a
  match a with
  | ⟨0, _⟩ => rfl
  | ⟨1, _⟩ => rfl

/-- The totals' buffer. -/
theorem bsT_at (b : Fin 16) (e : Fin 64) :
    bsT (F := Ideal) E (ix2 b e) = ((∑ k ∈ Finset.range 128, hot (wd E) e (128 * b + k) : ℕ) : EReal) := by
  refine Eq.trans ?_ (blockP_at E b ⟨127, by omega⟩ e)
  unfold bsT
  congr 1
  funext a
  match a with
  | ⟨0, _⟩ => rfl
  | ⟨1, _⟩ => rfl

/-- A count by blocks. -/
theorem cnt_blocks (w : ℕ → BitVec 32) (e a : ℕ) :
    ∑ b ∈ Finset.range a, ∑ k ∈ Finset.range 128, hot w e (128 * b + k) = cnt w e (128 * a) := by
  induction a with
  | zero => exact (Finset.sum_range_zero _).trans (Finset.sum_range_zero _).symm
  | succ a ih =>
    have h := Finset.sum_range_add (hot w e) (128 * a) 128
    rw [Finset.sum_range_succ, ih, Nat.mul_succ]
    unfold cnt
    rw [h]

/-- The totals of the blocks before a token's. -/
theorem pay53_at (t : Fin 2048) (e : Fin 64) :
    k0_pay53 (F := Ideal) k0_pay2 (bsT E) (ix2 t e) = ((cnt (wd E) e (128 * (t / 128)) : ℕ) : EReal) := by
  pointwise [k0_pay53, k0_pay2, dot_S16x16_S16x64_S16x64_1_0_0_1_n_n, dot_S2048x16_S16x64_S2048x64_1_0_0_1_n_n]
  have h : ∀ x : Fin 16, (FloatOps.sitofp FTy.f32 (BitVec.setWidth 32 (IntOp.cmpi .eq (fdiv 128#32 (BitVec.ofNat 32 t)) (BitVec.ofNat 32 x))) : Ideal .f32)
        * (∑ y : Fin 16, (FloatOps.sitofp FTy.f32 (BitVec.setWidth 32 (IntOp.cmpi .slt (BitVec.ofNat 32 y) (BitVec.ofNat 32 x))) : Ideal .f32)
            * bsT (F := Ideal) E (ix2 y e) : EReal)
      = (if x.val = t.val / 128 then (1 : EReal) else 0) * ((cnt (wd E) e (128 * x) : ℕ) : EReal) := fun x => by
    congr 1
    · rw [bit_cast, fdiv_128 t.isLt]
      refine if_congr ⟨fun h => (word_inj (by omega) (by omega) h).symm, fun h => by rw [h]⟩ rfl rfl
    · have h' : ∀ y : Fin 16, (FloatOps.sitofp FTy.f32 (BitVec.setWidth 32 (IntOp.cmpi .slt (BitVec.ofNat 32 y) (BitVec.ofNat 32 x))) : Ideal .f32)
            * bsT (F := Ideal) E (ix2 y e)
          = (if y.val < x.val then (1 : EReal) else 0) * ((∑ k ∈ Finset.range 128, hot (wd E) e (128 * y + k) : ℕ) : EReal) := fun y => by
        rw [lt_cast (by omega) (by omega), bsT_at]
      refine (Finset.sum_congr rfl fun y _ => h' y).trans ?_
      rw [sum_pick (fun y => y < x.val) (fun y => ∑ k ∈ Finset.range 128, hot (wd E) e (128 * y + k)), ← Finset.sum_filter, ← cnt_blocks]
      congr 2
      ext k
      simp only [Finset.mem_filter, Finset.mem_range]
      omega
  refine (Finset.sum_congr rfl fun x _ => h x).trans ?_
  rw [sum_pick (fun k => k = t.val / 128) (fun k => cnt (wd E) e (128 * k)), Finset.sum_ite_eq']
  rw [if_pos (Finset.mem_range.mpr (by omega))]

/-- The place of a token, less one. -/
theorem rkT_at (t : Fin 2048) : rkT (F := Ideal) E (ix2 t 0) = ((rk (wd E) t : ℕ) : EReal) - 1 := by
  unfold rkT
  pointwise [k0_pay55, k0_pay54]
  refine congrArg (fun z : EReal => z - 1) ?_
  unfold rk
  rw [Nat.cast_sum, Finset.sum_range]
  refine Finset.sum_congr rfl fun e _ => ?_
  rw [pay3_at, pay53_at, inT_at, ← Nat.cast_add]
  have : ∑ k ∈ Finset.range (t.val % 128 + 1), hot (wd E) e (128 * (t.val / 128) + k) + cnt (wd E) e (128 * (t.val / 128)) = cnt (wd E) e (t + 1) := by
    have := Finset.sum_range_add (hot (wd E) e) (128 * (t.val / 128)) (t.val % 128 + 1)
    unfold cnt
    rw [show t.val + 1 = 128 * (t.val / 128) + (t.val % 128 + 1) by omega, this, Nat.add_comm]
  rw [this]
  unfold hot
  split <;> simp

/-- The word of a place. -/
theorem place_word (t : Fin 2048) : Ideal.fptosi 32 (rkT (F := Ideal) E (ix2 t 0)) = rw' (wd E) t := by
  have hle := rk_le (w := wd E) t
  have ht := t.isLt
  rw [rkT_at]
  generalize hn : rk (wd E) t = n at hle
  have e : (((n : ℕ) : EReal) - 1) = (((n : ℝ) - 1 : ℝ) : EReal) := by push_cast; rfl
  rw [e]
  unfold Ideal.fptosi rw'
  rw [Ideal.toIntClamped_coe, hn]
  have e2 : (if (0 : ℝ) ≤ (n : ℝ) - 1 then ⌊(n : ℝ) - 1⌋ else ⌈(n : ℝ) - 1⌉) = (n : ℤ) - 1 := by
    have : ((n : ℝ) - 1) = (((n : ℤ) - 1 : ℤ) : ℝ) := by push_cast; rfl
    rw [this, Int.floor_intCast, Int.ceil_intCast, ite_self]
  rw [e2]
  apply BitVec.eq_of_toInt_eq
  rw [← hn, show BitVec.ofNat 32 (rk (wd E) t) + 4294967295#32 = rw' (wd E) t from rfl, rw_toInt ht, hn, BitVec.toInt_ofInt]
  rw [Int.bmod_eq_of_le] <;> omega

end Cert.Value
-- ==== Proof.Value.Rows.lean ====
module

public import proofs.«01_k».proof.Proof.KernelIdeal.Body
public import proofs.«01_k».proof.Proof.Value.Ranks

/-! # The rows gathered and the sum of the slots

The kernel gathers each device's rows, multiplies them by its experts' weights, and each device
picks its tokens' rows out of all slots. Each of these is read here at one entry. -/

@[expose] public section

noncomputable section

set_option maxRecDepth 16384

namespace Cert.Value

open Cert.KernelIdeal Cert.KernelIdeal.Gen Cert.KernelIdeal.Ring
open Idealize.ShloMosaic
variable (X : S2048x512.Idx → EReal) (E : S2048x1.Idx → BitVec 32) (W : S4x512x1024.Idx → EReal)

/-- An expert's weights among the device's four. -/
theorem wK_at (k : Fin 4) (d : Fin 512) (h : Fin 1024) : wK (F := Ideal) W k (ix3 0 d h) = W (ix3 k d h) := by
  unfold wK
  show W _ = _
  congr 1
  funext a
  match a with
  | ⟨0, _⟩ => exact Fin.ext (show k.val + 1 * 0 = k.val by omega)
  | ⟨1, _⟩ => exact Fin.ext (show 0 + 1 * d.val = d.val by omega)
  | ⟨2, _⟩ => exact Fin.ext (show 0 + 1 * h.val = h.val by omega)

/-- A sub-block's entry. -/
theorem subV_at (c : Dev nD) (k : Fin 4) (p : Fin 32) (h : Fin 1024) :
    subV (F := Ideal) X E W c k (ix2 p h)
      = ∑ d : Fin 512, xgV (F := Ideal) X E c (ix2 ⟨32 * k.val + p.val, by omega⟩ d) * W (ix3 k d h) := by
  pointwise [subV, dot_S32x512_S512x1024_S32x1024_1_0_0_1_n_n]
  exact Finset.sum_congr rfl fun d _ => congrArg _ (wK_at W k d h)

/-- An entry of a slot. -/
theorem GT_at (X : Dev nD → S2048x512.Idx → EReal) (E : Dev nD → S2048x1.Idx → BitVec 32) (W : Dev nD → S4x512x1024.Idx → EReal)
    (q : Fin 16) (p : Fin 128) (h : Fin 1024) :
    GT (F := Ideal) X E W (ix3 q p h)
      = ∑ d : Fin 512, xgV (F := Ideal) (X q) (E q) q (ix2 p d) * W q (ix3 ⟨p.val / 32, by omega⟩ d h) := by
  have h1 := subV_at (X q) (E q) (W q) q ⟨p.val / 32, by omega⟩ ⟨p.val % 32, by omega⟩ h
  refine Eq.trans ?_ (h1.trans ?_)
  · unfold GT
    congr 1
    funext a
    match a with
    | ⟨0, _⟩ => rfl
    | ⟨1, _⟩ => rfl
  · refine Finset.sum_congr rfl fun d _ => ?_
    congr 3
    exact Fin.ext (Nat.div_add_mod p.val 32)

/-- The word of the row of device `q`'s slot that token `t` fills. -/
def srow (q : ℕ) (w : ℕ → BitVec 32) (t : ℕ) : BitVec 32 :=
  Scalar.select (IntOp.andi (IntOp.cmpi .slt (rw' w t) 25#32) (IntOp.cmpi .eq (fdiv 4#32 (w t)) (BitVec.ofNat 32 q)))
    (IntOp.addi (IntOp.muli (fmod 4#32 (w t)) 32#32) (rw' w t)) 4294967295#32

/-- The word of the row of all slots that token `t` reads. -/
def scol (w : ℕ → BitVec 32) (t : ℕ) : BitVec 32 :=
  Scalar.select (IntOp.cmpi .slt (rw' w t) 25#32)
    (IntOp.addi (IntOp.addi (IntOp.muli (fdiv 4#32 (w t)) 128#32) (IntOp.muli (fmod 4#32 (w t)) 32#32)) (rw' w t)) 4294967295#32

/-- The device number the kernel computes is that of the device. -/
theorem myW_eq (q : Fin 16) : myW q = BitVec.ofNat 32 q.val := by revert q; decide

/-- A gathered row. -/
theorem xgV_at (q : Fin 16) (p : Fin 128) (d : Fin 512) :
    xgV (F := Ideal) X E q (ix2 p d) = ∑ t : Fin 2048, (if srow q (wd E) t = BitVec.ofNat 32 p then (1 : EReal) else 0) * X (ix2 t d) := by
  pointwise [xgV, k0_pay61, dot_S2048x128_S2048x512_S128x512_0_0_1_1_n_n, k0_pay56, k0_pay57, k0_pay58, k0_pay59, k0_pay60]
  refine Finset.sum_congr rfl fun t _ => ?_
  congr 1
  rw [bit_cast]
  have hp := place_word E t
  have hw := wd_of E t
  unfold srow fdiv fmod
  rw [← hp, hw, ← myW_eq]
  rfl

/-- A device's own words; -/
theorem off5_at (E' : S2048x1.Idx → BitVec 32) (c : Fin 16) (i : Fin 128) :
    eM.view.readAt (Elt Ideal) (Rect.unit (s := S2048x1) (k0_off5 c) S128x1.size (k0_off5_inb c)).toLoadRect E' (ix2 i 0)
      = E' (ix2 ⟨128 * c.val + i.val, by omega⟩ 0) := by
  show E' _ = _
  congr 1
  funext a
  have h0 : k0_off5 c 0 = 128 * c.val := congrFun (k0_off5_eq c) 0
  have h1 : k0_off5 c 1 = 0 := congrFun (k0_off5_eq c) 1
  match a with
  | ⟨0, _⟩ => exact Fin.ext (show k0_off5 c 0 + 1 * i.val = _ by rw [h0]; show _ = 128 * c.val + i.val; omega)
  | ⟨1, _⟩ => exact Fin.ext (show k0_off5 c 1 + 1 * 0 = 0 by rw [h1])

/-- a device's own places. -/
theorem off5_at' (E' : S2048x1.Idx → EReal) (c : Fin 16) (i : Fin 128) :
    rkM.view.readAt (Elt Ideal) (Rect.unit (s := S2048x1) (k0_off5 c) S128x1.size (k0_off5_inb c)).toLoadRect E' (ix2 i 0)
      = E' (ix2 ⟨128 * c.val + i.val, by omega⟩ 0) := by
  show E' _ = _
  congr 1
  funext a
  have h0 : k0_off5 c 0 = 128 * c.val := congrFun (k0_off5_eq c) 0
  have h1 : k0_off5 c 1 = 0 := congrFun (k0_off5_eq c) 1
  match a with
  | ⟨0, _⟩ => exact Fin.ext (show k0_off5 c 0 + 1 * i.val = _ by rw [h0]; show _ = 128 * c.val + i.val; omega)
  | ⟨1, _⟩ => exact Fin.ext (show k0_off5 c 1 + 1 * 0 = 0 by rw [h1])

/-- A selector. -/
theorem selT_at (c : Fin 16) (i : Fin 128) (n : Fin 2048) :
    selT (F := Ideal) E c (ix2 i n) = if scol (wd E) (128 * c.val + i.val) = BitVec.ofNat 32 n then (1 : EReal) else 0 := by
  have hp : _ = rw' (wd E) (128 * c.val + i.val) := place_word E ⟨128 * c.val + i.val, by omega⟩
  have hw : wd E (128 * c.val + i.val) = _ := wd_of E ⟨128 * c.val + i.val, by omega⟩
  pointwise [selT, k0_pay69, k0_pay68, k0_pay67, k0_pay66]
  rw [bit_cast]
  unfold scol fdiv fmod
  rw [off5_at, off5_at', ← hw, ← hp]
  rfl

/-- Selectors times a slot. -/
theorem mm_at (A : S128x128.Idx → EReal) (B : S1x128x1024.Idx → EReal) (i : Fin 128) (h : Fin 1024) :
    mm (F := Ideal) A B (ix2 i h) = ∑ p : Fin 128, A (ix2 i p) * B (ix3 0 p h) := by
  pointwise [mm, dot_S128x128_S128x1024_S128x1024_1_0_0_1_n_n]

/-- The part of device `q`'s slot in a result. -/
def part (S : S128x2048.Idx → EReal) (G : S16x128x1024.Idx → EReal) (i : Fin 128) (h : Fin 1024) (q : ℕ) : EReal :=
  ∑ p : Fin 128, S (ix2 i ⟨128 * (q % 16) + p.val, by omega⟩) * G (ix3 ⟨q % 16, Nat.mod_lt _ (by decide)⟩ p h)

variable (S : S128x2048.Idx → EReal) (G : S16x128x1024.Idx → EReal)

/-- Columns of the selectors times the slot they belong to. -/
theorem mm_part {o6 : Fin 2 → ℕ} {o7 : Fin 3 → ℕ} (h6) (h7) (q : ℕ) (hq : q < 16) (e6 : o6 = ![0, 128 * q]) (e7 : o7 = ![q, 0, 0]) (i : Fin 128) (h : Fin 1024) :
    mm (F := Ideal) (selV o6 h6 S) (slotV o7 h7 G) (ix2 i h) = part S G i h q := by
  subst e6 e7
  rw [mm_at]
  unfold part
  refine Finset.sum_congr rfl fun p _ => ?_
  have hm := Nat.mod_eq_of_lt hq
  congr 1
  · show S _ = _
    congr 1
    funext a
    match a with
    | ⟨0, _⟩ => exact Fin.ext (show 0 + 1 * i.val = i.val by omega)
    | ⟨1, _⟩ => exact Fin.ext (show 128 * q + 1 * p.val = 128 * (q % 16) + p.val by omega)
  · show G _ = _
    congr 1
    funext a
    match a with
    | ⟨0, _⟩ => exact Fin.ext (show q + 1 * 0 = q % 16 by omega)
    | ⟨1, _⟩ => exact Fin.ext (show 0 + 1 * p.val = p.val by omega)
    | ⟨2, _⟩ => exact Fin.ext (show 0 + 1 * h.val = h.val by omega)

/-- The device's own slot; -/
theorem term0_at (c : Fin 16) (i : Fin 128) (h : Fin 1024) : term0 (F := Ideal) c S G (ix2 i h) = part S G i h c.val :=
  mm_part S G _ _ _ c.isLt (k0_off6_eq c) (k0_off7_eq c) i h
/-- the slots met from the left; -/
theorem termL_at (c : Fin 16) (k : Fin 8) (i : Fin 128) (h : Fin 1024) :
    termL (F := Ideal) c S G k (ix2 i h) = part S G i h ((c.val + 15 - k.val) % 16) :=
  mm_part S G _ _ _ (Nat.mod_lt _ (by decide)) (k0_off24_eq c k) (k0_off25_eq c k) i h
/-- the slots met from the right. -/
theorem termR_at (c : Fin 16) (k : Fin 7) (i : Fin 128) (h : Fin 1024) :
    termR (F := Ideal) c S G k (ix2 i h) = part S G i h ((c.val + k.val + 1) % 16) :=
  mm_part S G _ _ _ (Nat.mod_lt _ (by decide)) (k0_off26_eq c k) (k0_off27_eq c k) i h

/-- The sixteen slots in the order a device meets them are all slots. -/
theorem ring_sum (g : ℕ → EReal) (c : Fin 16) :
    g c.val + (∑ k ∈ Finset.range 7, (g ((c.val + 15 - k) % 16) + g ((c.val + k + 1) % 16))) + g ((c.val + 15 - 7) % 16)
      = ∑ q ∈ Finset.range 16, g q := by
  fin_cases c <;>
    simp only [Finset.sum_range_succ, Finset.sum_range_zero, zero_add, Nat.reduceAdd, Nat.reduceSub, Nat.reduceMod, Nat.add_zero] <;>
    abel

/-- The sum after a number of hops. -/
theorem acc_at (c : Fin 16) (i : Fin 128) (h : Fin 1024) (n : ℕ) (hn : n ≤ 7) :
    acc (F := Ideal) c S G n (ix2 i h)
      = part S G i h c.val + ∑ k ∈ Finset.range n, (part S G i h ((c.val + 15 - k) % 16) + part S G i h ((c.val + k + 1) % 16)) := by
  induction n with
  | zero =>
    rw [Finset.sum_range_zero, add_zero, ← term0_at]
    pointwise [acc]
  | succ n ih =>
    have hm : n % 7 = n := Nat.mod_eq_of_lt (by omega)
    have hL := termL_at S G c ⟨n % 7, by omega⟩ i h
    have hR := termR_at S G c ⟨n % 7, by omega⟩ i h
    rw [Finset.sum_range_succ, ← add_assoc (part S G i h c.val), ← ih (by omega)]
    simp only [hm] at hL hR
    rw [← hL, ← hR, ← add_assoc]
    simp only [acc, hm]
    rfl

/-- A result is the sum over all slots. -/
theorem outT_at (c : Fin 16) (i : Fin 128) (h : Fin 1024) :
    outT (F := Ideal) c S G (ix2 i h) = ∑ q ∈ Finset.range 16, part S G i h q := by
  have h7 : termL (F := Ideal) c S G 7 (ix2 i h) = part S G i h ((c.val + 15 - 7) % 16) := termL_at S G c 7 i h
  rw [← ring_sum _ c, ← acc_at S G c i h 7 le_rfl, ← h7]
  rfl

end Cert.Value
-- ==== Proof.Value.Routing.lean ====
module

public import proofs.«01_k».proof.Proof.Value.Rows

/-! # What a token reads

A kept token's row is gathered into one row of one device's slot, and the token reads just that
row; any other token reads nothing. -/

@[expose] public section

noncomputable section

set_option maxRecDepth 16384

namespace Cert.Value

open Cert.KernelIdeal Cert.KernelIdeal.Gen Cert.KernelIdeal.Ring
open Idealize.ShloMosaic

variable {w : ℕ → BitVec 32} {t : ℕ}

/-- A token is kept when its place is among the first 25. -/
theorem kept_iff (ht : t < 2048) : IntOp.cmpi .slt (rw' w t) 25#32 = if rk w t ≤ 25 then 1#1 else 0#1 := by
  show BitVec.ofBool ((rw' w t).slt 25#32) = _
  rw [BitVec.slt_eq_decide, rw_toInt ht, show (25#32 : BitVec 32).toInt = 25 from by decide]
  by_cases h : rk w t ≤ 25
  · rw [if_pos h, decide_eq_true (by omega)]; rfl
  · rw [if_neg h, decide_eq_false (by omega)]; rfl

/-- The word of a place of a token that chose an expert. -/
theorem rw_pos (h : 1 ≤ rk w t) : rw' w t = BitVec.ofNat 32 (rk w t - 1) := by
  obtain ⟨k, hk⟩ := Nat.exists_eq_add_of_le' h
  unfold rw'
  rw [hk, Nat.add_sub_cancel, BitVec.ofNat_add, BitVec.add_assoc,
    show BitVec.ofNat 32 1 + 4294967295#32 = 0#32 from by decide, BitVec.add_zero]

/-- The row a kept token fills; -/
theorem srow_of (ht : t < 2048) {e : Fin 64} (he : w t = BitVec.ofNat 32 e) (hk : rk w t ≤ 25) :
    srow (e.val / 4) w t = BitVec.ofNat 32 (32 * (e.val % 4) + (rk w t - 1)) := by
  have hpos := rk_pos e.isLt he
  unfold srow
  rw [kept_iff ht, if_pos hk, he, fdiv_4, fmod_4]
  have h1 : IntOp.cmpi .eq (BitVec.ofNat 32 (e.val / 4)) (BitVec.ofNat 32 (e.val / 4)) = 1#1 := by
    show BitVec.ofBool (_ == _) = _
    rw [beq_self_eq_true]; rfl
  rw [h1]
  show BitVec.ofNat 32 (e.val % 4) * BitVec.ofNat 32 32 + rw' w t = _
  rw [rw_pos hpos, ← BitVec.ofNat_mul, ← BitVec.ofNat_add, Nat.mul_comm]

/-- and nothing else fills a row. -/
theorem srow_only (ht : t < 2048) {q p : ℕ} (hq : q < 16) (hp : p < 128) (h : srow q w t = BitVec.ofNat 32 p) :
    ∃ e : Fin 64, w t = BitVec.ofNat 32 e ∧ e.val / 4 = q ∧ 1 ≤ rk w t ∧ rk w t ≤ 25 ∧ p = 32 * (e.val % 4) + (rk w t - 1) := by
  have hneg : (4294967295#32 : BitVec 32) ≠ BitVec.ofNat 32 p := fun h => by
    have := congrArg BitVec.toNat h
    rw [BitVec.toNat_ofNat, BitVec.toNat_ofNat] at this
    omega
  by_cases hk : rk w t ≤ 25
  · by_cases hf : fdiv 4#32 (w t) = BitVec.ofNat 32 q
    · obtain ⟨e, he⟩ := expert_of_fdiv hq hf
      have hqe : e.val / 4 = q := word_inj (by omega) (by omega) (by rw [← fdiv_4, ← he, hf])
      refine ⟨e, he, hqe, rk_pos e.isLt he, hk, ?_⟩
      rw [← hqe, srow_of ht he hk] at h
      exact (word_inj (by omega) (by omega) h).symm
    · exfalso
      unfold srow at h
      have h0 : IntOp.cmpi .eq (fdiv 4#32 (w t)) (BitVec.ofNat 32 q) = 0#1 := by
        show BitVec.ofBool (_ == _) = _
        rw [beq_eq_false_iff_ne.mpr hf]; rfl
      rw [kept_iff ht, if_pos hk, h0] at h
      exact hneg h
  · exfalso
    unfold srow at h
    rw [kept_iff ht, if_neg hk] at h
    unfold Scalar.select at h
    rw [if_neg (show ¬ IntOp.andi 0#1 _ = 1 from fun h' => by
      have : IntOp.andi 0#1 (IntOp.cmpi .eq (fdiv 4#32 (w t)) (BitVec.ofNat 32 q)) = 0#1 := BitVec.zero_and
      rw [this] at h'
      exact absurd h' (by decide))] at h
    exact hneg h

/-- The row a kept token reads; -/
theorem scol_of (ht : t < 2048) {e : Fin 64} (he : w t = BitVec.ofNat 32 e) (hk : rk w t ≤ 25) :
    scol w t = BitVec.ofNat 32 (128 * (e.val / 4) + (32 * (e.val % 4) + (rk w t - 1))) := by
  have hpos := rk_pos e.isLt he
  unfold scol
  rw [kept_iff ht, if_pos hk, he, fdiv_4, fmod_4]
  show BitVec.ofNat 32 (e.val / 4) * BitVec.ofNat 32 128 + BitVec.ofNat 32 (e.val % 4) * BitVec.ofNat 32 32 + rw' w t = _
  rw [rw_pos hpos, ← BitVec.ofNat_mul, ← BitVec.ofNat_mul, ← BitVec.ofNat_add, ← BitVec.ofNat_add, Nat.mul_comm _ 128, Nat.mul_comm _ 32,
    Nat.add_assoc]

/-- and any other token reads a row that nothing fills. -/
theorem scol_other (ht : t < 2048) (hn : ¬ ∃ e : Fin 64, w t = BitVec.ofNat 32 e ∧ rk w t ≤ 25) {n : ℕ} (hlt : n < 2048)
    (h : scol w t = BitVec.ofNat 32 n) : n % 32 = 31 := by
  have hneg : (4294967295#32 : BitVec 32) ≠ BitVec.ofNat 32 n := fun h => by
    have := congrArg BitVec.toNat h
    rw [BitVec.toNat_ofNat, BitVec.toNat_ofNat] at this
    omega
  unfold scol at h
  by_cases hk : rk w t ≤ 25
  · have h0 : rk w t = 0 := rk_none fun e he h' => hn ⟨⟨e, he⟩, h', hk⟩
    rw [kept_iff ht, if_pos hk] at h
    unfold rw' at h
    rw [h0] at h
    have h : fdiv 4#32 (w t) * 128#32 + fmod 4#32 (w t) * 32#32 + (BitVec.ofNat 32 0 + 4294967295#32) = BitVec.ofNat 32 n := h
    exact row_minus hlt h
  · rw [kept_iff ht, if_neg hk] at h
    exact absurd h hneg

variable (X : S2048x512.Idx → EReal) (E : S2048x1.Idx → BitVec 32)

/-- A kept token's row is gathered; -/
theorem xgV_of {e : Fin 64} (T : Fin 2048) (he : wd E T = BitVec.ofNat 32 e) (hk : rk (wd E) T ≤ 25) (q : Fin 16) (p : Fin 128)
    (hq : q.val = e.val / 4) (hp : p.val = 32 * (e.val % 4) + (rk (wd E) T - 1)) (d : Fin 512) :
    xgV (F := Ideal) X E q (ix2 p d) = X (ix2 T d) := by
  rw [xgV_at, Finset.sum_eq_single T]
  · rw [if_pos (by rw [hq, hp]; exact srow_of T.isLt he hk), one_mul]
  · intro u _ hne
    rw [if_neg, zero_mul]
    intro h
    obtain ⟨e', he', hq', h1, h25, hp'⟩ := srow_only u.isLt q.isLt p.isLt h
    have hpos := rk_pos e.isLt he
    have hee : e' = e := Fin.ext (by omega)
    subst hee
    exact hne (Fin.ext (rk_inj e'.isLt he' he (by omega)))
  · intro h
    exact absurd (Finset.mem_univ _) h

/-- the other rows are zero. -/
theorem xgV_zero (q : Fin 16) (p : Fin 128) (hp : p.val % 32 = 31) (d : Fin 512) : xgV (F := Ideal) X E q (ix2 p d) = 0 := by
  rw [xgV_at]
  refine Finset.sum_eq_zero fun u _ => ?_
  rw [if_neg, zero_mul]
  intro h
  obtain ⟨e', he', hq', h1, h25, hp'⟩ := srow_only u.isLt q.isLt p.isLt h
  omega

/-- The result of the kernel at a token and a column. -/
def out (W : Fin 16 → S4x512x1024.Idx → EReal) (T : Fin 2048) (h : Fin 1024) : EReal :=
  ∑ e : Fin 64, if wd E T = BitVec.ofNat 32 e ∧ cnt (wd E) e (T + 1) ≤ 25 then
    ∑ d : Fin 512, X (ix2 T d) * W ⟨e.val / 4, by omega⟩ (ix3 ⟨e.val % 4, by omega⟩ d h) else 0

/-- A sum over all rows of all slots picks the one row a word names; -/
theorem pick_one (col : BitVec 32) (g : Fin 16 → Fin 128 → EReal) (q : Fin 16) (p : Fin 128)
    (h : col = BitVec.ofNat 32 (128 * q.val + p.val)) :
    ∑ a ∈ Finset.range 16, ∑ b : Fin 128,
      (if col = BitVec.ofNat 32 (128 * (a % 16) + b.val) then (1 : EReal) else 0) * g ⟨a % 16, Nat.mod_lt _ (by decide)⟩ b = g q p := by
  have hql := q.isLt
  rw [Finset.sum_eq_single q.val, Finset.sum_eq_single p]
  · have hm : q.val % 16 = q.val := Nat.mod_eq_of_lt hql
    simp only [hm]
    rw [if_pos h, one_mul]
  · intro b _ hne
    rw [if_neg, zero_mul]
    intro hh
    have := word_inj (by omega) (by omega) (h.symm.trans hh)
    exact hne (Fin.ext (by omega))
  · intro hh
    exact absurd (Finset.mem_univ _) hh
  · intro a ha hne
    have ha := Finset.mem_range.mp ha
    refine Finset.sum_eq_zero fun b _ => ?_
    rw [if_neg, zero_mul]
    intro hh
    have := word_inj (by omega) (by omega) (h.symm.trans hh)
    omega
  · intro hh
    exact absurd (Finset.mem_range.mpr hql) hh

/-- and is zero when any row it names is. -/
theorem pick_none (col : BitVec 32) (g : Fin 16 → Fin 128 → EReal)
    (h : ∀ q p, col = BitVec.ofNat 32 (128 * q.val + p.val) → g q p = 0) :
    ∑ a ∈ Finset.range 16, ∑ b : Fin 128,
      (if col = BitVec.ofNat 32 (128 * (a % 16) + b.val) then (1 : EReal) else 0) * g ⟨a % 16, Nat.mod_lt _ (by decide)⟩ b = 0 := by
  refine Finset.sum_eq_zero fun a _ => Finset.sum_eq_zero fun b _ => ?_
  by_cases hh : col = BitVec.ofNat 32 (128 * (a % 16) + b.val)
  · rw [h ⟨a % 16, Nat.mod_lt _ (by decide)⟩ b hh, mul_zero]
  · rw [if_neg hh, zero_mul]

/-- The rows of the slots, at a column. -/
def slotG (W : Fin 16 → S4x512x1024.Idx → EReal) (h : Fin 1024) (q : Fin 16) (p : Fin 128) : EReal :=
  ∑ d : Fin 512, xgV (F := Ideal) X E q (ix2 p d) * W q (ix3 ⟨p.val / 32, by omega⟩ d h)

/-- The kernel's result on device `c`. -/
theorem kernel_at (W : Fin 16 → S4x512x1024.Idx → EReal) (c : Fin 16) (i : Fin 128) (h : Fin 1024) :
    @Eq EReal (outT (F := Ideal) c (selT E c) (GT (fun _ => X) (fun _ => E) W) (ix2 i h)) (out X E W ⟨128 * c.val + i.val, by omega⟩ h) := by
  refine Eq.trans (α := EReal) (outT_at _ _ c i h) ?_
  have hstep : ∑ q ∈ Finset.range 16, part (selT (F := Ideal) E c) (GT (F := Ideal) (fun _ => X) (fun _ => E) W) i h q
      = ∑ a ∈ Finset.range 16, ∑ b : Fin 128, (if scol (wd E) (128 * c.val + i.val) = BitVec.ofNat 32 (128 * (a % 16) + b.val) then (1 : EReal) else 0)
          * slotG X E W h ⟨a % 16, Nat.mod_lt _ (by decide)⟩ b := by
    refine Finset.sum_congr rfl fun a _ => Finset.sum_congr rfl fun b _ => ?_
    exact congrArg₂ (fun x y : EReal => x * y) (selT_at E c i _) (GT_at (fun _ => X) (fun _ => E) W _ b h)
  rw [hstep]
  clear hstep
  generalize hT : (⟨128 * c.val + i.val, by omega⟩ : Fin 2048) = T
  have hTv : 128 * c.val + i.val = T.val := by rw [← hT]
  rw [hTv]
  by_cases hx : ∃ e : Fin 64, wd E T = BitVec.ofNat 32 e ∧ rk (wd E) T ≤ 25
  · obtain ⟨e, he, hk⟩ := hx
    have hcol := scol_of T.isLt he hk
    have hpos := rk_pos e.isLt he
    have hcnt := rk_of e.isLt he
    have hel := e.isLt
    rw [pick_one _ _ ⟨e.val / 4, by omega⟩ ⟨32 * (e.val % 4) + (rk (wd E) T - 1), by omega⟩ hcol]
    unfold out slotG
    rw [Finset.sum_eq_single e]
    · rw [if_pos ⟨he, hcnt ▸ hk⟩]
      refine Finset.sum_congr rfl fun d _ => ?_
      have hr : (32 * (e.val % 4) + (rk (wd E) T - 1)) / 32 = e.val % 4 := by omega
      rw [xgV_of X E T he hk ⟨e.val / 4, by omega⟩ ⟨32 * (e.val % 4) + (rk (wd E) T - 1), by omega⟩ rfl rfl]
      simp only [hr]
    · intro e' _ hne
      rw [if_neg]
      rintro ⟨h', -⟩
      have := e'.isLt
      exact hne (Fin.ext (word_inj (by omega) (by omega) (h'.symm.trans he)))
    · intro hh
      exact absurd (Finset.mem_univ _) hh
  · rw [pick_none]
    · refine (Finset.sum_eq_zero fun e _ => ?_).symm
      rw [if_neg]
      rintro ⟨he, hk⟩
      exact hx ⟨e, he, by rw [rk_of e.isLt he]; exact hk⟩
    · intro q p hh
      have h31 := scol_other T.isLt hx (by omega) hh
      unfold slotG
      refine Finset.sum_eq_zero fun d _ => ?_
      rw [xgV_zero X E q p (by omega), zero_mul]

end Cert.Value
-- ==== Proof.Value.Reference.lean ====
module

public import proofs.«01_k».proof.Proof.Gen.ReferenceIdeal.Run
public import proofs.«01_k».proof.Proof.Value.Ranks
public import Idealize.ShloMosaic.Lib.Routing.OpsOne

/-! # The reference's result at one entry -/

@[expose] public section

noncomputable section

set_option maxRecDepth 16384

namespace Cert.Value.Reference

open Cert.ReferenceIdeal Cert.ReferenceIdeal.Gen
open Idealize.ShloMosaic

/-- The one-hot rows of the tokens' experts; -/
def chosen (e : IVec S2048x1 32) : IVec S2048x64 32 :=
  extui 32 (cmpi .eq (broadcastInDim S2048x64 ![0, 1] bcast_S2048x1_S2048x64_0_1 (broadcastInDim S2048x1 ![0] bcast_S2048_S2048x1_0 (shapeCast _ e shapeCasts_S2048x1_S2048))) (broadcastInDim S2048x64 ![0, 1] bcast_S1x64_S2048x64_0_1 (broadcastInDim S1x64 ![1] bcast_S64_S1x64_1 (iotaInDim S64 32 0)))) natLt_1_32

/-- their running sums; -/
def running (e : IVec S2048x1 32) : IVec S2048x64 32 :=
  Host.reduceWindow IntOp.addi ![2048, 1] ![1, 1] ![2047, 0] ![0, 0] (chosen e) (broadcastInDim S_ ![] bcast_S_S_ (constantI S_ 32 0#32)) reduceWindows_S2048x64_S2048x64_w2048s1p2047_0_w1s1p0_0 h_S_

/-- the reference's result. -/
def result (x : FVec Ideal S2048x512 .bf16) (e : IVec S2048x1 32) (w : FVec Ideal S64x512x1024 .bf16) : FVec Ideal S2048x1024 .f32 :=
  Host.reduceAdd (select (broadcastInDim S2048x64x1024 ![0, 1, 2] bcast_S2048x64x1_S2048x64x1024_0_1_2 (broadcastInDim S2048x64x1 ![0, 1] bcast_S2048x64_S2048x64x1_0_1 (andi (cmpi .eq (chosen e) (broadcastInDim S2048x64 ![] bcast_S_S2048x64 (constantI S_ 32 1#32))) (cmpi .sle (running e) (broadcastInDim S2048x64 ![] bcast_S_S2048x64 (constantI S_ 32 25#32)))))) (Host.dotGeneral dot_S2048x512_S64x512x1024_S2048x64x1024_1_1_0_02_n_n none (extf .f32 x bitsLt_bf16_f32) (extf .f32 w bitsLt_bf16_f32)) (broadcastInDim S2048x64x1024 ![] bcast_S_S2048x64x1024 (id (constant S_ .f32 0x00000000#32)))) (constant S_ .f32 0x00000000#32) reducesTo_S2048x64x1024_S2048x1024_d1 h_S_

/-- The one-hot rows; -/
theorem chosen_at (e : IVec S2048x1 32) (t : Fin 2048) (k : Fin 64) : chosen e (ix2 t k) = BitVec.ofNat 32 (hot (wd e) k t) := by
  have hw := wd_of e t
  pointwise [chosen]
  show BitVec.setWidth 32 (BitVec.ofBool (e (ix2 t 0) == BitVec.ofNat 32 k.val)) = _
  unfold hot
  rw [hw]
  by_cases h : e (ix2 t 0) = BitVec.ofNat 32 k.val
  · rw [if_pos h, beq_iff_eq.mpr h]; rfl
  · rw [if_neg h, beq_eq_false_iff_ne.mpr h]; rfl

/-- A sum of a list as a sum over a range. -/
theorem sum_list (f : ℕ → ℕ) (n : ℕ) : ((List.range n).map f).sum = ∑ i ∈ Finset.range n, f i := by
  induction n with
  | zero => rw [Finset.sum_range_zero]; rfl
  | succ n ih => rw [List.range_succ, List.map_append, List.sum_append, ih, Finset.sum_range_succ, List.map_singleton, List.sum_singleton]

/-- the running sums; -/
theorem running_at (e : IVec S2048x1 32) (t : Fin 2048) (k : Fin 64) : running e (ix2 t k) = BitVec.ofNat 32 (cnt (wd e) k (t + 1)) := by
  unfold running
  rw [ix2_eq_valueIdx]
  refine (Routing.cumsum_rows (by decide) _ (fun i c => hot (wd e) c i) ?_ _ ?_ _ _ t k).trans ?_
  · intro i c
    exact chosen_at e i c
  · rfl
  · exact congrArg (BitVec.ofNat 32) (sum_list _ _)

/-- the result: the token's row times the weights of the expert it chose, when it is kept. -/
theorem result_at (x : FVec Ideal S2048x512 .bf16) (e : IVec S2048x1 32) (w : FVec Ideal S64x512x1024 .bf16) (t : Fin 2048) (h : Fin 1024) :
    @Eq EReal (result x e w (ix2 t h)) (∑ k : Fin 64, if wd e t = BitVec.ofNat 32 k ∧ cnt (wd e) k (t + 1) ≤ 25 then
      ∑ d : Fin 512, (x (ix2 t d) : EReal) * w (ix3 k d h) else 0) := by
  pointwise [result, dot_S2048x512_S64x512x1024_S2048x64x1024_1_1_0_02_n_n]
  refine Finset.sum_congr rfl fun k _ => ?_
  rw [chosen_at, running_at]
  have hc := cnt_le (w := wd e) k (t + 1)
  have hk : IntOp.andi (IntOp.cmpi .eq (BitVec.ofNat 32 (hot (wd e) k t)) 1#32)
      (IntOp.cmpi .sle (BitVec.ofNat 32 (cnt (wd e) k (t + 1))) 25#32)
        = if wd e t = BitVec.ofNat 32 k ∧ cnt (wd e) k (t + 1) ≤ 25 then 1#1 else 0#1 := by
    have e2 : IntOp.cmpi .sle (BitVec.ofNat 32 (cnt (wd e) k (t + 1))) 25#32 = if cnt (wd e) k (t + 1) ≤ 25 then 1#1 else 0#1 := by
      show BitVec.ofBool ((BitVec.ofNat 32 (cnt (wd e) k (t + 1))).sle 25#32) = _
      rw [BitVec.sle_eq_decide, BitVec.toInt_ofNat', Int.bmod_eq_of_le (by omega) (by omega), show (25#32 : BitVec 32).toInt = 25 from by decide]
      by_cases h : cnt (wd e) k (t + 1) ≤ 25
      · rw [if_pos h, decide_eq_true (by omega)]; rfl
      · rw [if_neg h, decide_eq_false (by omega)]; rfl
    rw [e2]
    unfold hot
    by_cases h1 : wd e t = BitVec.ofNat 32 k <;> by_cases h2 : cnt (wd e) k (t + 1) ≤ 25 <;> simp only [h1, h2, if_true, if_false, and_true, and_false, true_and, false_and] <;> rfl
  rw [hk]
  split
  · rfl
  · show (Ideal.ofBits .f32 0x00000000#32 : EReal) = 0
    pointwise

end Cert.Value.Reference
-- ==== Proof.Value.Final.lean ====
module

public import proofs.«01_k».proof.Proof.KernelIdeal.Launch
public import proofs.«01_k».proof.Proof.Value.Routing
public import proofs.«01_k».proof.Proof.Value.Reference
public import Idealize.ShloMosaic.Lib.Layout

/-! # The two results agree -/

@[expose] public section

noncomputable section

set_option maxRecDepth 16384

namespace Cert.Value

open Cert.KernelIdeal Cert.KernelIdeal.Gen Cert.KernelIdeal.Ring
open Idealize.ShloMosaic Idealize.ShloMosaic.TcCoe

variable (x : S2048x512.Idx → EReal) (e : S2048x1.Idx → BitVec 32) (w : Cert.ReferenceIdeal.S64x512x1024.Idx → EReal)

/-- A device's block of the weights holds its four experts'. -/
theorem block_weights (q : Fin 16) (k : Fin 4) (d : Fin 512) (h : Fin 1024) :
    Layout.block ⟨3, ![4, 512, 1024]⟩ ⟨3, ![64, 512, 1024]⟩ 0 16 q w (by decide) (ix3 k d h) = w (ix3 ⟨4 * q.val + k.val, by omega⟩ d h) := by
  show w _ = _
  congr 1
  funext a
  match a with
  | ⟨0, _⟩ => exact Fin.ext (show q.val * 4 + k.val = 4 * q.val + k.val by omega)
  | ⟨1, _⟩ => rfl
  | ⟨2, _⟩ => rfl

/-- The kernel's sum is the reference's. -/
theorem out_eq (T : Fin 2048) (h : Fin 1024) :
    out x e (fun q => Layout.block ⟨3, ![4, 512, 1024]⟩ ⟨3, ![64, 512, 1024]⟩ 0 16 q w (by decide)) T h
      = ∑ k : Fin 64, if wd e T = BitVec.ofNat 32 k ∧ cnt (wd e) k (T + 1) ≤ 25 then ∑ d : Fin 512, x (ix2 T d) * w (ix3 k d h) else 0 := by
  unfold out
  refine Finset.sum_congr rfl fun k _ => if_congr Iff.rfl (Finset.sum_congr rfl fun d _ => ?_) rfl
  have hb := block_weights w ⟨k.val / 4, by omega⟩ ⟨k.val % 4, by omega⟩ d h
  have hk : (⟨4 * (k.val / 4) + k.val % 4, by omega⟩ : Fin 64) = k := Fin.ext (Nat.div_add_mod k.val 4)
  exact congrArg (fun y : EReal => x (ix2 T d) * y) (hb.trans (by simp only [hk]))

/-- The kernel's result on device `c` is the `c`-th block of rows of the reference's. -/
theorem agree (m : (ℓ : Loc nD τ sig) → Buf (Elt Ideal) ℓ) (hx : ∀ c, Xc m c = x) (he : ∀ c, Ec m c = e)
    (hw : ∀ c, Wc m c = Layout.block ⟨3, ![4, 512, 1024]⟩ ⟨3, ![64, 512, 1024]⟩ 0 16 c w) (c : Dev nD) :
    outAt m c = Layout.block ⟨2, ![128, 1024]⟩ ⟨2, ![2048, 1024]⟩ 0 16 c (Reference.result x e w) := by
  unfold outAt Gm
  rw [show Xc m = fun _ => x from funext hx, show Ec m = fun _ => e from funext he, show Wc m = _ from funext hw]
  funext (j : S128x1024.Idx)
  rw [eq_ix2 j]
  refine Eq.trans (α := EReal) (kernel_at x e (fun q => Layout.block ⟨3, ![4, 512, 1024]⟩ ⟨3, ![64, 512, 1024]⟩ 0 16 q w) c (j 0) (j 1)) ?_
  refine (out_eq x e w _ _).trans ?_
  refine (Reference.result_at x e w _ _).symm.trans ?_
  show Reference.result x e w _ = Reference.result x e w _
  congr 1
  funext a
  match a with
  | ⟨0, _⟩ => exact Fin.ext (show 128 * c.val + (j 0).val = c.val * 128 + (j 0).val by omega)
  | ⟨1, _⟩ => rfl

end Cert.Value
-- ==== Proof.lean ====
module

public import proofs.«01_k».proof.Defs
public import proofs.«01_k».proof.Proof.Kernel.Launch
public import proofs.«01_k».proof.Proof.KernelIdeal.Launch
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value.Final
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel at the machine's floats: it terminates, its arguments unchanged and every counter at zero. -/
theorem frame_kernel : quiescent_Kernel (hKernel := Cert.Kernel.Gen.facts) := fun m g _ =>
  (θ_run _ _ _).mono (fun _ h => ⟨fun c => (h.1 c).2, h.2⟩) (Cert.Kernel.Ring.run (F := Bits) m g)

/-- The same at the ideal floats. -/
theorem frame_ideal : quiescent_KernelIdeal (hKernelIdeal := Cert.KernelIdeal.Gen.facts) := fun m g _ =>
  (θ_run _ _ _).mono (fun _ h => ⟨fun c => (h.1 c).2, h.2⟩) (Cert.KernelIdeal.Ring.run (F := Ideal) m g)

/-- The reference terminates with its arguments unchanged; it has no semaphore. -/
theorem frame_reference : quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- The kernel's result on device `c` is the `c`-th block of rows of the reference's result. -/
theorem algebraic_ideal : algebraic_KernelIdeal_ReferenceIdeal (hKernelIdeal := Cert.KernelIdeal.Gen.facts) (hReferenceIdeal := Cert.ReferenceIdeal.Gen.facts) :=
  fun m g m' g' _ hag => ⟨_, (θ_run _ _ _).mono (fun _ h c => ⟨(h.1 c).1.trans (Cert.Value.agree _ _ _ m (fun c => (hag c).1) (fun c => (hag c).2.2.1) (fun c => (hag c).2.2.2) c), (h.1 c).2⟩) (Cert.KernelIdeal.Ring.run (F := Ideal) m g),
    (θ_run _ _ _).mono (fun _ h => h 0) (Cert.ReferenceIdeal.Value.run (F := Ideal) m' g')⟩

/-- Everything claimed. -/
theorem claim : Cert.Claim := ⟨Cert.Kernel.Gen.facts, Cert.KernelIdeal.Gen.facts, Cert.ReferenceIdeal.Gen.facts,
  frame_kernel, frame_ideal, frame_reference, trivial, algebraic_ideal⟩

end Cert.Proof

end
